-- ==== Defs.lean ====
def Pre_Combine (m : (ℓ : Loc Cert.Combine.nD Cert.Combine.τ Cert.Combine.sig) → Buf (Elt Bits) ℓ) : Prop :=
  True

def Pre_CombineIdeal (m : (ℓ : Loc Cert.CombineIdeal.nD Cert.CombineIdeal.τ Cert.CombineIdeal.sig) → Buf (Elt Ideal) ℓ) : Prop :=
  True

def Pre_CombineRefIdeal (m : (ℓ : Loc Cert.CombineRefIdeal.nD Cert.CombineRefIdeal.τ Cert.CombineRefIdeal.sig) → Buf (Elt Ideal) ℓ) : Prop :=
  True

def Pre_Exchange (m : (ℓ : Loc Cert.Exchange.nD Cert.Exchange.τ Cert.Exchange.sig) → Buf (Elt Bits) ℓ) : Prop :=
  True

def Pre_ExchangeIdeal (m : (ℓ : Loc Cert.ExchangeIdeal.nD Cert.ExchangeIdeal.τ Cert.ExchangeIdeal.sig) → Buf (Elt Ideal) ℓ) : Prop :=
  True

def Pre_ExchangeIdeal_finite_ExchangeIdeal [hPre_finite_ExchangeIdeal : Cert.Pre_finite_ExchangeIdeal.Facts] (m : (ℓ : Loc Cert.ExchangeIdeal.nD Cert.ExchangeIdeal.τ Cert.ExchangeIdeal.sig) → Buf (Elt Ideal) ℓ) : Prop :=
  ∀ c : Dev Cert.ExchangeIdeal.nD,
    (Cert.Pre_finite_ExchangeIdeal.fn (F := Ideal) (m ((c.tc : Thread Cert.ExchangeIdeal.nD Cert.ExchangeIdeal.τ).loc Cert.ExchangeIdeal.main_arg0)) (m ((c.tc : Thread Cert.ExchangeIdeal.nD Cert.ExchangeIdeal.τ).loc Cert.ExchangeIdeal.main_arg1))) = (fun _ => 1#1)

def Pre_ExchangeRefIdeal (m : (ℓ : Loc Cert.ExchangeRefIdeal.nD Cert.ExchangeRefIdeal.τ Cert.ExchangeRefIdeal.sig) → Buf (Elt Ideal) ℓ) : Prop :=
  True

def Pre_ExchangeRefIdeal_finite_ExchangeRefIdeal [hPre_finite_ExchangeRefIdeal : Cert.Pre_finite_ExchangeRefIdeal.Facts] (m : (ℓ : Loc Cert.ExchangeRefIdeal.nD Cert.ExchangeRefIdeal.τ Cert.ExchangeRefIdeal.sig) → Buf (Elt Ideal) ℓ) : Prop :=
  ∀ c : Dev Cert.ExchangeRefIdeal.nD,
    (Cert.Pre_finite_ExchangeRefIdeal.fn (F := Ideal) (m ((c.tc : Thread Cert.ExchangeRefIdeal.nD Cert.ExchangeRefIdeal.τ).loc Cert.ExchangeRefIdeal.main_arg0)) (m ((c.tc : Thread Cert.ExchangeRefIdeal.nD Cert.ExchangeRefIdeal.τ).loc Cert.ExchangeRefIdeal.main_arg1))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnIdeal_gates [hPre_gates : Cert.Pre_gates.Facts] (m : (ℓ : Loc Cert.FfnIdeal.nD Cert.FfnIdeal.τ Cert.FfnIdeal.sig) → Buf (Elt Ideal) ℓ) : Prop :=
  ∀ c : Dev Cert.FfnIdeal.nD,
    (Cert.Pre_gates.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4))) = (fun _ => 1#1)

def Pre_FfnRefIdeal (m : (ℓ : Loc Cert.FfnRefIdeal.nD Cert.FfnRefIdeal.τ Cert.FfnRefIdeal.sig) → Buf (Elt Ideal) ℓ) : Prop :=
  True

def Pre_FfnRefIdeal_gates [hPre_gates : Cert.Pre_gates.Facts] (m : (ℓ : Loc Cert.FfnRefIdeal.nD Cert.FfnRefIdeal.τ Cert.FfnRefIdeal.sig) → Buf (Elt Ideal) ℓ) : Prop :=
  ∀ c : Dev Cert.FfnRefIdeal.nD,
    (Cert.Pre_gates.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4))) = (fun _ => 1#1)

def quiescent_Combine [hCombine : Cert.Combine.Facts] : Prop :=
  ∀ (m : (ℓ : Loc Cert.Combine.nD Cert.Combine.τ Cert.Combine.sig) → Buf (Elt Bits) ℓ) (g : Dev Cert.Combine.nD → PrngReg), Pre_Combine m →
    θ_run (Cert.Combine.defs (F := Bits)) (onTc (τ := Cert.Combine.τ) (Cert.Combine.main (F := Bits))) ⟨m, fun _ => 0, g⟩ (fun r => (∀ c : Dev Cert.Combine.nD,
      r.2.mem ((c.tc : Thread Cert.Combine.nD Cert.Combine.τ).loc Cert.Combine.main_arg0) = m ((c.tc : Thread Cert.Combine.nD Cert.Combine.τ).loc Cert.Combine.main_arg0)
      ∧ r.2.mem ((c.tc : Thread Cert.Combine.nD Cert.Combine.τ).loc Cert.Combine.main_arg1) = m ((c.tc : Thread Cert.Combine.nD Cert.Combine.τ).loc Cert.Combine.main_arg1))
      ∧ r.2.sem = fun _ => 0)

def quiescent_CombineIdeal [hCombineIdeal : Cert.CombineIdeal.Facts] : Prop :=
  ∀ (m : (ℓ : Loc Cert.CombineIdeal.nD Cert.CombineIdeal.τ Cert.CombineIdeal.sig) → Buf (Elt Ideal) ℓ) (g : Dev Cert.CombineIdeal.nD → PrngReg), Pre_CombineIdeal m →
    θ_run (Cert.CombineIdeal.defs (F := Ideal)) (onTc (τ := Cert.CombineIdeal.τ) (Cert.CombineIdeal.main (F := Ideal))) ⟨m, fun _ => 0, g⟩ (fun r => (∀ c : Dev Cert.CombineIdeal.nD,
      r.2.mem ((c.tc : Thread Cert.CombineIdeal.nD Cert.CombineIdeal.τ).loc Cert.CombineIdeal.main_arg0) = m ((c.tc : Thread Cert.CombineIdeal.nD Cert.CombineIdeal.τ).loc Cert.CombineIdeal.main_arg0)
      ∧ r.2.mem ((c.tc : Thread Cert.CombineIdeal.nD Cert.CombineIdeal.τ).loc Cert.CombineIdeal.main_arg1) = m ((c.tc : Thread Cert.CombineIdeal.nD Cert.CombineIdeal.τ).loc Cert.CombineIdeal.main_arg1))
      ∧ r.2.sem = fun _ => 0)

def quiescent_CombineRefIdeal [hCombineRefIdeal : Cert.CombineRefIdeal.Facts] : Prop :=
  ∀ (m : (ℓ : Loc Cert.CombineRefIdeal.nD Cert.CombineRefIdeal.τ Cert.CombineRefIdeal.sig) → Buf (Elt Ideal) ℓ) (g : Dev Cert.CombineRefIdeal.nD → PrngReg), Pre_CombineRefIdeal m →
    θ_run (Cert.CombineRefIdeal.defs (F := Ideal)) (onTc (τ := Cert.CombineRefIdeal.τ) (Cert.CombineRefIdeal.main (F := Ideal))) ⟨m, fun _ => 0, g⟩ (fun r => (∀ c : Dev Cert.CombineRefIdeal.nD,
      r.2.mem ((c.tc : Thread Cert.CombineRefIdeal.nD Cert.CombineRefIdeal.τ).loc Cert.CombineRefIdeal.main_arg0) = m ((c.tc : Thread Cert.CombineRefIdeal.nD Cert.CombineRefIdeal.τ).loc Cert.CombineRefIdeal.main_arg0)
      ∧ r.2.mem ((c.tc : Thread Cert.CombineRefIdeal.nD Cert.CombineRefIdeal.τ).loc Cert.CombineRefIdeal.main_arg1) = m ((c.tc : Thread Cert.CombineRefIdeal.nD Cert.CombineRefIdeal.τ).loc Cert.CombineRefIdeal.main_arg1))
      ∧ r.2.sem = fun _ => 0)

def quiescent_Exchange [hExchange : Cert.Exchange.Facts] : Prop :=
  ∀ (m : (ℓ : Loc Cert.Exchange.nD Cert.Exchange.τ Cert.Exchange.sig) → Buf (Elt Bits) ℓ) (g : Dev Cert.Exchange.nD → PrngReg), Pre_Exchange m →
    θ_run (Cert.Exchange.defs (F := Bits)) (onTc (τ := Cert.Exchange.τ) (Cert.Exchange.main (F := Bits))) ⟨m, fun _ => 0, g⟩ (fun r => (∀ c : Dev Cert.Exchange.nD,
      r.2.mem ((c.tc : Thread Cert.Exchange.nD Cert.Exchange.τ).loc Cert.Exchange.main_arg0) = m ((c.tc : Thread Cert.Exchange.nD Cert.Exchange.τ).loc Cert.Exchange.main_arg0)
      ∧ r.2.mem ((c.tc : Thread Cert.Exchange.nD Cert.Exchange.τ).loc Cert.Exchange.main_arg1) = m ((c.tc : Thread Cert.Exchange.nD Cert.Exchange.τ).loc Cert.Exchange.main_arg1))
      ∧ r.2.sem = fun _ => 0)

def quiescent_ExchangeIdeal [hExchangeIdeal : Cert.ExchangeIdeal.Facts] : Prop :=
  ∀ (m : (ℓ : Loc Cert.ExchangeIdeal.nD Cert.ExchangeIdeal.τ Cert.ExchangeIdeal.sig) → Buf (Elt Ideal) ℓ) (g : Dev Cert.ExchangeIdeal.nD → PrngReg), Pre_ExchangeIdeal m →
    θ_run (Cert.ExchangeIdeal.defs (F := Ideal)) (onTc (τ := Cert.ExchangeIdeal.τ) (Cert.ExchangeIdeal.main (F := Ideal))) ⟨m, fun _ => 0, g⟩ (fun r => (∀ c : Dev Cert.ExchangeIdeal.nD,
      r.2.mem ((c.tc : Thread Cert.ExchangeIdeal.nD Cert.ExchangeIdeal.τ).loc Cert.ExchangeIdeal.main_arg0) = m ((c.tc : Thread Cert.ExchangeIdeal.nD Cert.ExchangeIdeal.τ).loc Cert.ExchangeIdeal.main_arg0)
      ∧ r.2.mem ((c.tc : Thread Cert.ExchangeIdeal.nD Cert.ExchangeIdeal.τ).loc Cert.ExchangeIdeal.main_arg1) = m ((c.tc : Thread Cert.ExchangeIdeal.nD Cert.ExchangeIdeal.τ).loc Cert.ExchangeIdeal.main_arg1))
      ∧ r.2.sem = fun _ => 0)

def quiescent_ExchangeIdeal_pre_finite_ExchangeIdeal [hExchangeIdeal : Cert.ExchangeIdeal.Facts] [hPre_finite_ExchangeIdeal : Cert.Pre_finite_ExchangeIdeal.Facts] : Prop :=
  ∀ (m : (ℓ : Loc Cert.ExchangeIdeal.nD Cert.ExchangeIdeal.τ Cert.ExchangeIdeal.sig) → Buf (Elt Ideal) ℓ) (g : Dev Cert.ExchangeIdeal.nD → PrngReg), Pre_ExchangeIdeal_finite_ExchangeIdeal m →
    θ_run (Cert.ExchangeIdeal.defs (F := Ideal)) (onTc (τ := Cert.ExchangeIdeal.τ) (Cert.ExchangeIdeal.main (F := Ideal))) ⟨m, fun _ => 0, g⟩ (fun r => (∀ c : Dev Cert.ExchangeIdeal.nD,
      r.2.mem ((c.tc : Thread Cert.ExchangeIdeal.nD Cert.ExchangeIdeal.τ).loc Cert.ExchangeIdeal.main_arg0) = m ((c.tc : Thread Cert.ExchangeIdeal.nD Cert.ExchangeIdeal.τ).loc Cert.ExchangeIdeal.main_arg0)
      ∧ r.2.mem ((c.tc : Thread Cert.ExchangeIdeal.nD Cert.ExchangeIdeal.τ).loc Cert.ExchangeIdeal.main_arg1) = m ((c.tc : Thread Cert.ExchangeIdeal.nD Cert.ExchangeIdeal.τ).loc Cert.ExchangeIdeal.main_arg1))
      ∧ r.2.sem = fun _ => 0)

def quiescent_ExchangeRefIdeal [hExchangeRefIdeal : Cert.ExchangeRefIdeal.Facts] : Prop :=
  ∀ (m : (ℓ : Loc Cert.ExchangeRefIdeal.nD Cert.ExchangeRefIdeal.τ Cert.ExchangeRefIdeal.sig) → Buf (Elt Ideal) ℓ) (g : Dev Cert.ExchangeRefIdeal.nD → PrngReg), Pre_ExchangeRefIdeal m →
    θ_run (Cert.ExchangeRefIdeal.defs (F := Ideal)) (onTc (τ := Cert.ExchangeRefIdeal.τ) (Cert.ExchangeRefIdeal.main (F := Ideal))) ⟨m, fun _ => 0, g⟩ (fun r => (∀ c : Dev Cert.ExchangeRefIdeal.nD,
      r.2.mem ((c.tc : Thread Cert.ExchangeRefIdeal.nD Cert.ExchangeRefIdeal.τ).loc Cert.ExchangeRefIdeal.main_arg0) = m ((c.tc : Thread Cert.ExchangeRefIdeal.nD Cert.ExchangeRefIdeal.τ).loc Cert.ExchangeRefIdeal.main_arg0)
      ∧ r.2.mem ((c.tc : Thread Cert.ExchangeRefIdeal.nD Cert.ExchangeRefIdeal.τ).loc Cert.ExchangeRefIdeal.main_arg1) = m ((c.tc : Thread Cert.ExchangeRefIdeal.nD Cert.ExchangeRefIdeal.τ).loc Cert.ExchangeRefIdeal.main_arg1))
      ∧ r.2.sem = fun _ => 0)

def quiescent_ExchangeRefIdeal_pre_finite_ExchangeRefIdeal [hExchangeRefIdeal : Cert.ExchangeRefIdeal.Facts] [hPre_finite_ExchangeRefIdeal : Cert.Pre_finite_ExchangeRefIdeal.Facts] : Prop :=
  ∀ (m : (ℓ : Loc Cert.ExchangeRefIdeal.nD Cert.ExchangeRefIdeal.τ Cert.ExchangeRefIdeal.sig) → Buf (Elt Ideal) ℓ) (g : Dev Cert.ExchangeRefIdeal.nD → PrngReg), Pre_ExchangeRefIdeal_finite_ExchangeRefIdeal m →
    θ_run (Cert.ExchangeRefIdeal.defs (F := Ideal)) (onTc (τ := Cert.ExchangeRefIdeal.τ) (Cert.ExchangeRefIdeal.main (F := Ideal))) ⟨m, fun _ => 0, g⟩ (fun r => (∀ c : Dev Cert.ExchangeRefIdeal.nD,
      r.2.mem ((c.tc : Thread Cert.ExchangeRefIdeal.nD Cert.ExchangeRefIdeal.τ).loc Cert.ExchangeRefIdeal.main_arg0) = m ((c.tc : Thread Cert.ExchangeRefIdeal.nD Cert.ExchangeRefIdeal.τ).loc Cert.ExchangeRefIdeal.main_arg0)
      ∧ r.2.mem ((c.tc : Thread Cert.ExchangeRefIdeal.nD Cert.ExchangeRefIdeal.τ).loc Cert.ExchangeRefIdeal.main_arg1) = m ((c.tc : Thread Cert.ExchangeRefIdeal.nD Cert.ExchangeRefIdeal.τ).loc Cert.ExchangeRefIdeal.main_arg1))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnIdeal_pre_gates [hFfnIdeal : Cert.FfnIdeal.Facts] [hPre_gates : Cert.Pre_gates.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal_gates m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4))
      ∧ r.2.sem = fun _ => 0)

def quiescent_FfnRefIdeal_pre_gates [hFfnRefIdeal : Cert.FfnRefIdeal.Facts] [hPre_gates : Cert.Pre_gates.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal_gates m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4))
      ∧ r.2.sem = fun _ => 0)

def preserves_Combine_CombineIdeal : Prop :=
  True

def algebraic_CombineIdeal_CombineRefIdeal [hCombineIdeal : Cert.CombineIdeal.Facts] [hCombineRefIdeal : Cert.CombineRefIdeal.Facts] : Prop :=
  ∀ (m : (ℓ : Loc Cert.CombineIdeal.nD Cert.CombineIdeal.τ Cert.CombineIdeal.sig) → Buf (Elt Ideal) ℓ) (g : Dev Cert.CombineIdeal.nD → PrngReg)
    (m' : (ℓ : Loc Cert.CombineRefIdeal.nD Cert.CombineRefIdeal.τ Cert.CombineRefIdeal.sig) → Buf (Elt Ideal) ℓ) (g' : Dev Cert.CombineRefIdeal.nD → PrngReg), Pre_CombineIdeal m →
    (∀ c : Dev Cert.CombineIdeal.nD,
      m ((c.tc : Thread Cert.CombineIdeal.nD Cert.CombineIdeal.τ).loc Cert.CombineIdeal.main_arg0) = Layout.blockN ⟨3, ![8, 320, 1024]⟩ ⟨3, ![16, 320, 1024]⟩ (Layout.meshBlock [2, 2, 2] ![[2], [], []] c) (m' (((0 : Dev Cert.CombineRefIdeal.nD).tc : Thread Cert.CombineRefIdeal.nD Cert.CombineRefIdeal.τ).loc Cert.CombineRefIdeal.main_arg0))
      ∧ m ((c.tc : Thread Cert.CombineIdeal.nD Cert.CombineIdeal.τ).loc Cert.CombineIdeal.main_arg1) = Layout.blockN ⟨2, ![8, 320]⟩ ⟨2, ![16, 320]⟩ (Layout.meshBlock [2, 2, 2] ![[2], []] c) (m' (((0 : Dev Cert.CombineRefIdeal.nD).tc : Thread Cert.CombineRefIdeal.nD Cert.CombineRefIdeal.τ).loc Cert.CombineRefIdeal.main_arg1))) →
    ∃ (v0 : Buf (Elt Ideal) (((0 : Dev Cert.CombineRefIdeal.nD).tc : Thread Cert.CombineRefIdeal.nD Cert.CombineRefIdeal.τ).loc Cert.CombineRefIdeal.main_v4)),
      θ_run (Cert.CombineIdeal.defs (F := Ideal)) (onTc (τ := Cert.CombineIdeal.τ) (Cert.CombineIdeal.main (F := Ideal))) ⟨m, fun _ => 0, g⟩ (fun r => ∀ c : Dev Cert.CombineIdeal.nD,
          r.2.mem ((c.tc : Thread Cert.CombineIdeal.nD Cert.CombineIdeal.τ).loc Cert.CombineIdeal.main_v1) = Layout.blockN ⟨2, ![1024, 1024]⟩ ⟨2, ![2048, 1024]⟩ (Layout.meshBlock [2, 2, 2] ![[2], []] c) v0
          ∧ r.2.mem ((c.tc : Thread Cert.CombineIdeal.nD Cert.CombineIdeal.τ).loc Cert.CombineIdeal.main_arg0) = m ((c.tc : Thread Cert.CombineIdeal.nD Cert.CombineIdeal.τ).loc Cert.CombineIdeal.main_arg0)
          ∧ r.2.mem ((c.tc : Thread Cert.CombineIdeal.nD Cert.CombineIdeal.τ).loc Cert.CombineIdeal.main_arg1) = m ((c.tc : Thread Cert.CombineIdeal.nD Cert.CombineIdeal.τ).loc Cert.CombineIdeal.main_arg1))
      ∧ θ_run (Cert.CombineRefIdeal.defs (F := Ideal)) (onTc (τ := Cert.CombineRefIdeal.τ) (Cert.CombineRefIdeal.main (F := Ideal))) ⟨m', fun _ => 0, g'⟩ (fun r =>
          r.2.mem (((0 : Dev Cert.CombineRefIdeal.nD).tc : Thread Cert.CombineRefIdeal.nD Cert.CombineRefIdeal.τ).loc Cert.CombineRefIdeal.main_v4) = v0
          ∧ r.2.mem (((0 : Dev Cert.CombineRefIdeal.nD).tc : Thread Cert.CombineRefIdeal.nD Cert.CombineRefIdeal.τ).loc Cert.CombineRefIdeal.main_arg0) = m' (((0 : Dev Cert.CombineRefIdeal.nD).tc : Thread Cert.CombineRefIdeal.nD Cert.CombineRefIdeal.τ).loc Cert.CombineRefIdeal.main_arg0)
          ∧ r.2.mem (((0 : Dev Cert.CombineRefIdeal.nD).tc : Thread Cert.CombineRefIdeal.nD Cert.CombineRefIdeal.τ).loc Cert.CombineRefIdeal.main_arg1) = m' (((0 : Dev Cert.CombineRefIdeal.nD).tc : Thread Cert.CombineRefIdeal.nD Cert.CombineRefIdeal.τ).loc Cert.CombineRefIdeal.main_arg1))

def preserves_Exchange_ExchangeIdeal : Prop :=
  IdealRules.named_const.Statement Cert.ExchangeIdeal.κ "mask" .f32 0xF149F2CA#32 ⊥

def algebraic_ExchangeIdeal_ExchangeRefIdeal_pre_finite_ExchangeIdeal [hExchangeIdeal : Cert.ExchangeIdeal.Facts] [hExchangeRefIdeal : Cert.ExchangeRefIdeal.Facts] [hPre_finite_ExchangeIdeal : Cert.Pre_finite_ExchangeIdeal.Facts] : Prop :=
  ∀ (m : (ℓ : Loc Cert.ExchangeIdeal.nD Cert.ExchangeIdeal.τ Cert.ExchangeIdeal.sig) → Buf (Elt Ideal) ℓ) (g : Dev Cert.ExchangeIdeal.nD → PrngReg)
    (m' : (ℓ : Loc Cert.ExchangeRefIdeal.nD Cert.ExchangeRefIdeal.τ Cert.ExchangeRefIdeal.sig) → Buf (Elt Ideal) ℓ) (g' : Dev Cert.ExchangeRefIdeal.nD → PrngReg), Pre_ExchangeIdeal_finite_ExchangeIdeal m →
    (∀ c : Dev Cert.ExchangeIdeal.nD,
      m ((c.tc : Thread Cert.ExchangeIdeal.nD Cert.ExchangeIdeal.τ).loc Cert.ExchangeIdeal.main_arg0) = Layout.blockN ⟨2, ![1024, 1024]⟩ ⟨2, ![2048, 1024]⟩ (Layout.meshBlock [2, 2, 2] ![[2], []] c) (m' (((0 : Dev Cert.ExchangeRefIdeal.nD).tc : Thread Cert.ExchangeRefIdeal.nD Cert.ExchangeRefIdeal.τ).loc Cert.ExchangeRefIdeal.main_arg0))
      ∧ m ((c.tc : Thread Cert.ExchangeIdeal.nD Cert.ExchangeIdeal.τ).loc Cert.ExchangeIdeal.main_arg1) = Layout.blockN ⟨2, ![1024, 8]⟩ ⟨2, ![1024, 16]⟩ (Layout.meshBlock [2, 2, 2] ![[], [2]] c) (m' (((0 : Dev Cert.ExchangeRefIdeal.nD).tc : Thread Cert.ExchangeRefIdeal.nD Cert.ExchangeRefIdeal.τ).loc Cert.ExchangeRefIdeal.main_arg1))) →
    ∃ (v0 : Buf (Elt Ideal) (((0 : Dev Cert.ExchangeRefIdeal.nD).tc : Thread Cert.ExchangeRefIdeal.nD Cert.ExchangeRefIdeal.τ).loc Cert.ExchangeRefIdeal.main_v11)) (v1 : Buf (Elt Ideal) (((0 : Dev Cert.ExchangeRefIdeal.nD).tc : Thread Cert.ExchangeRefIdeal.nD Cert.ExchangeRefIdeal.τ).loc Cert.ExchangeRefIdeal.main_v13)) (v2 : Buf (Elt Ideal) (((0 : Dev Cert.ExchangeRefIdeal.nD).tc : Thread Cert.ExchangeRefIdeal.nD Cert.ExchangeRefIdeal.τ).loc Cert.ExchangeRefIdeal.main_v15)),
      θ_run (Cert.ExchangeIdeal.defs (F := Ideal)) (onTc (τ := Cert.ExchangeIdeal.τ) (Cert.ExchangeIdeal.main (F := Ideal))) ⟨m, fun _ => 0, g⟩ (fun r => ∀ c : Dev Cert.ExchangeIdeal.nD,
          r.2.mem ((c.tc : Thread Cert.ExchangeIdeal.nD Cert.ExchangeIdeal.τ).loc Cert.ExchangeIdeal.main_v1_0) = v0
          ∧ r.2.mem ((c.tc : Thread Cert.ExchangeIdeal.nD Cert.ExchangeIdeal.τ).loc Cert.ExchangeIdeal.main_v1_1) = v1
          ∧ r.2.mem ((c.tc : Thread Cert.ExchangeIdeal.nD Cert.ExchangeIdeal.τ).loc Cert.ExchangeIdeal.main_v1_2) = v2
          ∧ r.2.mem ((c.tc : Thread Cert.ExchangeIdeal.nD Cert.ExchangeIdeal.τ).loc Cert.ExchangeIdeal.main_arg0) = m ((c.tc : Thread Cert.ExchangeIdeal.nD Cert.ExchangeIdeal.τ).loc Cert.ExchangeIdeal.main_arg0)
          ∧ r.2.mem ((c.tc : Thread Cert.ExchangeIdeal.nD Cert.ExchangeIdeal.τ).loc Cert.ExchangeIdeal.main_arg1) = m ((c.tc : Thread Cert.ExchangeIdeal.nD Cert.ExchangeIdeal.τ).loc Cert.ExchangeIdeal.main_arg1))
      ∧ θ_run (Cert.ExchangeRefIdeal.defs (F := Ideal)) (onTc (τ := Cert.ExchangeRefIdeal.τ) (Cert.ExchangeRefIdeal.main (F := Ideal))) ⟨m', fun _ => 0, g'⟩ (fun r =>
          r.2.mem (((0 : Dev Cert.ExchangeRefIdeal.nD).tc : Thread Cert.ExchangeRefIdeal.nD Cert.ExchangeRefIdeal.τ).loc Cert.ExchangeRefIdeal.main_v11) = v0
          ∧ r.2.mem (((0 : Dev Cert.ExchangeRefIdeal.nD).tc : Thread Cert.ExchangeRefIdeal.nD Cert.ExchangeRefIdeal.τ).loc Cert.ExchangeRefIdeal.main_v13) = v1
          ∧ r.2.mem (((0 : Dev Cert.ExchangeRefIdeal.nD).tc : Thread Cert.ExchangeRefIdeal.nD Cert.ExchangeRefIdeal.τ).loc Cert.ExchangeRefIdeal.main_v15) = v2
          ∧ r.2.mem (((0 : Dev Cert.ExchangeRefIdeal.nD).tc : Thread Cert.ExchangeRefIdeal.nD Cert.ExchangeRefIdeal.τ).loc Cert.ExchangeRefIdeal.main_arg0) = m' (((0 : Dev Cert.ExchangeRefIdeal.nD).tc : Thread Cert.ExchangeRefIdeal.nD Cert.ExchangeRefIdeal.τ).loc Cert.ExchangeRefIdeal.main_arg0)
          ∧ r.2.mem (((0 : Dev Cert.ExchangeRefIdeal.nD).tc : Thread Cert.ExchangeRefIdeal.nD Cert.ExchangeRefIdeal.τ).loc Cert.ExchangeRefIdeal.main_arg1) = m' (((0 : Dev Cert.ExchangeRefIdeal.nD).tc : Thread Cert.ExchangeRefIdeal.nD Cert.ExchangeRefIdeal.τ).loc Cert.ExchangeRefIdeal.main_arg1))

def preserves_Ffn_FfnIdeal : Prop :=
  True

def algebraic_FfnIdeal_FfnRefIdeal_pre_gates [hFfnIdeal : Cert.FfnIdeal.Facts] [hFfnRefIdeal : Cert.FfnRefIdeal.Facts] [hPre_gates : Cert.Pre_gates.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal_gates m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)) →
    ∃ (v0 : (c : Dev Cert.FfnIdeal.nD) → Buf (Elt Ideal) ((c.tc : Thread Cert.FfnIdeal.nD Cert.FfnIdeal.τ).loc Cert.FfnIdeal.main_v0)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v0) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v23) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4))

def Claim : Prop :=
  ∃ (hCombine : Cert.Combine.Facts) (hCombineIdeal : Cert.CombineIdeal.Facts) (hCombineRefIdeal : Cert.CombineRefIdeal.Facts) (hExchange : Cert.Exchange.Facts) (hExchangeIdeal : Cert.ExchangeIdeal.Facts) (hExchangeRefIdeal : Cert.ExchangeRefIdeal.Facts) (hFfn : Cert.Ffn.Facts) (hFfnIdeal : Cert.FfnIdeal.Facts) (hFfnRefIdeal : Cert.FfnRefIdeal.Facts) (hPre_finite_ExchangeIdeal : Cert.Pre_finite_ExchangeIdeal.Facts) (hPre_finite_ExchangeRefIdeal : Cert.Pre_finite_ExchangeRefIdeal.Facts) (hPre_gates : Cert.Pre_gates.Facts),
    quiescent_Combine (hCombine := hCombine)
    ∧ quiescent_CombineIdeal (hCombineIdeal := hCombineIdeal)
    ∧ quiescent_CombineRefIdeal (hCombineRefIdeal := hCombineRefIdeal)
    ∧ quiescent_Exchange (hExchange := hExchange)
    ∧ quiescent_ExchangeIdeal (hExchangeIdeal := hExchangeIdeal)
    ∧ quiescent_ExchangeIdeal_pre_finite_ExchangeIdeal (hExchangeIdeal := hExchangeIdeal) (hPre_finite_ExchangeIdeal := hPre_finite_ExchangeIdeal)
    ∧ quiescent_ExchangeRefIdeal (hExchangeRefIdeal := hExchangeRefIdeal)
    ∧ quiescent_ExchangeRefIdeal_pre_finite_ExchangeRefIdeal (hExchangeRefIdeal := hExchangeRefIdeal) (hPre_finite_ExchangeRefIdeal := hPre_finite_ExchangeRefIdeal)
    ∧ quiescent_Ffn (hFfn := hFfn)
    ∧ quiescent_FfnIdeal (hFfnIdeal := hFfnIdeal)
    ∧ quiescent_FfnIdeal_pre_gates (hFfnIdeal := hFfnIdeal) (hPre_gates := hPre_gates)
    ∧ quiescent_FfnRefIdeal (hFfnRefIdeal := hFfnRefIdeal)
    ∧ quiescent_FfnRefIdeal_pre_gates (hFfnRefIdeal := hFfnRefIdeal) (hPre_gates := hPre_gates)
    ∧ preserves_Combine_CombineIdeal
    ∧ algebraic_CombineIdeal_CombineRefIdeal (hCombineIdeal := hCombineIdeal) (hCombineRefIdeal := hCombineRefIdeal)
    ∧ preserves_Exchange_ExchangeIdeal
    ∧ algebraic_ExchangeIdeal_ExchangeRefIdeal_pre_finite_ExchangeIdeal (hExchangeIdeal := hExchangeIdeal) (hExchangeRefIdeal := hExchangeRefIdeal) (hPre_finite_ExchangeIdeal := hPre_finite_ExchangeIdeal)
    ∧ preserves_Ffn_FfnIdeal
    ∧ algebraic_FfnIdeal_FfnRefIdeal_pre_gates (hFfnIdeal := hFfnIdeal) (hFfnRefIdeal := hFfnRefIdeal) (hPre_gates := hPre_gates)
-- ==== Pre_finite_ExchangeIdeal.lean ====
abbrev S1024x1024 : Shape := ⟨2, ![1024, 1024]⟩
abbrev S1024x8 : Shape := ⟨2, ![1024, 8]⟩
abbrev S_ : Shape := ⟨0, ![]⟩

class Facts : Prop where
  bcast_S_S1024x1024 : S_.BroadcastsInDim S1024x1024 (![] : Fin 0 → Fin S1024x1024.rank)
  reducesTo_S1024x1024_S_d0_1 : S1024x1024.ReducesTo [0, 1] S_
  h_S_ : 0 < S_.numel
  bcast_S_S1024x8 : S_.BroadcastsInDim S1024x8 (![] : Fin 0 → Fin S1024x8.rank)
  reducesTo_S1024x8_S_d0_1 : S1024x8.ReducesTo [0, 1] S_

variable [Facts]

def fn {F : FTy → Type} [FloatOps F] (main_arg0 : FVec F S1024x1024 .f32) (main_arg1 : FVec F S1024x8 .f32) : IVec S_ 1 :=
  let main_v0 : FVec F S1024x1024 .f32 := Host.absf main_arg0
  let main_cst : FVec F S_ .f32 := constant S_ .f32 0x7F800000#32
  let main_v1 : FVec F S1024x1024 .f32 := broadcastInDim S1024x1024 ![] bcast_S_S1024x1024 main_cst
  let main_v2 : IVec S1024x1024 1 := cmpf .olt main_v0 main_v1
  let main_c : IVec S_ 1 := constantI S_ 1 1#1
  let main_v3 : IVec S_ 1 := (fun x v => Host.reduce IntOp.andi x v reducesTo_S1024x1024_S_d0_1 h_S_) main_v2 main_c
  let main_v4 : FVec F S1024x8 .f32 := Host.absf main_arg1
  let main_cst_0 : FVec F S_ .f32 := constant S_ .f32 0x7F800000#32
  let main_v5 : FVec F S1024x8 .f32 := broadcastInDim S1024x8 ![] bcast_S_S1024x8 main_cst_0
  let main_v6 : IVec S1024x8 1 := cmpf .olt main_v4 main_v5
  let main_c_1 : IVec S_ 1 := constantI S_ 1 1#1
  let main_v7 : IVec S_ 1 := (fun x v => Host.reduce IntOp.andi x v reducesTo_S1024x8_S_d0_1 h_S_) main_v6 main_c_1
  let main_v8 : IVec S_ 1 := andi main_v3 main_v7
  main_v8
-- ==== Pre_finite_ExchangeRefIdeal.lean ====
abbrev S2048x1024 : Shape := ⟨2, ![2048, 1024]⟩
abbrev S1024x16 : Shape := ⟨2, ![1024, 16]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel
  bcast_S_S1024x16 : S_.BroadcastsInDim S1024x16 (![] : Fin 0 → Fin S1024x16.rank)
  reducesTo_S1024x16_S_d0_1 : S1024x16.ReducesTo [0, 1] S_

variable [Facts]

def fn {F : FTy → Type} [FloatOps F] (main_arg0 : FVec F S2048x1024 .f32) (main_arg1 : FVec F S1024x16 .f32) : IVec S_ 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  let main_v4 : FVec F S1024x16 .f32 := Host.absf main_arg1
  let main_cst_0 : FVec F S_ .f32 := constant S_ .f32 0x7F800000#32
  let main_v5 : FVec F S1024x16 .f32 := broadcastInDim S1024x16 ![] bcast_S_S1024x16 main_cst_0
  let main_v6 : IVec S1024x16 1 := cmpf .olt main_v4 main_v5
  let main_c_1 : IVec S_ 1 := constantI S_ 1 1#1
  let main_v7 : IVec S_ 1 := (fun x v => Host.reduce IntOp.andi x v reducesTo_S1024x16_S_d0_1 h_S_) main_v6 main_c_1
  let main_v8 : IVec S_ 1 := andi main_v3 main_v7
  main_v8
-- ==== Pre_gates.lean ====
abbrev S2048x1024 : Shape := ⟨2, ![2048, 1024]⟩
abbrev S8x1x320 : Shape := ⟨3, ![8, 1, 320]⟩
abbrev S8x1024x4096 : Shape := ⟨3, ![8, 1024, 4096]⟩
abbrev S8x4096x1024 : Shape := ⟨3, ![8, 4096, 1024]⟩
abbrev S_ : Shape := ⟨0, ![]⟩

class Facts : Prop where
  bcast_S_S8x1x320 : S_.BroadcastsInDim S8x1x320 (![] : Fin 0 → Fin S8x1x320.rank)
  reducesTo_S8x1x320_S_d0_1_2 : S8x1x320.ReducesTo [0, 1, 2] S_
  h_S_ : 0 < S_.numel

variable [Facts]

def fn {F : FTy → Type} [FloatOps F] (main_arg0 : FVec F S2048x1024 .bf16) (main_arg1 : IVec S8x1x320 32) (main_arg2 : FVec F S8x1024x4096 .f32) (main_arg3 : FVec F S8x4096x1024 .f32) (main_arg4 : FVec F S8x1x320 .f32) : IVec S_ 1 :=
  let main_cst : FVec F S_ .f32 := constant S_ .f32 0x00000000#32
  let main_v0 : FVec F S8x1x320 .f32 := broadcastInDim S8x1x320 ![] bcast_S_S8x1x320 main_cst
  let main_v1 : IVec S8x1x320 1 := cmpf .oge main_arg4 main_v0
  let main_cst_0 : FVec F S_ .f32 := constant S_ .f32 0x7F800000#32
  let main_v2 : FVec F S8x1x320 .f32 := broadcastInDim S8x1x320 ![] bcast_S_S8x1x320 main_cst_0
  let main_v3 : IVec S8x1x320 1 := cmpf .olt main_arg4 main_v2
  let main_v4 : IVec S8x1x320 1 := andi main_v1 main_v3
  let main_c : IVec S_ 1 := constantI S_ 1 1#1
  let main_v5 : IVec S_ 1 := (fun x v => Host.reduce IntOp.andi x v reducesTo_S8x1x320_S_d0_1_2 h_S_) main_v4 main_c
  main_v5
-- ==== Combine.lean ====
abbrev S8x320x1024 : Shape := ⟨3, ![8, 320, 1024]⟩
abbrev S8x320 : Shape := ⟨2, ![8, 320]⟩
abbrev S1024x1024 : Shape := ⟨2, ![1024, 1024]⟩
abbrev S2 : Shape := ⟨1, ![2]⟩
abbrev S_ : Shape := ⟨0, ![]⟩
abbrev S1x320 : Shape := ⟨2, ![1, 320]⟩
abbrev S320 : Shape := ⟨1, ![320]⟩
abbrev S512x320 : Shape := ⟨2, ![512, 320]⟩
abbrev S1x320x1024 : Shape := ⟨3, ![1, 320, 1024]⟩
abbrev S320x1024 : Shape := ⟨2, ![320, 1024]⟩
abbrev S512x1024 : Shape := ⟨2, ![512, 1024]⟩
abbrev S1 : Shape := ⟨1, ![1]⟩
abbrev S1024x320 : Shape := ⟨2, ![1024, 320]⟩

abbrev nBuf : Space → Nat
  | .hbm => 3
  | .vmem => 5
  | .smem => 0
  | _ => 0

abbrev bufTy : (tb : Table) → Fin (tcTables nBuf tb) → BufTy
  | .hbm, ⟨0, _⟩ => ⟨S8x320x1024, .f32⟩
  | .hbm, ⟨1, _⟩ => ⟨S8x320, .i32⟩
  | .hbm, ⟨2, _⟩ => ⟨S1024x1024, .f32⟩
  | .local _ .vmem, ⟨0, _⟩ => ⟨S8x320x1024, .f32⟩
  | .local _ .vmem, ⟨1, _⟩ => ⟨S8x320, .i32⟩
  | .local _ .vmem, ⟨2, _⟩ => ⟨S1024x1024, .f32⟩
  | .local _ .vmem, ⟨3, _⟩ => ⟨S1024x1024, .bf16⟩
  | .local _ .vmem, ⟨4, _⟩ => ⟨S1024x1024, .bf16⟩
  | _, _ => ⟨S8x320x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  (ofTc nBuf bufTy 1 7 bufScoped semScoped dmaSemScoped tileCredit tileCredit_eq_zero tileCredit_pos).withBarriers [(1, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_sem0_0 : DmaSem sig := 0
abbrev cc0_sem1_0 : DmaSem sig := 1
abbrev cc0_sem2_0 : DmaSem sig := 2
abbrev barrier1 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_5 : BitVec 32 := 4#32
  let v11 : BitVec 32 := Scalar.muli v2 c4_i32_5
  let v12 : BitVec 32 := Scalar.addi c0_i32 v11
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_6 : BitVec 32 := 2#32
  let v13 : BitVec 32 := Scalar.muli v5 c2_i32_6
  let v14 : BitVec 32 := Scalar.addi v12 v13
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_7 : BitVec 32 := 1#32
  let v15 : BitVec 32 := Scalar.muli v9 c1_i32_7
  let v16 : BitVec 32 := Scalar.addi v14 v15
  v16.toNat
def k0_dev2 (d0 : Dev nD) : Nat :=
  let c0_i32_55 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_54 : BitVec 32 := 4#32
  let v135 : BitVec 32 := Scalar.muli v2 c4_i32_54
  let v136 : BitVec 32 := Scalar.addi c0_i32_55 v135
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_56 : BitVec 32 := 2#32
  let v137 : BitVec 32 := Scalar.muli v5 c2_i32_56
  let v138 : BitVec 32 := Scalar.addi v136 v137
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_57 : BitVec 32 := 1#32
  let v139 : BitVec 32 := Scalar.muli v9 c1_i32_57
  let v140 : BitVec 32 := Scalar.addi v138 v139
  v140.toNat
def k0_dev3 (d0 : Dev nD) : Nat :=
  let c0_i32_116 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_115 : BitVec 32 := 4#32
  let v265 : BitVec 32 := Scalar.muli v2 c4_i32_115
  let v266 : BitVec 32 := Scalar.addi c0_i32_116 v265
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_117 : BitVec 32 := 2#32
  let v267 : BitVec 32 := Scalar.muli v5 c2_i32_117
  let v268 : BitVec 32 := Scalar.addi v266 v267
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_118 : BitVec 32 := 1#32
  let v269 : BitVec 32 := Scalar.muli v9 c1_i32_118
  let v270 : BitVec 32 := Scalar.addi v268 v269
  v270.toNat
abbrev stage0_0 : Fin 1 → Memref sig .tc .vmem S8x320x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x320 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== CombineRefIdeal.lean ====
abbrev S16x320x1024 : Shape := ⟨3, ![16, 320, 1024]⟩
abbrev S16x320 : Shape := ⟨2, ![16, 320]⟩
abbrev S5120x1024 : Shape := ⟨2, ![5120, 1024]⟩
abbrev S5120 : Shape := ⟨1, ![5120]⟩
abbrev S_ : Shape := ⟨0, ![]⟩
abbrev S2048x1024 : Shape := ⟨2, ![2048, 1024]⟩
abbrev S5120x1 : Shape := ⟨2, ![5120, 1]⟩

abbrev nBuf : Space → Nat
  | .hbm => 8
  | .vmem => 0
  | .smem => 0
  | _ => 0

abbrev bufTy : (tb : Table) → Fin (tcTables nBuf tb) → BufTy
  | .hbm, ⟨0, _⟩ => ⟨S16x320x1024, .f32⟩
  | .hbm, ⟨1, _⟩ => ⟨S16x320, .i32⟩
  | .hbm, ⟨2, _⟩ => ⟨S5120x1024, .f32⟩
  | .hbm, ⟨3, _⟩ => ⟨S5120, .i32⟩
  | .hbm, ⟨4, _⟩ => ⟨S_, .f32⟩
  | .hbm, ⟨5, _⟩ => ⟨S2048x1024, .f32⟩
  | .hbm, ⟨6, _⟩ => ⟨S5120x1, .i32⟩
  | .hbm, ⟨7, _⟩ => ⟨S2048x1024, .f32⟩
  | _, _ => ⟨S16x320x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Exchange.lean ====
abbrev S1024x1024 : Shape := ⟨2, ![1024, 1024]⟩
abbrev S1024x8 : Shape := ⟨2, ![1024, 8]⟩
abbrev S2x1024x1024 : Shape := ⟨3, ![2, 1024, 1024]⟩
abbrev S2x2x1024 : Shape := ⟨3, ![2, 2, 1024]⟩
abbrev S2x1024x8 : Shape := ⟨3, ![2, 1024, 8]⟩
abbrev S1024x16 : Shape := ⟨2, ![1024, 16]⟩
abbrev S4 : Shape := ⟨1, ![4]⟩
abbrev S_ : Shape := ⟨0, ![]⟩
abbrev S1x1024x8 : Shape := ⟨3, ![1, 1024, 8]⟩
abbrev S1 : Shape := ⟨1, ![1]⟩
abbrev S1x1024x1024 : Shape := ⟨3, ![1, 1024, 1024]⟩
abbrev S1024 : Shape := ⟨1, ![1024]⟩
abbrev S1024x1 : Shape := ⟨2, ![1024, 1]⟩
abbrev S1x1x1024 : Shape := ⟨3, ![1, 1, 1024]⟩
abbrev S1x2x1024 : Shape := ⟨3, ![1, 2, 1024]⟩
abbrev S2x1024 : Shape := ⟨2, ![2, 1024]⟩

abbrev nBuf : Space → Nat
  | .hbm => 5
  | .vmem => 7
  | .smem => 0
  | _ => 0

abbrev bufTy : (tb : Table) → Fin (tcTables nBuf tb) → BufTy
  | .hbm, ⟨0, _⟩ => ⟨S1024x1024, .f32⟩
  | .hbm, ⟨1, _⟩ => ⟨S1024x8, .f32⟩
  | .hbm, ⟨2, _⟩ => ⟨S2x1024x1024, .bf16⟩
  | .hbm, ⟨3, _⟩ => ⟨S2x2x1024, .i32⟩
  | .hbm, ⟨4, _⟩ => ⟨S2x2x1024, .f32⟩
  | .local _ .vmem, ⟨0, _⟩ => ⟨S1024x1024, .f32⟩
  | .local _ .vmem, ⟨1, _⟩ => ⟨S1024x8, .f32⟩
  | .local _ .vmem, ⟨2, _⟩ => ⟨S2x1024x1024, .bf16⟩
  | .local _ .vmem, ⟨3, _⟩ => ⟨S2x2x1024, .i32⟩
  | .local _ .vmem, ⟨4, _⟩ => ⟨S2x2x1024, .f32⟩
  | .local _ .vmem, ⟨5, _⟩ => ⟨S2x1024x8, .f32⟩
  | .local _ .vmem, ⟨6, _⟩ => ⟨S1024x16, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  (ofTc nBuf bufTy 1 13 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1_0 : Ref sig .tc := ⟨.hbm, 2, rfl⟩
abbrev main_v1_1 : Ref sig .tc := ⟨.hbm, 3, rfl⟩
abbrev main_v1_2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_scratch1 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_5 : BitVec 32 := 4#32
  let v11 : BitVec 32 := Scalar.muli v2 c4_i32_5
  let v12 : BitVec 32 := Scalar.addi c0_i32 v11
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_6 : BitVec 32 := 2#32
  let v13 : BitVec 32 := Scalar.muli v5 c2_i32_6
  let v14 : BitVec 32 := Scalar.addi v12 v13
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_7 : BitVec 32 := 1#32
  let v15 : BitVec 32 := Scalar.muli v9 c1_i32_7
  let v16 : BitVec 32 := Scalar.addi v14 v15
  v16.toNat
def k0_off1 (d0 : Dev nD) : Fin 3 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v19 : Index := Scalar.indexCast v8
  let c0_10 : Index := 0#32
  let c0_11 : Index := 0#32
  ![v19.toNat, 0, 0]
def k0_off2 (d0 : Dev nD) : Fin 3 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_18 : BitVec 32 := 0#32
  let c0_i32_19 : BitVec 32 := 0#32
  ![v8.toNat, 0, 0]
def k0_dev2 (d0 : Dev nD) : Nat :=
  let c0_i32_15 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_14 : BitVec 32 := 4#32
  let v23 : BitVec 32 := Scalar.muli v2 c4_i32_14
  let v24 : BitVec 32 := Scalar.addi c0_i32_15 v23
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_16 : BitVec 32 := 2#32
  let v25 : BitVec 32 := Scalar.muli v5 c2_i32_16
  let v26 : BitVec 32 := Scalar.addi v24 v25
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_17 : BitVec 32 := 1#32
  let v27 : BitVec 32 := Scalar.muli v9 c1_i32_17
  let v28 : BitVec 32 := Scalar.addi v26 v27
  v28.toNat
def k0_off3 (d0 : Dev nD) : Fin 3 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v40 : Index := Scalar.indexCast v8
  let c0_24 : Index := 0#32
  let c0_25 : Index := 0#32
  ![v40.toNat, 0, 0]
def k0_off4 (d0 : Dev nD) : Fin 3 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_32 : BitVec 32 := 0#32
  let c0_i32_33 : BitVec 32 := 0#32
  ![v8.toNat, 0, 0]
def k0_dev3 (d0 : Dev nD) : Nat :=
  let c0_i32_29 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_28 : BitVec 32 := 4#32
  let v44 : BitVec 32 := Scalar.muli v2 c4_i32_28
  let v45 : BitVec 32 := Scalar.addi c0_i32_29 v44
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_30 : BitVec 32 := 2#32
  let v46 : BitVec 32 := Scalar.muli v5 c2_i32_30
  let v47 : BitVec 32 := Scalar.addi v45 v46
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_31 : BitVec 32 := 1#32
  let v48 : BitVec 32 := Scalar.muli v9 c1_i32_31
  let v49 : BitVec 32 := Scalar.addi v47 v48
  v49.toNat
def k0_off5 (d0 : Dev nD) : Fin 3 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v115 : Index := Scalar.indexCast v8
  let c0_72 : Index := 0#32
  let c0_73 : Index := 0#32
  ![v115.toNat, 0, 0]
def k0_off6 (d0 : Dev nD) : Fin 3 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v119 : Index := Scalar.indexCast v8
  let c1_74 : Index := 1#32
  let c0_75 : Index := 0#32
  ![v119.toNat, 1, 0]
def k0_off7 (d0 : Dev nD) : Fin 3 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_89 : BitVec 32 := 0#32
  let c0_i32_90 : BitVec 32 := 0#32
  ![v8.toNat, 0, 0]
def k0_dev4 (d0 : Dev nD) : Nat :=
  let c0_i32_86 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_85 : BitVec 32 := 4#32
  let v138 : BitVec 32 := Scalar.muli v2 c4_i32_85
  let v139 : BitVec 32 := Scalar.addi c0_i32_86 v138
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_87 : BitVec 32 := 2#32
  let v140 : BitVec 32 := Scalar.muli v5 c2_i32_87
  let v141 : BitVec 32 := Scalar.addi v139 v140
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_88 : BitVec 32 := 1#32
  let v142 : BitVec 32 := Scalar.muli v9 c1_i32_88
  let v143 : BitVec 32 := Scalar.addi v141 v142
  v143.toNat
def k0_dev5 (d0 : Dev nD) : Nat :=
  let c0_i32_95 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_94 : BitVec 32 := 4#32
  let v152 : BitVec 32 := Scalar.muli v2 c4_i32_94
  let v153 : BitVec 32 := Scalar.addi c0_i32_95 v152
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_96 : BitVec 32 := 2#32
  let v154 : BitVec 32 := Scalar.muli v5 c2_i32_96
  let v155 : BitVec 32 := Scalar.addi v153 v154
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_97 : BitVec 32 := 1#32
  let v156 : BitVec 32 := Scalar.muli v9 c1_i32_97
  let v157 : BitVec 32 := Scalar.addi v155 v156
  v157.toNat
abbrev stage0_0 : Fin 1 → Memref sig .tc .vmem S1024x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x2x1024 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x2x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ExchangeIdeal.lean ====
variable {F : FTy → Type} [FloatOps F] [Named F]
def κ : String → Option EReal := fun
  | "mask" => some ⊥
  | _ => none
-- ==== ExchangeRefIdeal.lean ====
abbrev S2048x1024 : Shape := ⟨2, ![2048, 1024]⟩
abbrev S1024x16 : Shape := ⟨2, ![1024, 16]⟩
abbrev S2048x16 : Shape := ⟨2, ![2048, 16]⟩
abbrev S2048x2 : Shape := ⟨2, ![2048, 2]⟩
abbrev S_ : Shape := ⟨0, ![]⟩
abbrev S2048 : Shape := ⟨1, ![2048]⟩
abbrev S2048x1 : Shape := ⟨2, ![2048, 1]⟩
abbrev S2x1024x1024 : Shape := ⟨3, ![2, 1024, 1024]⟩
abbrev S2x1024x2 : Shape := ⟨3, ![2, 1024, 2]⟩
abbrev S2x2x1024 : Shape := ⟨3, ![2, 2, 1024]⟩

abbrev nBuf : Space → Nat
  | .hbm => 22
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x16, .f32⟩
  | .hbm, ⟨2, _⟩ => ⟨S2048x16, .f32⟩
  | .hbm, ⟨3, _⟩ => ⟨S2048x2, .f32⟩
  | .hbm, ⟨4, _⟩ => ⟨S2048x2, .i32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S2048x2, .f32⟩
  | .hbm, ⟨9, _⟩ => ⟨S2048x2, .f32⟩
  | .hbm, ⟨10, _⟩ => ⟨S2048x2, .f32⟩
  | .hbm, ⟨11, _⟩ => ⟨S_, .f32⟩
  | .hbm, ⟨12, _⟩ => ⟨S2048, .f32⟩
  | .hbm, ⟨13, _⟩ => ⟨S2048x1, .f32⟩
  | .hbm, ⟨14, _⟩ => ⟨S2048x2, .f32⟩
  | .hbm, ⟨15, _⟩ => ⟨S2048x2, .f32⟩
  | .hbm, ⟨16, _⟩ => ⟨S2x1024x1024, .f32⟩
  | .hbm, ⟨17, _⟩ => ⟨S2x1024x1024, .bf16⟩
  | .hbm, ⟨18, _⟩ => ⟨S2x1024x2, .i32⟩
  | .hbm, ⟨19, _⟩ => ⟨S2x2x1024, .i32⟩
  | .hbm, ⟨20, _⟩ => ⟨S2x1024x2, .f32⟩
  | .hbm, ⟨21, _⟩ => ⟨S2x2x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_values : Ref sig .tc := ⟨.hbm, 3, rfl⟩
abbrev main_indices : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== Ffn.lean ====
abbrev S2048x1024 : Shape := ⟨2, ![2048, 1024]⟩
abbrev S8x1x320 : Shape := ⟨3, ![8, 1, 320]⟩
abbrev S8x1024x4096 : Shape := ⟨3, ![8, 1024, 4096]⟩
abbrev S8x4096x1024 : Shape := ⟨3, ![8, 4096, 1024]⟩
abbrev S8x320x1024 : Shape := ⟨3, ![8, 320, 1024]⟩
abbrev S1x1x320 : Shape := ⟨3, ![1, 1, 320]⟩
abbrev S1x1024x1024 : Shape := ⟨3, ![1, 1024, 1024]⟩
abbrev S1x320x1024 : Shape := ⟨3, ![1, 320, 1024]⟩
abbrev S320x1024 : Shape := ⟨2, ![320, 1024]⟩
abbrev S320 : Shape := ⟨1, ![320]⟩
abbrev S320x2048 : Shape := ⟨2, ![320, 2048]⟩
abbrev S320x1 : Shape := ⟨2, ![320, 1]⟩
abbrev S1024x1024 : Shape := ⟨2, ![1024, 1024]⟩

abbrev nBuf : Space → Nat
  | .hbm => 6
  | .vmem => 12
  | .smem => 0
  | _ => 0

abbrev bufTy : (tb : Table) → Fin (tcTables nBuf tb) → BufTy
  | .hbm, ⟨0, _⟩ => ⟨S2048x1024, .bf16⟩
  | .hbm, ⟨1, _⟩ => ⟨S8x1x320, .i32⟩
  | .hbm, ⟨2, _⟩ => ⟨S8x1024x4096, .f32⟩
  | .hbm, ⟨3, _⟩ => ⟨S8x4096x1024, .f32⟩
  | .hbm, ⟨4, _⟩ => ⟨S8x1x320, .f32⟩
  | .hbm, ⟨5, _⟩ => ⟨S8x320x1024, .f32⟩
  | .local _ .vmem, ⟨0, _⟩ => ⟨S2048x1024, .bf16⟩
  | .local _ .vmem, ⟨1, _⟩ => ⟨S1x1x320, .i32⟩
  | .local _ .vmem, ⟨2, _⟩ => ⟨S1x1x320, .i32⟩
  | .local _ .vmem, ⟨3, _⟩ => ⟨S1x1024x1024, .f32⟩
  | .local _ .vmem, ⟨4, _⟩ => ⟨S1x1024x1024, .f32⟩
  | .local _ .vmem, ⟨5, _⟩ => ⟨S1x1024x1024, .f32⟩
  | .local _ .vmem, ⟨6, _⟩ => ⟨S1x1024x1024, .f32⟩
  | .local _ .vmem, ⟨7, _⟩ => ⟨S1x1x320, .f32⟩
  | .local _ .vmem, ⟨8, _⟩ => ⟨S1x1x320, .f32⟩
  | .local _ .vmem, ⟨9, _⟩ => ⟨S1x320x1024, .f32⟩
  | .local _ .vmem, ⟨10, _⟩ => ⟨S1x320x1024, .f32⟩
  | .local _ .vmem, ⟨11, _⟩ => ⟨S320x1024, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c0_i32_13 : BitVec 32 := 0#32
  let v17 : BitVec 1 := Scalar.cmpi .eq arg1 c0_i32_13
  let v18 : BitVec 32 := Scalar.extui v17
  let c0_i32_14 : BitVec 32 := 0#32
  let v19 : BitVec 1 := Scalar.cmpi .ne v18 c0_i32_14
  v19

def k0_cond3 (i : grid0.Coords) : BitVec 1 :=
  let arg1 : BitVec 32 := BitVec.ofNat 32 (i 1).val
  let c0_i32_15 : BitVec 32 := 0#32
  let v20 : BitVec 1 := Scalar.cmpi .ne arg1 c0_i32_15
  let v21 : BitVec 32 := Scalar.extui v20
  let c0_i32_16 : BitVec 32 := 0#32
  let v22 : BitVec 1 := Scalar.cmpi .ne v21 c0_i32_16
  v22

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1x320 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x320 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x320x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== FfnRefIdeal.lean ====
abbrev S2048x1024 : Shape := ⟨2, ![2048, 1024]⟩
abbrev S8x1x320 : Shape := ⟨3, ![8, 1, 320]⟩
abbrev S8x1024x4096 : Shape := ⟨3, ![8, 1024, 4096]⟩
abbrev S8x4096x1024 : Shape := ⟨3, ![8, 4096, 1024]⟩
abbrev S8x320 : Shape := ⟨2, ![8, 320]⟩
abbrev S_ : Shape := ⟨0, ![]⟩
abbrev S8x320x1 : Shape := ⟨3, ![8, 320, 1]⟩
abbrev S8x320x1024 : Shape := ⟨3, ![8, 320, 1024]⟩
abbrev S8x320x4096 : Shape := ⟨3, ![8, 320, 4096]⟩

abbrev nBuf : Space → Nat
  | .hbm => 38
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S8x1x320, .i32⟩
  | .hbm, ⟨2, _⟩ => ⟨S8x1024x4096, .f32⟩
  | .hbm, ⟨3, _⟩ => ⟨S8x4096x1024, .f32⟩
  | .hbm, ⟨4, _⟩ => ⟨S8x1x320, .f32⟩
  | .hbm, ⟨5, _⟩ => ⟨S8x320, .i32⟩
  | .hbm, ⟨6, _⟩ => ⟨S_, .i32⟩
  | .hbm, ⟨7, _⟩ => ⟨S8x320, .i32⟩
  | .hbm, ⟨8, _⟩ => ⟨S8x320, .i1⟩
  | .hbm, ⟨9, _⟩ => ⟨S_, .i32⟩
  | .hbm, ⟨10, _⟩ => ⟨S8x320, .i32⟩
  | .hbm, ⟨11, _⟩ => ⟨S8x320, .i1⟩
  | .hbm, ⟨12, _⟩ => ⟨S8x320, .i1⟩
  | .hbm, ⟨13, _⟩ => ⟨S8x320x1, .i1⟩
  | .hbm, ⟨14, _⟩ => ⟨S2048x1024, .f32⟩
  | .hbm, ⟨15, _⟩ => ⟨S_, .i32⟩
  | .hbm, ⟨16, _⟩ => ⟨S8x320, .i32⟩
  | .hbm, ⟨17, _⟩ => ⟨S8x320, .i1⟩
  | .hbm, ⟨18, _⟩ => ⟨S_, .i32⟩
  | .hbm, ⟨19, _⟩ => ⟨S8x320, .i32⟩
  | .hbm, ⟨20, _⟩ => ⟨S8x320, .i32⟩
  | .hbm, ⟨21, _⟩ => ⟨S8x320, .i32⟩
  | .hbm, ⟨22, _⟩ => ⟨S8x320x1, .i32⟩
  | .hbm, ⟨23, _⟩ => ⟨S8x320x1024, .f32⟩
  | .hbm, ⟨24, _⟩ => ⟨S_, .f32⟩
  | .hbm, ⟨25, _⟩ => ⟨S_, .f32⟩
  | .hbm, ⟨26, _⟩ => ⟨S8x320x1024, .i1⟩
  | .hbm, ⟨27, _⟩ => ⟨S8x320x1024, .f32⟩
  | .hbm, ⟨28, _⟩ => ⟨S8x320x1024, .f32⟩
  | .hbm, ⟨29, _⟩ => ⟨S8x320x4096, .f32⟩
  | .hbm, ⟨30, _⟩ => ⟨S_, .f32⟩
  | .hbm, ⟨31, _⟩ => ⟨S8x320x4096, .f32⟩
  | .hbm, ⟨32, _⟩ => ⟨S8x320x4096, .f32⟩
  | .hbm, ⟨33, _⟩ => ⟨S8x320x1024, .f32⟩
  | .hbm, ⟨34, _⟩ => ⟨S8x320, .f32⟩
  | .hbm, ⟨35, _⟩ => ⟨S8x320x1, .f32⟩
  | .hbm, ⟨36, _⟩ => ⟨S8x320x1024, .f32⟩
  | .hbm, ⟨37, _⟩ => ⟨S8x320x1024, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c_1 : Ref sig .tc := ⟨.hbm, 15, rfl⟩
abbrev main_v8 : Ref sig .tc := ⟨.hbm, 16, rfl⟩
abbrev main_v9 : Ref sig .tc := ⟨.hbm, 17, rfl⟩
abbrev main_c_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_v15 : Ref sig .tc := ⟨.hbm, 28, rfl⟩
abbrev main_v16 : Ref sig .tc := ⟨.hbm, 29, rfl⟩
abbrev main_cst_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩

abbrev nD : Nat := 1
abbrev τ : Topo := Topo.v7x

variable {F : FTy → Type} [FloatOps F]
-- ==== Proof.Talk.lean ====
/-
# Two devices that talk once: the bookkeeping shared by the kernels of this directory

Every kernel here pairs each device with ONE peer. A device has `n` semaphore cells, each raised once and waited for once.
Some of its cells are raised by the peer (its barrier, its receive semaphores: the list `dues`, in the order a device raises
the peer's), the others by the device's own copies (its send semaphores). What a raise of a cell hands over is a parameter
`pay`. From that this module makes the one-round schedule, what each device owes at launch, the levels, the funding of all
the cells, and the rules for a signal, a copy, a wait and the closing of a cell, for any float instance and any mesh size.
-/
module

public import Idealize.ShloMosaic.Lib.Pipeline.Launch
public import Idealize.ShloMosaic.Lib.Pipeline.Kit
public import Idealize.ShloMosaic.Lib.Tactic

@[expose] public section

noncomputable section

namespace Cert.Talk

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

/-- The cells of a device and who raises them: `csem` names cell `k`'s semaphore, `amt` the units of its one raise, `lev` its
    level; `peer` is the device it talks to; `dues` are the peer's cells it raises, in program order. -/
structure Cells (nD : Nat) (sig : RefSig) (n : ℕ) where
  csem : Fin n → SemLoc sig
  inj : Function.Injective csem
  amt : Fin n → ℕ
  amt_pos : ∀ k, 0 < amt k
  lev : Fin n → ℕ
  peer : Dev nD → Dev nD
  peer_peer : ∀ c, peer (peer c) = c
  dues : List (Fin n)
  dues_nodup : dues.Nodup

variable {nD : Nat} {τ : Topo} {sig : RefSig} {Val : EltTy → Type} {n : ℕ} {Λ : Labels}

/-- The protocol's ghost state: one duty a round. -/
abbrev UB (nD : Nat) (τ : Topo) (sig : RefSig) : Type := URounds (GSem nD τ sig) Unit
/-- The pipeline library's copy and the protocol's. -/
abbrev UU (nD : Nat) (τ : Topo) (sig : RefSig) : Type := UR sig nD τ × UB nD τ sig

local notation "𝕄" => MT nD τ sig Unit Val ℕ (UU nD τ sig) ℕ

/-- Where the pipeline library's ghost state sits. -/
abbrev EP : Emb (UR sig nD τ) (MT nD τ sig Unit Val ℕ (UU nD τ sig) ℕ) := embL
/-- Where the protocol's sits. -/
abbrev ER : Emb (UB nD τ sig) (MT nD τ sig Unit Val ℕ (UU nD τ sig) ℕ) := embR

namespace Cells

variable (T : Cells nD sig n)

/-- Cell `k` of device `c`. -/
abbrev cell (c : Dev nD) (k : Fin n) : GSem nD τ sig := ((c : Thread nD τ), T.csem k)

open Classical in
/-- Which cell a semaphore is, if it is one. -/
def idx (s : SemLoc sig) : Option (Fin n) := if h : ∃ k, T.csem k = s then some h.choose else none

theorem idx_csem (k : Fin n) : T.idx (T.csem k) = some k := by
  have h : ∃ j, T.csem j = T.csem k := ⟨k, rfl⟩
  unfold idx; rw [dif_pos h]; exact congrArg some (T.inj h.choose_spec)

theorem idx_none {s : SemLoc sig} (h : ∀ k, T.csem k ≠ s) : T.idx s = none := by
  unfold idx; exact dif_neg fun ⟨k, hk⟩ => h k hk

theorem cell_inj : Function.Injective fun ck : Dev nD × Fin n => (T.cell ck.1 ck.2 : GSem nD τ sig) := by
  rintro ⟨c, k⟩ ⟨c', k'⟩ h
  have h1 : c = c' := congrArg (fun g : GSem nD τ sig => g.1.1) h
  have h2 : T.csem k = T.csem k' := congrArg Prod.snd h
  rw [h1, T.inj h2]

theorem cell_eq_iff {c c' : Dev nD} {k k' : Fin n} : (T.cell c k : GSem nD τ sig) = T.cell c' k' ↔ c = c' ∧ k = k' :=
  ⟨fun h => by have := @T.cell_inj nD τ sig n (c, k) (c', k') h; exact ⟨congrArg Prod.fst this, congrArg Prod.snd this⟩,
    fun h => by rw [h.1, h.2]⟩

/-- The device that holds the cell `k` which device `c` raises: the peer for the peer's cells, `c` for its own. -/
def tgt (c : Dev nD) (k : Fin n) : Dev nD := if k ∈ T.dues then T.peer c else c

theorem tgt_tgt (c : Dev nD) (k : Fin n) : T.tgt (T.tgt c k) k = c := by
  unfold tgt; split
  · exact T.peer_peer c
  · rfl

theorem tgt_due {c : Dev nD} {k : Fin n} (h : k ∈ T.dues) : T.tgt c k = T.peer c := if_pos h
theorem tgt_own {c : Dev nD} {k : Fin n} (h : k ∉ T.dues) : T.tgt c k = c := if_neg h

/-! ## The schedule -/

section Schedule

variable (pay : Dev nD → Fin n → sProp (MT nD τ sig Unit Val ℕ (UU nD τ sig) ℕ))

/-- One round, of one duty, for every cell; nothing for any other semaphore. -/
def Rd : Schedule (GSem nD τ sig) Unit 𝕄 where
  duties g r := if r = 0 ∧ g.1.2 = .tc ∧ (T.idx g.2).isSome then {()} else ∅
  unitless _ := False
  amount g _ _ := (T.idx g.2).elim 1 T.amt
  payload g _ _ := (T.idx g.2).elim iprop(emp) (pay g.1.1)
  amount_pos g _ _ _ := by
    cases T.idx g.2 with
    | none => exact Nat.one_pos
    | some k => exact T.amt_pos k

instance Rd_storable [h : ∀ c k, BI.Storable (upEmb : UEmb _ 𝕄) (pay c k)] (g : GSem nD τ sig) (r : ℕ) (d : Unit) :
    BI.Storable (upEmb : UEmb _ 𝕄) ((T.Rd pay).payload g r d) := by
  show BI.Storable (upEmb : UEmb _ 𝕄) ((T.idx g.2).elim iprop(emp) (pay g.1.1))
  cases T.idx g.2 with
  | none => exact inferInstanceAs (BI.Storable (upEmb : UEmb _ 𝕄) iprop(emp))
  | some k => exact h g.1.1 k

theorem duties_cell (c : Dev nD) (k : Fin n) : (T.Rd pay).duties (T.cell c k) 0 = {()} :=
  if_pos ⟨rfl, rfl, by rw [T.idx_csem]; rfl⟩
theorem duties_later (g : GSem nD τ sig) (r : ℕ) (hr : 1 ≤ r) : (T.Rd pay).duties g r = ∅ := if_neg fun h => by omega
theorem amount_cell (c : Dev nD) (k : Fin n) : (T.Rd pay).amount (T.cell c k) 0 () = T.amt k := by
  show (T.idx (T.csem k)).elim 1 T.amt = _; rw [T.idx_csem]; rfl
theorem payload_cell (c : Dev nD) (k : Fin n) : (T.Rd pay).payload (T.cell c k) 0 () = pay c k := by
  show (T.idx (T.csem k)).elim iprop(emp) (pay c) = _; rw [T.idx_csem]; rfl
theorem expect_cell (c : Dev nD) (k : Fin n) : (T.Rd pay).expect (T.cell c k) 0 = T.amt k := by
  unfold Schedule.expect Schedule.amountOf; rw [duties_cell, Finset.sum_singleton, amount_cell]
theorem rest_cell (c : Dev nD) (k : Fin n) :
    bigSep ((T.Rd pay).duties (T.cell c k) 0 \ ∅) (fun d => (T.Rd pay).payload (T.cell c k) 0 d) = pay c k := by
  rw [Finset.sdiff_empty, duties_cell, bigSep_singleton, payload_cell]

end Schedule

/-! ## Dues and levels -/

/-- The raises of the peer's cells still to come, the next one last, so that it is the summand taken off. -/
def owed (c : Dev nD) : List (Fin n) → CellTallies nD τ sig Unit
  | [] => 0
  | k :: l => owed c l + tallyAt (T.cell (T.peer c) k) () (T.amt k)

/-- What a device owes at launch. -/
abbrev owed₀ (c : Dev nD) : CellTallies nD τ sig Unit := T.owed c T.dues

theorem owed_pos {c : Dev nD} {l : List (Fin n)} {g : GSem nD τ sig} {u : Unit} (h : 0 < (T.owed c l : CellTallies nD τ sig Unit) g u) :
    ∃ k ∈ l, g = T.cell (T.peer c) k := by
  induction l with
  | nil => exact absurd h (Nat.lt_irrefl 0)
  | cons k l ih =>
    rw [owed, Pi.add_apply, Finsupp.add_apply, tallyAt_apply] at h
    by_cases hg : g = T.cell (T.peer c) k ∧ u = ()
    · exact ⟨k, List.mem_cons_self, hg.1⟩
    · rw [if_neg hg, Nat.add_zero] at h
      obtain ⟨j, hj, e⟩ := ih h
      exact ⟨j, List.mem_cons_of_mem _ hj, e⟩

/-- What device `d` owes cell `k` of device `c`. -/
theorem owed_cell (d c : Dev nD) (k : Fin n) {l : List (Fin n)} (hl : l.Nodup) :
    (T.owed d l : CellTallies nD τ sig Unit) (T.cell c k) () = if d = T.peer c ∧ k ∈ l then T.amt k else 0 := by
  induction l with
  | nil => rw [if_neg fun h => List.not_mem_nil h.2]; rfl
  | cons j l ih =>
    obtain ⟨hj, hl⟩ := List.nodup_cons.mp hl
    rw [owed, Pi.add_apply, Finsupp.add_apply, ih hl, tallyAt_apply]
    have hp : c = T.peer d ↔ d = T.peer c := ⟨fun h => by rw [h, T.peer_peer], fun h => by rw [h, T.peer_peer]⟩
    simp only [T.cell_eq_iff, hp, and_true, List.mem_cons]
    by_cases hd : d = T.peer c
    · by_cases hk : k = j
      · subst hk; simp [hd, hj]
      · simp [hd, hk]
    · simp [hd]

/-- Every TensorCore cell has the one index. -/
def L (g : GSem nD τ sig) : Finset Unit := if g.1.2 = .tc then {()} else ∅
/-- A cell's level; every other semaphore is at level 0. -/
def lv (g : GSem nD τ sig) (_ : Unit) : ℕ := (T.idx g.2).elim 0 T.lev

theorem L_of_ne (g : GSem nD τ sig) (h : g.1.2 ≠ .tc) : L g = ∅ := if_neg h
theorem L_tc (c : Dev nD) (s : SemLoc sig) : L ((c : Thread nD τ), s) = {()} := if_pos rfl
theorem lv_cell (c : Dev nD) (k : Fin n) (u : Unit) : T.lv (T.cell c k : GSem nD τ sig) u = T.lev k := by
  unfold lv; rw [T.idx_csem]; rfl
theorem lv_other (c : Dev nD) {s : SemLoc sig} (h : ∀ k, T.csem k ≠ s) (u : Unit) : T.lv ((c : Thread nD τ), s) u = 0 := by
  unfold lv; rw [T.idx_none h]; rfl

/-- A wait is allowed where every raise still owed is of a higher level. -/
theorem mayWait (c : Dev nD) (s : SemLoc sig) (l : List (Fin n)) (h : ∀ k ∈ l, T.lv ((c : Thread nD τ), s) () < T.lev k) :
    (levAts L T.lv : sProp 𝕄) ⊢ MayWait (c : Thread nD τ) s () (T.owed c l) :=
  MayOwe.of_cut (L := L) (lev := T.lv) (T.lv ((c : Thread nD τ), s) ())
    (fun p hp => by rw [Finset.mem_singleton.mp hp, L_tc]; exact Finset.mem_singleton_self _)
    (fun g u hg => by obtain ⟨k, -, rfl⟩ := T.owed_pos hg; rw [L_tc]; exact Finset.mem_singleton_self _)
    (fun p hp => by rw [Finset.mem_singleton.mp hp])
    (fun g u hg => by obtain ⟨k, hk, rfl⟩ := T.owed_pos hg; rw [T.lv_cell]; exact h k hk)

/-! ## What a device starts from -/

section Ghost

variable (pay : Dev nD → Fin n → sProp (MT nD τ sig Unit Val ℕ (UU nD τ sig) ℕ))

/-- Every cell's invariant, under the names `K`, and that every cell has reached its round. -/
def records (K : Dev nD × Fin n → ℕ) : sProp 𝕄 :=
  iprop((bigSep Finset.univ fun ck : Dev nD × Fin n => cellInv ER (T.Rd pay) (K ck) (T.cell ck.1 ck.2))
    ∗ bigSep Finset.univ fun ck : Dev nD × Fin n => reached ER (T.cell ck.1 ck.2) 0)

instance records_persistent (K : Dev nD × Fin n → ℕ) : BI.Persistent (T.records pay K) := by unfold records; infer_instance

theorem inv_at (K : Dev nD × Fin n → ℕ) (c : Dev nD) (k : Fin n) : T.records pay K ⊢ cellInv ER (T.Rd pay) (K (c, k)) (T.cell c k) := by
  have h : (bigSep Finset.univ fun ck : Dev nD × Fin n => (cellInv ER (T.Rd pay) (K ck) (T.cell ck.1 ck.2) : sProp 𝕄))
      ⊢ cellInv ER (T.Rd pay) (K (c, k)) (T.cell c k) := bigSep_elim (Finset.mem_univ (c, k))
  unfold records; iintro ⟨H, -⟩
  iapply h; iexact H
theorem reached_at (K : Dev nD × Fin n → ℕ) (c : Dev nD) (k : Fin n) : T.records pay K ⊢ reached ER (T.cell c k) 0 := by
  have h : (bigSep Finset.univ fun ck : Dev nD × Fin n => (reached ER (T.cell ck.1 ck.2) 0 : sProp 𝕄))
      ⊢ reached ER (T.cell c k) 0 := bigSep_elim (Finset.mem_univ (c, k))
  unfold records; iintro ⟨-, H⟩
  iapply h; iexact H

/-- Device `c`'s positions at its cells. -/
def ats (c : Dev nD) : sProp 𝕄 := bigSep Finset.univ fun k : Fin n => atPos ER (T.cell c k) 0 ∅ 0
/-- The tokens of the raises device `c` makes. -/
def toks (c : Dev nD) : sProp 𝕄 := bigSep Finset.univ fun k : Fin n => dutyTok ER (T.cell (T.tgt c k) k) 0 ()
/-- The credit of the raises the peer owes device `c`. -/
def creds (c : Dev nD) : sProp 𝕄 := bigSep T.dues.toFinset fun k : Fin n => cred (tallyAt (T.cell c k) () (T.amt k))

/-- The protocol's part of what device `c` starts from. -/
def ghost (c : Dev nD) : sProp 𝕄 := iprop(∃ K, T.records pay K ∗ T.ats c ∗ T.toks c)

/-- What device `c`'s body starts from. -/
def start (c : Dev nD) : sProp 𝕄 := iprop(T.ghost pay c ∗ T.creds c ∗ levAts L T.lv)

/-! ## The launch -/

/-- All the cells. -/
def allCells : Finset (GSem nD τ sig) := Finset.univ.map ⟨fun ck : Dev nD × Fin n => T.cell ck.1 ck.2, T.cell_inj⟩
/-- All the tokens. -/
def allToks : Finset (GSem nD τ sig × ℕ × Unit) :=
  Finset.univ.map ⟨fun ck : Dev nD × Fin n => (T.cell ck.1 ck.2, 0, ()), fun _ _ h => T.cell_inj (congrArg Prod.fst h)⟩

/-- What the launch element deals device `c`. -/
def dealt (c : Dev nD) : sProp 𝕄 :=
  iprop((bigSep Finset.univ fun k : Fin n => roundState ER (T.Rd pay) (T.cell c k) 0)
    ∗ (bigSep Finset.univ fun k : Fin n => iprop(atPos ER (T.cell c k) 0 ∅ 0 ∗ reached ER (T.cell c k) 0))
    ∗ bigSep Finset.univ fun k : Fin n => dutyTok ER (T.cell c k) 0 ())

/-- The launch element is every device's deal. -/
theorem fund : BI.own (ER (initOf (T.allCells (τ := τ)) (T.allToks (τ := τ)))) ⊢ (|==> bigSep Finset.univ (T.dealt pay) : sProp 𝕄) := by
  have hX (Φ : GSem nD τ sig → sProp 𝕄) : bigSep (T.allCells (τ := τ)) Φ = bigSep Finset.univ fun c : Dev nD => bigSep Finset.univ fun k : Fin n => Φ (T.cell c k) := by
    unfold allCells; rw [bigSep_map, bigSep_univ_prod]; rfl
  have hT : bigSep (T.allToks (τ := τ)) (fun x => (dutyTok ER x.1 x.2.1 x.2.2 : sProp 𝕄))
      = bigSep Finset.univ fun c : Dev nD => bigSep Finset.univ fun k : Fin n => dutyTok ER (T.cell c k) 0 () := by
    unfold allToks; rw [bigSep_map, bigSep_univ_prod]; rfl
  iintro H
  imod (Rounds.fund ER (T.Rd pay) (T.allCells (τ := τ)) (T.allToks (τ := τ))) $$ H with ⟨Hst, Hr, Hat, Htok⟩
  imodintro
  ihave Hst' := (Entails.of_eq (hX fun g => roundState ER (T.Rd pay) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold dealt; simp only [bigSep_sep']
  isplitl [Hst']; · iexact Hst'
  isplitl [Hat' Hr']
  · isplitl [Hat'] <;> iassumption
  iexact Htok'

/-- One device's cells, their counters at zero, become invariants. -/
theorem alloc [∀ c k, BI.Storable (upEmb : UEmb _ 𝕄) (pay c k)] (c : Dev nD) {S : sProp 𝕄}
    (hS : S ⊢ bigSep Finset.univ fun k : Fin n => semVal (T.cell c k) 0) :
    iprop(S ∗ T.dealt pay c)
      ⊢ |={Set.univ}=> iprop((bigSep Finset.univ fun k => iprop(∃ κ : ℕ, cellInv ER (T.Rd pay) κ (T.cell c k)))
          ∗ (bigSep Finset.univ fun k : Fin n => iprop(atPos ER (T.cell c k) 0 ∅ 0 ∗ reached ER (T.cell c k) 0))
          ∗ bigSep Finset.univ fun k : Fin n => dutyTok ER (T.cell c k) 0 ()) := by
  unfold dealt
  iintro ⟨HS, Hst, Hat, Htok⟩
  ihave Hv := hS $$ HS
  imod (show iprop((bigSep Finset.univ fun k : Fin n => semVal (T.cell c k) 0) ∗ bigSep Finset.univ fun k : Fin n => roundState ER (T.Rd pay) (T.cell c k) 0)
      ⊢ (|={Set.univ}=> bigSep Finset.univ fun k => iprop(∃ κ : ℕ, cellInv ER (T.Rd pay) κ (T.cell c k)) : sProp 𝕄) from by
        rw [← bigSep_sep']
        exact (bigSep_mono fun k _ => (Rounds.body_intro ER (T.Rd pay) (T.cell c k)).trans inv_alloc).trans (bigSep_fupd _ _)) $$ [Hv Hst] with Hinv
  · isplitl [Hv] <;> iassumption
  imodintro
  isplitl [Hinv]; · iexact Hinv
  isplitl [Hat]; · iexact Hat
  iexact Htok

/-- Each token goes to the device that raises its cell. -/
theorem toks_around :
    (bigSep Finset.univ fun c : Dev nD => (bigSep Finset.univ fun k : Fin n => dutyTok ER (T.cell c k) 0 () : sProp 𝕄))
      = bigSep Finset.univ fun c : Dev nD => T.toks c := by
  let e : Dev nD × Fin n ≃ Dev nD × Fin n :=
    ⟨fun ck => (T.tgt ck.1 ck.2, ck.2), fun ck => (T.tgt ck.1 ck.2, ck.2), fun ck => Prod.ext (T.tgt_tgt _ _) rfl, fun ck => Prod.ext (T.tgt_tgt _ _) rfl⟩
  rw [← bigSep_univ_prod (fun ck : Dev nD × Fin n => (dutyTok ER (T.cell ck.1 ck.2) 0 () : sProp 𝕄)),
    bigSep_univ_equiv e, bigSep_univ_prod]
  rfl

/-- All the devices' invariants, positions and tokens, regrouped by device. -/
theorem regroup :
    (bigSep Finset.univ fun c : Dev nD => iprop((bigSep Finset.univ fun k => iprop(∃ κ : ℕ, cellInv ER (T.Rd pay) κ (T.cell c k)))
          ∗ (bigSep Finset.univ fun k : Fin n => iprop(atPos ER (T.cell c k) 0 ∅ 0 ∗ reached ER (T.cell c k) 0))
          ∗ bigSep Finset.univ fun k : Fin n => dutyTok ER (T.cell c k) 0 ()) : sProp 𝕄)
      ⊢ bigSep Finset.univ (T.ghost pay) := by
  rw [bigSep_sep', bigSep_sep', ← bigSep_univ_prod (fun ck : Dev nD × Fin n => iprop(∃ κ : ℕ, cellInv ER (T.Rd pay) κ (T.cell ck.1 ck.2))),
    bigSep_congr (s := Finset.univ) (fun (c : Dev nD) _ => bigSep_sep' Finset.univ (fun k : Fin n => (atPos ER (T.cell c k) 0 ∅ 0 : sProp 𝕄)) (fun k => reached ER (T.cell c k) 0)),
    bigSep_sep', ← bigSep_univ_prod (fun ck : Dev nD × Fin n => (reached ER (T.cell ck.1 ck.2) 0 : sProp 𝕄)), toks_around]
  iintro ⟨HI, ⟨Hat, #HR⟩, Htok⟩
  ihave HK := (BI.bigSep_exists_pi Finset.univ (fun (ck : Dev nD × Fin n) (κ : ℕ) => (cellInv ER (T.Rd pay) κ (T.cell ck.1 ck.2) : sProp 𝕄))) $$ HI
  icases HK with ⟨%K, #HI⟩
  iapply (bigSep_with_persistent (R := T.records pay K) (Φ := fun c : Dev nD => iprop(T.ats c ∗ T.toks c)) fun c _ => (by
    unfold ghost; iintro ⟨#HR, H⟩; iexists K; isplitr
    · iexact HR
    · iexact H : iprop(T.records pay K ∗ T.ats c ∗ T.toks c) ⊢ T.ghost pay c))
  isplitr
  · unfold records; isplitl; · iexact HI
    iexact HR
  · rw [bigSep_sep']
    isplitl [Hat]; · unfold ats; iexact Hat
    iexact Htok

/-- The launch's credit of one due cell is its one raise. -/
theorem launch_cell (c : Dev nD) {k : Fin n} (hk : k ∈ T.dues) :
    tallyOn (T.cell c k) (launchCredit (Pipeline.owing (T.owed₀ (τ := τ))) 0 (T.cell c k)) = (tallyAt (T.cell c k) () (T.amt k) : CellTallies nD τ sig Unit) := by
  unfold tallyAt; refine congrArg _ (Finsupp.ext fun u => ?_); cases u
  rw [Pipeline.launchCredit_owing, Finsupp.single_eq_same, Finset.sum_congr rfl fun d _ => T.owed_cell d c k T.dues_nodup]
  simp only [hk, and_true]
  rw [Finset.sum_ite_eq' Finset.univ (T.peer c) fun _ => T.amt k, if_pos (Finset.mem_univ _)]

/-- A device's launch credit holds its due cells' raises. -/
theorem creds_intro (c : Dev nD) : (Pipeline.launchCred (T.owed₀ (τ := τ)) c : sProp 𝕄) ⊢ T.creds c := by
  unfold Pipeline.launchCred creds
  refine (bigSep_subset (Finset.subset_univ (T.dues.toFinset.map ⟨T.csem, T.inj⟩))).trans ?_
  rw [BI.bigSep_map]
  exact bigSep_mono fun k hk => Entails.of_eq (congrArg cred (T.launch_cell c (List.mem_toFinset.mp hk)))

end Ghost

/-! ## The rules -/

section Rules

variable (pay : Dev nD → Fin n → sProp (MT nD τ sig Unit Val ℕ (UU nD τ sig) ℕ)) (κ : Dev nD × Fin n → ℕ) {defs : Defs nD τ sig Val Λ} (𝒱 : Variants)
variable {α : Type} {Q : α → sProp (MT nD τ sig Unit Val ℕ (UU nD τ sig) ℕ)}

/-- A signal of the peer's regular cell, the next due: its payload goes with it. -/
theorem wp_signal (c d : Dev nD) (hd : d = T.peer c) {sem : Sem sig} {a : ℕ} {k : Fin n} (hk : T.csem k = .reg sem) (ha : T.amt k = a)
    {l : List (Fin n)} {W : Waits sig Unit} {kont : PUnit → Prog (TpuEff nD τ sig Val Λ .tc) α} (hr : τ.routes (c : Thread nD τ) (d : Thread nD τ) = true := by routes) :
    (iprop(T.records pay κ ∗ owes (c : Thread nD τ) (T.owed c (k :: l)) W ∗ dutyTok ER (T.cell (T.peer c) k) 0 () ∗ pay (T.peer c) k) : sProp 𝕄)
      ⊢ iprop((owes (c : Thread nD τ) (T.owed c l) W -∗ wp frame (wpE defs 𝒱 (c : Thread nD τ) none) Set.univ (kont ⟨⟩) Q)
          -∗ wp frame (wpE defs 𝒱 (c : Thread nD τ) none) Set.univ (.op (.semSignal (d : Thread nD τ) sem a) kont) Q) := by
  subst hd
  have e : (T.cell (T.peer c) k : GSem nD τ sig) = ((T.peer c : Thread nD τ), .reg sem) := by unfold cell; rw [hk]
  have h := Rounds.wp_signal (defs := defs) 𝒱 ER (T.Rd pay) (c : Thread nD τ) none (dst := (T.peer c : Thread nD τ)) (sem := sem) (r := 0) (d := ()) (k' := a)
    (κ := κ (T.peer c, k)) (k := kont) (Q := Q) (by rw [← e, duties_cell]; exact Finset.mem_singleton_self _) (by rw [← e, amount_cell, ha]) () (T.owed c l)
    (O₀ := T.owed c (k :: l)) (by rw [owed, e, ha]) (W := W) (Es := Set.univ) (Γ := .empty) hr
  rw [← e, payload_cell] at h
  iintro ⟨#HR, Ho, Ht, Hp⟩
  iapply h
  isplitr; · iapply (T.inv_at pay κ (T.peer c) k); iexact HR
  isplitl [Ho]; · iexact Ho
  isplitl [Ht]; · iexact Ht
  isplitl [Hp]; · iexact Hp
  iapply (T.reached_at pay κ (T.peer c) k); iexact HR

/-- A wait for a cell's one raise: its payload comes back. -/
theorem wp_wait (c : Dev nD) (k : Fin n) {w : TpuEff nD τ sig Val Λ .tc PUnit}
    (hw : ∀ X : PUnit → sProp 𝕄, wpE defs 𝒱 (c : Thread nD τ) none Set.univ w X = waitSpec (c : Thread nD τ) Set.univ (T.csem k) (T.amt k) X)
    {l : List (Fin n)} (hl : ∀ j ∈ l, T.lev k < T.lev j) {W : Waits sig Unit} {kont : PUnit → Prog (TpuEff nD τ sig Val Λ .tc) α} :
    (iprop(T.records pay κ ∗ levAts L T.lv ∗ cred (tallyAt (T.cell c k) () (T.amt k)) ∗ owes (c : Thread nD τ) (T.owed c l) W ∗ atPos ER (T.cell c k) 0 ∅ 0) : sProp 𝕄)
      ⊢ iprop(((owes (c : Thread nD τ) (T.owed c l) (insert (T.csem k, ()) W) ∗ atPos ER (T.cell c k) 1 ∅ 0 ∗ pay c k)
            -∗ wp frame (wpE defs 𝒱 (c : Thread nD τ) none) Set.univ (kont ⟨⟩) Q)
          -∗ wp frame (wpE defs 𝒱 (c : Thread nD τ) none) Set.univ (.op w kont) Q) := by
  iintro ⟨#HR, #HL, Hc, Ho, Ha⟩ Hk
  iapply (Rounds.wp_wait_rest_token 𝒱 ER (T.Rd pay) (c : Thread nD τ) none (κ := κ (c, k)) hw (Set.mem_univ _) () (O := T.owed c l) (W := W) (R := 0) (m := 0) (T := ∅)
      (by rw [Nat.zero_add]; exact (T.expect_cell pay c k).symm)) $$ [Hc Ho Ha]
  · isplitr; · iapply (T.inv_at pay κ c k); iexact HR
    isplitl [Hc]; · iexact Hc
    isplitl [Ho]; · iexact Ho
    isplitr
    · iapply (T.mayWait c (T.csem k) l fun j hj => by rw [T.lv_cell]; exact hl j hj); iexact HL
    iexact Ha
  iintro ⟨Ho, Ha, -, Hp⟩
  ihave Hp := (Entails.of_eq (T.rest_cell pay c k)) $$ Hp
  iapply Hk
  isplitl [Ho]; · iexact Ho
  isplitl [Ha] <;> iassumption

/-- A cell past its round closes: its counter at zero is the device's again. -/
theorem close (c : Dev nD) (k : Fin n) : (iprop(T.records pay κ ∗ atPos ER (T.cell c k) 1 ∅ 0) : sProp 𝕄) ⊢ |={Set.univ}=> semVal (T.cell c k) 0 := by
  iintro ⟨#HR, Ha⟩
  imod (Rounds.cell_close ER (T.Rd pay) (Set.mem_univ (κ (c, k))) (fun h => h) (R := 1) (T.duties_later pay (T.cell c k))) $$ [Ha] with Hz
  · isplitr; · iapply (T.inv_at pay κ c k); iexact HR
    iexact Ha
  imodintro; iexact Hz

/-- A copy to the peer, the next due: the source goes to the own cell `j`, what lands to the peer's cell `k`. -/
theorem wp_copy (c d : Dev nD) (hd : d = T.peer c) {j k : Fin n} {sp sp' : Space} {s : Shape} {e : EltTy}
    {src : Memref sig .tc sp s e} {dst : Memref sig .tc sp' s e} {sS sR : SemLoc sig} (hj : T.csem j = sS) (hk : T.csem k = sR)
    {hsc : (dst : Memref sig (Dev.tc d : Thread nD τ).2.kind sp' s e).view.ref.isScScratch = false}
    {hsrc : src.view.WordExact} {hdst : dst.view.WordExact}
    {hsem : DmaTarget.Typed sp sR (.remote (Dev.tc d : Thread nD τ) dst sS hsc)}
    (hN : dst.view.amount sR = T.amt k) (hjk : T.amt j = T.amt k)
    {q : PosShare TreeShare} {fs : Buf Val (src.view.loc (c : Thread nD τ))} {fd : Buf Val (dst.view.loc (T.peer c : Thread nD τ))}
    (hp : (src.view.loc (c : Thread nD τ) ↦[src.view.set]{q} fs) ⊢ pay c j)
    (hp' : (dst.view.loc (T.peer c : Thread nD τ) ↦[dst.view.set]{fullShare} (dst.view.write Val fd (src.view.read Val fs) Finset.univ)) ⊢ pay (T.peer c) k)
    {l : List (Fin n)} {W : Waits sig Unit} {kont : PUnit → Prog (TpuEff nD τ sig Val Λ .tc) α}
    (hr : τ.routes (c : Thread nD τ) (d : Thread nD τ) = true := by routes) :
    (iprop(T.records pay κ ∗ (src.view.loc (c : Thread nD τ) ↦[src.view.set]{q} fs) ∗ (dst.view.loc (T.peer c : Thread nD τ) ↦[dst.view.set]{fullShare} fd)
        ∗ owes (c : Thread nD τ) (T.owed c (k :: l)) W ∗ dutyTok ER (T.cell c j) 0 () ∗ dutyTok ER (T.cell (T.peer c) k) 0 ()) : sProp 𝕄)
      ⊢ iprop(((cred (tallyAt (T.cell c j) () (T.amt j)) ∗ owes (c : Thread nD τ) (T.owed c l) W) -∗ wp frame (wpE defs 𝒱 (c : Thread nD τ) none) Set.univ (kont ⟨⟩) Q)
          -∗ wp frame (wpE defs 𝒱 (c : Thread nD τ) none) Set.univ
              (.op (.enqueueDma src (.remote (Dev.tc d : Thread nD τ) dst sS hsc) sR hsrc hdst hsem) kont) Q) := by
  subst hd hj hk
  have h := Rounds.wp_send_pointsTo (defs := defs) 𝒱 ER (T.Rd pay) (c : Thread nD τ) none (κ₁ := κ (c, j)) (κ₂ := κ (T.peer c, k))
    (r₁ := 0) (r₂ := 0) (d₁ := ()) (d₂ := ()) (fd := fd) (fs := fs) (q := q) (src := src) (dst := dst) (c' := (T.peer c : Thread nD τ))
    (hsc := hsc) (hsrc := hsrc) (hdst := hdst) (hsem := hsem) (k := kont) (Q := Q) (Γ := .empty) (Es := Set.univ)
    (by rw [duties_cell]; exact Finset.mem_singleton_self _) (by rw [duties_cell]; exact Finset.mem_singleton_self _)
    () () (T.amt k) hN ((T.amount_cell pay c j).trans hjk) (T.amount_cell pay (T.peer c) k) (T.owed c l) (O₀ := T.owed c (k :: l)) rfl (W := W)
    (by rw [payload_cell]; exact hp) (by rw [payload_cell]; exact hp') hr
  iintro ⟨#HR, Hs, Hd, Ho, Htj, Htk⟩ Hk
  iapply h $$ [Hs Hd Ho Htj Htk]
  · isplitr; · iapply (T.inv_at pay κ c j); iexact HR
    isplitr; · iapply (T.inv_at pay κ (T.peer c) k); iexact HR
    isplitl [Hs]; · iexact Hs
    isplitl [Hd]; · iexact Hd
    isplitl [Ho]; · iexact Ho
    isplitl [Htj]; · iexact Htj
    isplitr; · iapply (T.reached_at pay κ c j); iexact HR
    isplitl [Htk]; · iexact Htk
    iapply (T.reached_at pay κ (T.peer c) k); iexact HR
  rw [hjk]; iexact Hk

end Rules

end Cells

end Cert.Talk

end
-- ==== Proof.CombineIdealTables.lean ====
/-
# The combine call: its cells, what is sent, what each device holds

Device `c` talks to `peer c`, the device across the mesh's last axis. It sums the rows its own experts computed for the peer's
tokens, half by half, into a send buffer and copies each half into the peer's receive buffer; its own tokens' rows it sums
itself and adds to what the peer sent. Five cells: the barrier, a send and a receive semaphore for each half.
-/
module

public import proofs.«01_k».proof.Proof.Gen.CombineIdeal
public import proofs.«01_k».proof.Proof.Gen.CombineIdeal.Skeleton
public import proofs.«01_k».proof.Proof.Gen.CombineIdeal.Launch
public import proofs.«01_k».proof.Proof.Gen.CombineIdeal.Points
public import proofs.«01_k».proof.Proof.Talk
public import Idealize.ShloMosaic.Lib.ViewIndex

@[expose] public section

noncomputable section

namespace Cert.CombineIdealRun

open Cert.CombineIdeal Cert.CombineIdeal.Gen Cert.Talk
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ sig) ℕ

/-! ## The peer and the cells -/

set_option backward.proofsInPublic true in
/-- The device across the last mesh axis. -/
def peer (c : Dev nD) : Dev nD :=
  ⟨(4 * (c.val / 4) + 2 * ((c.val / 2) % 2) + 1) - c.val % 2, by have := c.isLt; simp only [show nD = 8 from rfl] at *; omega⟩

theorem peer_peer (c : Dev nD) : peer (peer c) = c := by
  apply Fin.ext; have := c.isLt; simp only [show nD = 8 from rfl, peer] at *; omega

theorem dev1_eq (c : Dev nD) : (⟨k0_dev1 c, k0_dev1_lt c⟩ : Dev nD) = peer c := Fin.ext (k0_dev1_eq c)
theorem dev2_eq (c : Dev nD) : (⟨k0_dev2 c, k0_dev2_lt c⟩ : Dev nD) = peer c := Fin.ext (k0_dev2_eq c)
theorem dev3_eq (c : Dev nD) : (⟨k0_dev3 c, k0_dev3_lt c⟩ : Dev nD) = peer c := Fin.ext (k0_dev3_eq c)

abbrev xM : Memref sig .tc .vmem S8x320x1024 .f32 := Memref.whole cc0_stg0_0
abbrev kM : Memref sig .tc .vmem S8x320 .i32 := Memref.whole cc0_stg1_0
abbrev oM : Memref sig .tc .vmem S1024x1024 .f32 := Memref.whole cc0_stg2_0
abbrev sM : Memref sig .tc .vmem S1024x1024 .bf16 := Memref.whole cc0_scratch0
abbrev rM : Memref sig .tc .vmem S1024x1024 .bf16 := Memref.whole cc0_scratch1

/-- The two halves' rows, as the kernel slices them. -/
abbrev q0 : Rect S1024x1024 := Rect.unit (s := S1024x1024) ![0, 0] S512x1024.size inb_S1024x1024_S512x1024_0_0
abbrev q1 : Rect S1024x1024 := Rect.unit (s := S1024x1024) ![512, 0] S512x1024.size inb_S1024x1024_S512x1024_512_0
abbrev qW : Rect S1024x1024 := Rect.unit (s := S1024x1024) ![0, 0] S1024x1024.size inb_S1024x1024_S1024x1024_0_0

abbrev barS : Sem sig := (SemArray.scalar (sig.barrier 1 rfl) : Sems sig S_).sem
abbrev snd0 : DmaSem sig := ((cc0_scratch2.slice (Rect.unit (s := S2) ![0] S1.size inb_S2_S1_0)).squeeze S_ squeezes_S1_S_).sem
abbrev snd1 : DmaSem sig := ((cc0_scratch2.slice (Rect.unit (s := S2) ![1] S1.size inb_S2_S1_1)).squeeze S_ squeezes_S1_S_).sem
abbrev rcv0 : DmaSem sig := ((cc0_scratch3.slice (Rect.unit (s := S2) ![0] S1.size inb_S2_S1_0)).squeeze S_ squeezes_S1_S_).sem
abbrev rcv1 : DmaSem sig := ((cc0_scratch3.slice (Rect.unit (s := S2) ![1] S1.size inb_S2_S1_1)).squeeze S_ squeezes_S1_S_).sem

/-- The kernel's own (scoped) semaphores, as the launch indexes them. -/
abbrev osem : Fin 4 → SemLoc sig := fun | 0 => .dma snd0 | 1 => .dma snd1 | 2 => .dma rcv0 | 3 => .dma rcv1
/-- All five cells' semaphores: the barrier, the two sends, the two receives. -/
abbrev cs : Fin 5 → SemLoc sig := fun | 0 => .reg barS | 1 => .dma snd0 | 2 => .dma snd1 | 3 => .dma rcv0 | 4 => .dma rcv1

/-- The credit of one half. -/
abbrev N : ℕ := (rM.slice q0 (fun _ => rfl)).view.dmaCredit
theorem N_pos : 0 < N := View.dmaCredit_pos _ (by decide)

theorem cs_inj : Function.Injective cs := by decide

/-- The combine's protocol: a device signals its peer's barrier, then copies into it half by half. -/
def T : Cells nD sig 5 where
  csem := cs
  inj := cs_inj
  amt := fun | 0 => 1 | _ => N
  amt_pos := fun k => by fin_cases k <;> first | exact Nat.one_pos | exact N_pos
  lev := fun | 0 => 1 | 1 => 0 | 2 => 0 | 3 => 2 | 4 => 2
  peer := peer
  peer_peer := peer_peer
  dues := [0, 3, 4]
  dues_nodup := by decide

/-! ## What is read and what is sent -/

/-- Row `e` of the token table. -/
def tokRow (f : (cc0_stg1_0 : Ref sig .tc).ty.Contents (Elt F)) (e : Fin 8) : Vec F S1x320 .i32 :=
  kM.view.readAt (Elt F) (Rect.unit (s := S8x320) ![e.val, 0] S1x320.size (by intro a; fin_cases e <;> fin_cases a <;> decide)).toLoadRect f
/-- Expert `e`'s block of results. -/
def ygBlk (f : (cc0_stg0_0 : Ref sig .tc).ty.Contents (Elt F)) (e : Fin 8) : Vec F S1x320x1024 .f32 :=
  xM.view.readAt (Elt F) (Rect.unit (s := S8x320x1024) ![e.val, 0, 0] S1x320x1024.size (by intro a; fin_cases e <;> fin_cases a <;> decide)).toLoadRect f

/-! The kernel's loads, read by these names. -/

theorem row0 (f : (cc0_stg1_0 : Ref sig .tc).ty.Contents (Elt F)) :
    kM.view.readAt (Elt F) (Rect.unit (s := S8x320) ![0, 0] S1x320.size inb_S8x320_S1x320_0_0).toLoadRect f = tokRow f 0 := rfl
theorem blk0 (f : (cc0_stg0_0 : Ref sig .tc).ty.Contents (Elt F)) :
    xM.view.readAt (Elt F) (Rect.unit (s := S8x320x1024) ![0, 0, 0] S1x320x1024.size inb_S8x320x1024_S1x320x1024_0_0_0).toLoadRect f = ygBlk f 0 := rfl
theorem row1 (f : (cc0_stg1_0 : Ref sig .tc).ty.Contents (Elt F)) :
    kM.view.readAt (Elt F) (Rect.unit (s := S8x320) ![1, 0] S1x320.size inb_S8x320_S1x320_1_0).toLoadRect f = tokRow f 1 := rfl
theorem blk1 (f : (cc0_stg0_0 : Ref sig .tc).ty.Contents (Elt F)) :
    xM.view.readAt (Elt F) (Rect.unit (s := S8x320x1024) ![1, 0, 0] S1x320x1024.size inb_S8x320x1024_S1x320x1024_1_0_0).toLoadRect f = ygBlk f 1 := rfl
theorem row2 (f : (cc0_stg1_0 : Ref sig .tc).ty.Contents (Elt F)) :
    kM.view.readAt (Elt F) (Rect.unit (s := S8x320) ![2, 0] S1x320.size inb_S8x320_S1x320_2_0).toLoadRect f = tokRow f 2 := rfl
theorem blk2 (f : (cc0_stg0_0 : Ref sig .tc).ty.Contents (Elt F)) :
    xM.view.readAt (Elt F) (Rect.unit (s := S8x320x1024) ![2, 0, 0] S1x320x1024.size inb_S8x320x1024_S1x320x1024_2_0_0).toLoadRect f = ygBlk f 2 := rfl
theorem row3 (f : (cc0_stg1_0 : Ref sig .tc).ty.Contents (Elt F)) :
    kM.view.readAt (Elt F) (Rect.unit (s := S8x320) ![3, 0] S1x320.size inb_S8x320_S1x320_3_0).toLoadRect f = tokRow f 3 := rfl
theorem blk3 (f : (cc0_stg0_0 : Ref sig .tc).ty.Contents (Elt F)) :
    xM.view.readAt (Elt F) (Rect.unit (s := S8x320x1024) ![3, 0, 0] S1x320x1024.size inb_S8x320x1024_S1x320x1024_3_0_0).toLoadRect f = ygBlk f 3 := rfl
theorem row4 (f : (cc0_stg1_0 : Ref sig .tc).ty.Contents (Elt F)) :
    kM.view.readAt (Elt F) (Rect.unit (s := S8x320) ![4, 0] S1x320.size inb_S8x320_S1x320_4_0).toLoadRect f = tokRow f 4 := rfl
theorem blk4 (f : (cc0_stg0_0 : Ref sig .tc).ty.Contents (Elt F)) :
    xM.view.readAt (Elt F) (Rect.unit (s := S8x320x1024) ![4, 0, 0] S1x320x1024.size inb_S8x320x1024_S1x320x1024_4_0_0).toLoadRect f = ygBlk f 4 := rfl
theorem row5 (f : (cc0_stg1_0 : Ref sig .tc).ty.Contents (Elt F)) :
    kM.view.readAt (Elt F) (Rect.unit (s := S8x320) ![5, 0] S1x320.size inb_S8x320_S1x320_5_0).toLoadRect f = tokRow f 5 := rfl
theorem blk5 (f : (cc0_stg0_0 : Ref sig .tc).ty.Contents (Elt F)) :
    xM.view.readAt (Elt F) (Rect.unit (s := S8x320x1024) ![5, 0, 0] S1x320x1024.size inb_S8x320x1024_S1x320x1024_5_0_0).toLoadRect f = ygBlk f 5 := rfl
theorem row6 (f : (cc0_stg1_0 : Ref sig .tc).ty.Contents (Elt F)) :
    kM.view.readAt (Elt F) (Rect.unit (s := S8x320) ![6, 0] S1x320.size inb_S8x320_S1x320_6_0).toLoadRect f = tokRow f 6 := rfl
theorem blk6 (f : (cc0_stg0_0 : Ref sig .tc).ty.Contents (Elt F)) :
    xM.view.readAt (Elt F) (Rect.unit (s := S8x320x1024) ![6, 0, 0] S1x320x1024.size inb_S8x320x1024_S1x320x1024_6_0_0).toLoadRect f = ygBlk f 6 := rfl
theorem row7 (f : (cc0_stg1_0 : Ref sig .tc).ty.Contents (Elt F)) :
    kM.view.readAt (Elt F) (Rect.unit (s := S8x320) ![7, 0] S1x320.size inb_S8x320_S1x320_7_0).toLoadRect f = tokRow f 7 := rfl
theorem blk7 (f : (cc0_stg0_0 : Ref sig .tc).ty.Contents (Elt F)) :
    xM.view.readAt (Elt F) (Rect.unit (s := S8x320x1024) ![7, 0, 0] S1x320x1024.size inb_S8x320x1024_S1x320x1024_7_0_0).toLoadRect f = ygBlk f 7 := rfl

/-- The device's coordinate on the last axis, as the kernel computes it. -/
abbrev zw (c : Dev nD) : BitVec 32 := Scalar.remsi (Scalar.divsi (Dev.word c) 1#32) 2#32
/-- The first token of the peer's half `0`, -/
abbrev base0 (c : Dev nD) : BitVec 32 := Scalar.addi (Scalar.muli (Scalar.subi 1#32 (zw c)) 1024#32) 0#32
/-- of its half `1`, -/
abbrev base1 (c : Dev nD) : BitVec 32 := Scalar.addi (Scalar.muli (Scalar.subi 1#32 (zw c)) 1024#32) 512#32
/-- of the device's own tokens. -/
abbrev baseO (c : Dev nD) : BitVec 32 := Scalar.muli (zw c) 1024#32

section Sums
variable (c : Dev nD) (x : (cc0_stg0_0 : Ref sig .tc).ty.Contents (Elt F)) (k : (cc0_stg1_0 : Ref sig .tc).ty.Contents (Elt F))

abbrev far0a : FVec F S512x1024 .f32 := k0_pay1 c (tokRow k 0) (ygBlk x 0)
abbrev far0b : FVec F S512x1024 .f32 := k0_pay2 (base0 c) (far0a c x k) (tokRow k 1) (ygBlk x 1) (tokRow k 2) (ygBlk x 2) (tokRow k 3) (ygBlk x 3)
abbrev far0c : FVec F S512x1024 .f32 := k0_pay3 (base0 c) (far0b c x k) (tokRow k 4) (ygBlk x 4) (tokRow k 5) (ygBlk x 5) (tokRow k 6) (ygBlk x 6)
/-- What device `c` sends as half 0. -/
abbrev far0 : FVec F S512x1024 .bf16 := k0_pay4 (base0 c) (far0c c x k) (tokRow k 7) (ygBlk x 7)

/-- The row counter of a half. -/
abbrev cnt : IVec S512x320 32 := iota .tc S512x320 32 [0] iota_S512x320_d0_w32
abbrev far1a : FVec F S512x1024 .f32 :=
  k0_pay6 (base1 c) (k0_pay5 (tokRow k 0)) cnt (ygBlk x 0) (tokRow k 1) (ygBlk x 1) (tokRow k 2) (ygBlk x 2)
abbrev far1b : FVec F S512x1024 .f32 :=
  k0_pay9 (base1 c) (far1a c x k) (k0_pay7 (tokRow k 3)) cnt (k0_pay8 (base1 c)) (ygBlk x 3) (tokRow k 4) (ygBlk x 4) (tokRow k 5) (ygBlk x 5)
/-- What it sends as half 1. -/
abbrev far1 : FVec F S512x1024 .bf16 :=
  k0_pay12 (base1 c) (far1b c x k) (k0_pay10 (tokRow k 6)) cnt (k0_pay11 (base1 c)) (ygBlk x 6) (tokRow k 7) (ygBlk x 7)

abbrev own1 : FVec F S1024x1024 .f32 := k0_pay13 (zw c) (tokRow k 0) (ygBlk x 0) (tokRow k 1) (ygBlk x 1)
abbrev own2 : FVec F S1024x1024 .f32 :=
  k0_pay15 (baseO c) (own1 c x k) (k0_pay14 (zw c) (tokRow k 2)) (ygBlk x 2) (tokRow k 3) (ygBlk x 3) (tokRow k 4) (ygBlk x 4)
/-- The device's own experts' sum for its own tokens. -/
abbrev own : FVec F S1024x1024 .f32 :=
  k0_pay17 (baseO c) (own2 c x k) (k0_pay16 (baseO c) (tokRow k 5)) (ygBlk x 5) (tokRow k 6) (ygBlk x 6) (tokRow k 7) (ygBlk x 7)

/-- A position of the whole buffer within its half. -/
def within (i : S1024x1024.Idx) : S512x1024.Idx := fun a => ⟨(i a).val % S512x1024.size a, Nat.mod_lt _ (by fin_cases a <;> decide)⟩

/-- The send buffer once both halves are stored. -/
def sent : S1024x1024.Idx → Elt F .bf16 := fun i => if (i 0).val < 512 then far0 c x k (within i) else far1 c x k (within i)

end Sums

/-! ## The two halves of a buffer -/

theorem mem_q0 (i : S1024x1024.Idx) : i ∈ q0.set ↔ (i 0).val < 512 := by
  rw [Rect.mem_set_unit]
  constructor
  · intro h; exact (Nat.zero_add _ ▸ (h 0).2 : (i 0).val < 0 + 512) |> fun h => by omega
  · intro h a
    have hi := (i a).isLt
    fin_cases a
    · exact ⟨Nat.zero_le _, by show (i 0).val < 0 + 512; omega⟩
    · exact ⟨Nat.zero_le _, by show (i 1).val < 0 + 1024; have : (i 1).val < 1024 := hi; omega⟩
theorem mem_q1 (i : S1024x1024.Idx) : i ∈ q1.set ↔ 512 ≤ (i 0).val := by
  rw [Rect.mem_set_unit]
  constructor
  · intro h; exact (h 0).1
  · intro h a
    have hi := (i a).isLt
    fin_cases a
    · exact ⟨h, by show (i 0).val < 512 + 512; have : (i 0).val < 1024 := hi; omega⟩
    · exact ⟨Nat.zero_le _, by show (i 1).val < 0 + 1024; have : (i 1).val < 1024 := hi; omega⟩

theorem halves_disjoint : Disjoint q0.set q1.set := by
  rw [Finset.disjoint_left]; intro i h0 h1; rw [mem_q0] at h0; rw [mem_q1] at h1; omega
theorem halves_cover : q0.set ∪ q1.set = (Finset.univ : Finset S1024x1024.Idx) := by
  ext i; rw [Finset.mem_union, mem_q0, mem_q1]; simp only [Finset.mem_univ, iff_true]; omega

theorem within_q0 (x : q0.shape.Idx) : within (q0.emb x) = x := by
  funext a; apply Fin.ext
  have hx := (x a).isLt
  fin_cases a
  · show (0 + 1 * (x 0).val) % 512 = (x 0).val; have : (x 0).val < 512 := hx; omega
  · show (0 + 1 * (x 1).val) % 1024 = (x 1).val; have : (x 1).val < 1024 := hx; omega
theorem within_q1 (x : q1.shape.Idx) : within (q1.emb x) = x := by
  funext a; apply Fin.ext
  have hx := (x a).isLt
  fin_cases a
  · show (512 + 1 * (x 0).val) % 512 = (x 0).val; have : (x 0).val < 512 := hx; omega
  · show (0 + 1 * (x 1).val) % 1024 = (x 1).val; have : (x 1).val < 1024 := hx; omega

/-- Storing half 0 makes the send buffer agree with `sent` there; -/
theorem stored0 (c : Dev nD) (x : (cc0_stg0_0 : Ref sig .tc).ty.Contents (Elt F)) (k : (cc0_stg1_0 : Ref sig .tc).ty.Contents (Elt F))
    (f : (cc0_scratch0 : Ref sig .tc).ty.Contents (Elt F)) :
    ∀ i ∈ q0.set, (sM.access q0 : View sig .tc _ _ _).write (Elt F) f (far0 c x k) Finset.univ i = sent c x k i := by
  intro i hi
  rw [← View.set_slice_whole cc0_scratch0] at hi
  obtain ⟨y, rfl⟩ := View.exists_of_mem_set_slice hi
  refine (View.write_emb_of_mem (v := (sM.access q0 : View sig .tc _ _ _)) (Val := Elt F) f (far0 c x k) (x := y) (Finset.mem_univ _)).trans ?_
  show far0 c x k y = sent c x k (q0.emb y)
  unfold sent
  rw [if_pos ((mem_q0 _).mp (by rw [← View.set_slice_whole cc0_scratch0]; exact hi)), within_q0]
/-- storing half 1 likewise. -/
theorem stored1 (c : Dev nD) (x : (cc0_stg0_0 : Ref sig .tc).ty.Contents (Elt F)) (k : (cc0_stg1_0 : Ref sig .tc).ty.Contents (Elt F))
    (f : (cc0_scratch0 : Ref sig .tc).ty.Contents (Elt F)) :
    ∀ i ∈ q1.set, (sM.access q1 : View sig .tc _ _ _).write (Elt F) f (far1 c x k) Finset.univ i = sent c x k i := by
  intro i hi
  rw [← View.set_slice_whole cc0_scratch0] at hi
  obtain ⟨y, rfl⟩ := View.exists_of_mem_set_slice hi
  refine (View.write_emb_of_mem (v := (sM.access q1 : View sig .tc _ _ _)) (Val := Elt F) f (far1 c x k) (x := y) (Finset.mem_univ _)).trans ?_
  show far1 c x k y = sent c x k (q1.emb y)
  unfold sent
  rw [if_neg (not_lt.mpr ((mem_q1 _).mp (by rw [← View.set_slice_whole cc0_scratch0]; exact hi))), within_q1]

/-- A half copied lands as it was. -/
theorem landed (q : Rect S1024x1024) (hq hq') (f : (cc0_scratch1 : Ref sig .tc).ty.Contents (Elt F)) (g : S1024x1024.Idx → Elt F .bf16) :
    ∀ i ∈ q.set, (rM.slice q hq).view.write (Elt F) f ((sM.slice q hq').view.read (Elt F) g) Finset.univ i = g i := by
  intro i hi
  rw [← View.set_slice_whole cc0_scratch1] at hi
  obtain ⟨y, rfl⟩ := View.exists_of_mem_set_slice hi
  exact View.write_emb_of_mem (v := (rM.slice q hq).view) (Val := Elt F) f ((sM.slice q hq').view.read (Elt F) g) (x := y) (Finset.mem_univ _)

end Cert.CombineIdealRun

end
-- ==== Proof.CombineIdealRun.lean ====
/-
# The combine call runs: its body on a symbolic device, and the launch

The body is followed once, for a device `c`: signal the peer, wait for it, fill and send the two halves, sum the device's own
rows, wait for the four copies, add what came. `run_main` is the launch: every device ends with `outAt`, all counters at zero.
-/
module

public import proofs.«01_k».proof.Proof.CombineIdealTables
public import Idealize.ShloMosaic.Lib.Pipeline.Launch
public import Idealize.ShloMosaic.Lib.Pipeline.Kit
public import Idealize.ShloMosaic.Lib.Pipeline.CollectiveSegs
public import Idealize.ShloMosaic.Lib.Tactic

@[expose] public section

noncomputable section

namespace Cert.CombineIdealRun

open Cert.CombineIdeal Cert.CombineIdeal.Gen Cert.Talk
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ sig) ℕ

variable (m : (ℓ : Loc nD τ sig) → Buf (Elt F) ℓ) (ρ : Dev nD → PrngReg)

/-- The memory at launch. -/
def s₀ : MemSt nD τ sig (Elt F) := ⟨m, fun _ => 0, ρ⟩

/-- The experts' results as staged on device `c`; -/
def xstg (c : Dev nD) : (cc0_stg0_0 : Ref sig .tc).ty.Contents (Elt F) :=
  (win0_0.blk (0 : Fin 1)).view.read (Elt F) ((s₀ m ρ).mem ((c : Thread nD τ).loc main_arg0))
/-- its token table. -/
def kstg (c : Dev nD) : (cc0_stg1_0 : Ref sig .tc).ty.Contents (Elt F) :=
  (win0_1.blk (0 : Fin 1)).view.read (Elt F) ((s₀ m ρ).mem ((c : Thread nD τ).loc main_arg1))
/-- What device `c` sends. -/
def sentAt (c : Dev nD) : S1024x1024.Idx → Elt F .bf16 := sent c (xstg m ρ c) (kstg m ρ c)
/-- The kernel's result on device `c`. -/
def outAt (c : Dev nD) : (cc0_stg2_0 : Ref sig .tc).ty.Contents (Elt F) :=
  k0_pay18 (own c (xstg m ρ c) (kstg m ρ c)) (sentAt m ρ (peer c))

/-! ## What each raise hands over -/

/-- Part `I` of device `c`'s send buffer. -/
def sPts (c : Dev nD) (I : Finset S1024x1024.Idx) (f : S1024x1024.Idx → Elt F .bf16) : sProp 𝕄 := ((c : Thread nD τ).loc cc0_scratch0) ↦[I]{fullShare} f
/-- Part `I` of its receive buffer. -/
def rPts (c : Dev nD) (I : Finset S1024x1024.Idx) (f : S1024x1024.Idx → Elt F .bf16) : sProp 𝕄 := ((c : Thread nD τ).loc cc0_scratch1) ↦[I]{fullShare} f

instance sPts_storable (c : Dev nD) (I f) : BI.Storable (upEmb : UEmb _ 𝕄) (sPts (F := F) c I f) := by unfold sPts; infer_instance
instance rPts_storable (c : Dev nD) (I f) : BI.Storable (upEmb : UEmb _ 𝕄) (rPts (F := F) c I f) := by unfold rPts; infer_instance

theorem sPts_congr (c : Dev nD) {I : Finset S1024x1024.Idx} {f g : S1024x1024.Idx → Elt F .bf16} (h : ∀ i ∈ I, f i = g i) : (sPts c I f : sProp 𝕄) = sPts c I g := by
  unfold sPts; exact pointsTo_congr h
theorem rPts_congr (c : Dev nD) {I : Finset S1024x1024.Idx} {f g : S1024x1024.Idx → Elt F .bf16} (h : ∀ i ∈ I, f i = g i) : (rPts c I f : sProp 𝕄) = rPts c I g := by
  unfold rPts; exact pointsTo_congr h

/-- The send buffer is its two halves. -/
theorem s_halves (c : Dev nD) (f : S1024x1024.Idx → Elt F .bf16) :
    (((c : Thread nD τ).loc cc0_scratch0) ↦{fullShare} f : sProp 𝕄) ⊣⊢ iprop(sPts c q0.set f ∗ sPts c q1.set f) := by
  unfold sPts
  have h := pointsTo_union (Ix := Unit) (Name := ℕ) (U := UU nD τ sig) (Lvl := ℕ) (ℓ := (c : Thread nD τ).loc cc0_scratch0) (q := fullShare) (f := f) halves_disjoint
  rw [halves_cover] at h; exact h
/-- The receive buffer is its two halves. -/
theorem r_halves (c : Dev nD) (f : S1024x1024.Idx → Elt F .bf16) :
    (((c : Thread nD τ).loc cc0_scratch1) ↦{fullShare} f : sProp 𝕄) ⊣⊢ iprop(rPts c q0.set f ∗ rPts c q1.set f) := by
  unfold rPts
  have h := pointsTo_union (Ix := Unit) (Name := ℕ) (U := UU nD τ sig) (Lvl := ℕ) (ℓ := (c : Thread nD τ).loc cc0_scratch1) (q := fullShare) (f := f) halves_disjoint
  rw [halves_cover] at h; exact h

/-- What the one raise of each cell of device `c` hands it: the barrier, the peer's receive buffer; a send, its own half back; a
    receive, that half of what the peer sent. -/
def pay (c : Dev nD) : Fin 5 → sProp 𝕄
  | 0 => iprop(∃ f, rPts (peer c) q0.set f ∗ rPts (peer c) q1.set f)
  | 1 => sPts c q0.set (sentAt m ρ c)
  | 2 => sPts c q1.set (sentAt m ρ c)
  | 3 => rPts c q0.set (sentAt m ρ (peer c))
  | 4 => rPts c q1.set (sentAt m ρ (peer c))

instance pay_storable (c : Dev nD) (k : Fin 5) : BI.Storable (upEmb : UEmb _ 𝕄) (pay (F := F) m ρ c k) := by
  fin_cases k <;> (unfold pay; infer_instance)

/-! ## The pipeline's data -/

/-- What the body starts from: the protocol's start and the two scratch buffers. -/
def Φ₀ (c : Dev nD) : sProp 𝕄 :=
  iprop(T.start (pay m ρ) c ∗ (∃ f : S1024x1024.Idx → Elt F .bf16, ((c : Thread nD τ).loc cc0_scratch0) ↦{fullShare} f)
    ∗ ∃ f : S1024x1024.Idx → Elt F .bf16, ((c : Thread nD τ).loc cc0_scratch1) ↦{fullShare} f)
/-- What it ends with: the buffers, and every cell closed at zero. -/
def Φ₁ (c : Dev nD) : sProp 𝕄 :=
  iprop(((∃ f : S1024x1024.Idx → Elt F .bf16, ((c : Thread nD τ).loc cc0_scratch0) ↦{fullShare} f)
    ∗ ∃ f : S1024x1024.Idx → Elt F .bf16, ((c : Thread nD τ).loc cc0_scratch1) ↦{fullShare} f)
    ∗ semVal (T.cell c 0) 0 ∗ semVal (T.cell c 1) 0 ∗ semVal (T.cell c 2) 0 ∗ semVal (T.cell c 3) 0 ∗ semVal (T.cell c 4) 0)

def dats (_ : Fin 1) (c : Dev nD) : Dat τ (Elt F) Unit ℕ (UU nD τ sig) ℕ cfg0 c where
  A w := (s₀ m ρ).mem ((cfg0.win w).arr.view.loc (c : Thread nD τ))
  after w _ := match w with
    | ⟨0, _⟩ => xstg m ρ c
    | ⟨1, _⟩ => kstg m ρ c
    | ⟨2, _⟩ => outAt m ρ c
  Φ t := match t with
    | ⟨0, _⟩ => Φ₀ m ρ c
    | ⟨_ + 1, _⟩ => Φ₁ c
  q _ := fullShare
  owed t := match t with
    | ⟨0, _⟩ => T.owed₀ c
    | ⟨_ + 1, _⟩ => 0

abbrev 𝒱₀ : Variants := Variants.none

theorem owns_whole_eq (c : Dev nD) (b : Ref sig .tc) (X : b.ty.Contents (Elt F)) :
    (owns (Ix := Unit) (Name := ℕ) (U := UU nD τ sig) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## The parts that only read -/

section Reads

variable (c : Dev nD) (x : (cc0_stg0_0 : Ref sig .tc).ty.Contents (Elt F)) (k : (cc0_stg1_0 : Ref sig .tc).ty.Contents (Elt F))

/-- The two staged operands. -/
def ins : sProp 𝕄 := iprop((((c : Thread nD τ).loc cc0_stg0_0) ↦{fullShare} x) ∗ (((c : Thread nD τ).loc cc0_stg1_0) ↦{fullShare} k))

/-- Experts 1 to 3, half 0. -/
theorem part2 (v19 : BitVec 32) (v32 : FVec F S512x1024 .f32) {Q : FVec F S512x1024 .f32 → sProp 𝕄} :
    iprop(ins c x k ∗ (ins c x k -∗ Q (k0_pay2 v19 v32 (tokRow k 1) (ygBlk x 1) (tokRow k 2) (ygBlk x 2) (tokRow k 3) (ygBlk x 3))))
      ⊢ wp frame (wpE (defs₀ (F := F)) 𝒱₀ (c : Thread nD τ) none) Set.univ
          (k0_part2 xM (Memref.isWhole_whole _) kM (Memref.isWhole_whole _) oM (Memref.isWhole_whole _) sM (Memref.isWhole_whole _) rM (Memref.isWhole_whole _) cc0_scratch2 cc0_scratch3 v19 v32) Q := by
  rw [k0_part2_eq_skeleton]; unfold k0_part2_skel
  simp only [Prog.lift, Prog.bind_op, Prog.bind_ret, Prog.pure_eq_ret]
  unfold ins
  iintro ⟨⟨Hx, Hk⟩, HQ⟩
  iapply (wp_load 𝒱₀ (c : Thread nD τ) none Set.univ (m := kM) (Finset.subset_univ _)) $$ Hk; iintro Hk
  rw [row1]
  iapply (wp_load 𝒱₀ (c : Thread nD τ) none Set.univ (m := xM) (Finset.subset_univ _)) $$ Hx; iintro Hx
  rw [blk1]
  iapply (wp_load 𝒱₀ (c : Thread nD τ) none Set.univ (m := kM) (Finset.subset_univ _)) $$ Hk; iintro Hk
  rw [row2]
  iapply (wp_load 𝒱₀ (c : Thread nD τ) none Set.univ (m := xM) (Finset.subset_univ _)) $$ Hx; iintro Hx
  rw [blk2]
  iapply (wp_load 𝒱₀ (c : Thread nD τ) none Set.univ (m := kM) (Finset.subset_univ _)) $$ Hk; iintro Hk
  rw [row3]
  iapply (wp_load 𝒱₀ (c : Thread nD τ) none Set.univ (m := xM) (Finset.subset_univ _)) $$ Hx; iintro Hx
  rw [blk3]
  rw [wp_ret]; imodintro
  iapply HQ
  isplitl [Hx] <;> iassumption

/-- Experts 4 to 6, half 0. -/
theorem part3 (v19 : BitVec 32) (v74 : FVec F S512x1024 .f32) {Q : FVec F S512x1024 .f32 → sProp 𝕄} :
    iprop(ins c x k ∗ (ins c x k -∗ Q (k0_pay3 v19 v74 (tokRow k 4) (ygBlk x 4) (tokRow k 5) (ygBlk x 5) (tokRow k 6) (ygBlk x 6))))
      ⊢ wp frame (wpE (defs₀ (F := F)) 𝒱₀ (c : Thread nD τ) none) Set.univ
          (k0_part3 xM (Memref.isWhole_whole _) kM (Memref.isWhole_whole _) oM (Memref.isWhole_whole _) sM (Memref.isWhole_whole _) rM (Memref.isWhole_whole _) cc0_scratch2 cc0_scratch3 v19 v74) Q := by
  rw [k0_part3_eq_skeleton]; unfold k0_part3_skel
  simp only [Prog.lift, Prog.bind_op, Prog.bind_ret, Prog.pure_eq_ret]
  unfold ins
  iintro ⟨⟨Hx, Hk⟩, HQ⟩
  iapply (wp_load 𝒱₀ (c : Thread nD τ) none Set.univ (m := kM) (Finset.subset_univ _)) $$ Hk; iintro Hk
  rw [row4]
  iapply (wp_load 𝒱₀ (c : Thread nD τ) none Set.univ (m := xM) (Finset.subset_univ _)) $$ Hx; iintro Hx
  rw [blk4]
  iapply (wp_load 𝒱₀ (c : Thread nD τ) none Set.univ (m := kM) (Finset.subset_univ _)) $$ Hk; iintro Hk
  rw [row5]
  iapply (wp_load 𝒱₀ (c : Thread nD τ) none Set.univ (m := xM) (Finset.subset_univ _)) $$ Hx; iintro Hx
  rw [blk5]
  iapply (wp_load 𝒱₀ (c : Thread nD τ) none Set.univ (m := kM) (Finset.subset_univ _)) $$ Hk; iintro Hk
  rw [row6]
  iapply (wp_load 𝒱₀ (c : Thread nD τ) none Set.univ (m := xM) (Finset.subset_univ _)) $$ Hx; iintro Hx
  rw [blk6]
  rw [wp_ret]; imodintro
  iapply HQ
  isplitl [Hx] <;> iassumption

/-- Experts 0 to 2, half 1. -/
theorem part5 (v149 : BitVec 32) (v151 : IVec S320 32) (v152 : IVec S512x320 32) {Q : (Σ' (_ : FVec F S512x1024 .f32) (_ : IVec S320 32) (_ : IVec S512x320 32), IVec S512x320 32) → sProp 𝕄} :
    iprop(ins c x k ∗ (ins c x k -∗ Q (⟨k0_pay6 v149 v151 v152 (ygBlk x 0) (tokRow k 1) (ygBlk x 1) (tokRow k 2) (ygBlk x 2), k0_pay7 (tokRow k 3), cnt, k0_pay8 v149⟩)))
      ⊢ wp frame (wpE (defs₀ (F := F)) 𝒱₀ (c : Thread nD τ) none) Set.univ
          (k0_part5 xM (Memref.isWhole_whole _) kM (Memref.isWhole_whole _) oM (Memref.isWhole_whole _) sM (Memref.isWhole_whole _) rM (Memref.isWhole_whole _) cc0_scratch2 cc0_scratch3 v149 v151 v152) Q := by
  rw [k0_part5_eq_skeleton]; unfold k0_part5_skel
  simp only [Prog.lift, Prog.bind_op, Prog.bind_ret, Prog.pure_eq_ret]
  unfold ins
  iintro ⟨⟨Hx, Hk⟩, HQ⟩
  iapply (wp_load 𝒱₀ (c : Thread nD τ) none Set.univ (m := xM) (Finset.subset_univ _)) $$ Hx; iintro Hx
  rw [blk0]
  iapply (wp_load 𝒱₀ (c : Thread nD τ) none Set.univ (m := kM) (Finset.subset_univ _)) $$ Hk; iintro Hk
  rw [row1]
  iapply (wp_load 𝒱₀ (c : Thread nD τ) none Set.univ (m := xM) (Finset.subset_univ _)) $$ Hx; iintro Hx
  rw [blk1]
  iapply (wp_load 𝒱₀ (c : Thread nD τ) none Set.univ (m := kM) (Finset.subset_univ _)) $$ Hk; iintro Hk
  rw [row2]
  iapply (wp_load 𝒱₀ (c : Thread nD τ) none Set.univ (m := xM) (Finset.subset_univ _)) $$ Hx; iintro Hx
  rw [blk2]
  iapply (wp_load 𝒱₀ (c : Thread nD τ) none Set.univ (m := kM) (Finset.subset_univ _)) $$ Hk; iintro Hk
  rw [row3]
  rw [wp_ret]; imodintro
  iapply HQ
  isplitl [Hx] <;> iassumption

/-- Experts 3 to 5, half 1. -/
theorem part6 (v149 : BitVec 32) (v190 : FVec F S512x1024 .f32) (v192 : IVec S320 32) (v193 v194 : IVec S512x320 32) {Q : (Σ' (_ : FVec F S512x1024 .f32) (_ : IVec S320 32) (_ : IVec S512x320 32), IVec S512x320 32) → sProp 𝕄} :
    iprop(ins c x k ∗ (ins c x k -∗ Q (⟨k0_pay9 v149 v190 v192 v193 v194 (ygBlk x 3) (tokRow k 4) (ygBlk x 4) (tokRow k 5) (ygBlk x 5), k0_pay10 (tokRow k 6), cnt, k0_pay11 v149⟩)))
      ⊢ wp frame (wpE (defs₀ (F := F)) 𝒱₀ (c : Thread nD τ) none) Set.univ
          (k0_part6 xM (Memref.isWhole_whole _) kM (Memref.isWhole_whole _) oM (Memref.isWhole_whole _) sM (Memref.isWhole_whole _) rM (Memref.isWhole_whole _) cc0_scratch2 cc0_scratch3 v149 v190 v192 v193 v194) Q := by
  rw [k0_part6_eq_skeleton]; unfold k0_part6_skel
  simp only [Prog.lift, Prog.bind_op, Prog.bind_ret, Prog.pure_eq_ret]
  unfold ins
  iintro ⟨⟨Hx, Hk⟩, HQ⟩
  iapply (wp_load 𝒱₀ (c : Thread nD τ) none Set.univ (m := xM) (Finset.subset_univ _)) $$ Hx; iintro Hx
  rw [blk3]
  iapply (wp_load 𝒱₀ (c : Thread nD τ) none Set.univ (m := kM) (Finset.subset_univ _)) $$ Hk; iintro Hk
  rw [row4]
  iapply (wp_load 𝒱₀ (c : Thread nD τ) none Set.univ (m := xM) (Finset.subset_univ _)) $$ Hx; iintro Hx
  rw [blk4]
  iapply (wp_load 𝒱₀ (c : Thread nD τ) none Set.univ (m := kM) (Finset.subset_univ _)) $$ Hk; iintro Hk
  rw [row5]
  iapply (wp_load 𝒱₀ (c : Thread nD τ) none Set.univ (m := xM) (Finset.subset_univ _)) $$ Hx; iintro Hx
  rw [blk5]
  iapply (wp_load 𝒱₀ (c : Thread nD τ) none Set.univ (m := kM) (Finset.subset_univ _)) $$ Hk; iintro Hk
  rw [row6]
  rw [wp_ret]; imodintro
  iapply HQ
  isplitl [Hx] <;> iassumption

/-- Experts 2 to 4, the device's own tokens. -/
theorem part9 (v277 : BitVec 32) (v304 : FVec F S1024x1024 .f32) (v314 : FVec F S1024x320 .f32) {Q : (Σ' (_ : FVec F S1024x1024 .f32), FVec F S1024x320 .f32) → sProp 𝕄} :
    iprop(ins c x k ∗ (ins c x k -∗ Q (⟨k0_pay15 v277 v304 v314 (ygBlk x 2) (tokRow k 3) (ygBlk x 3) (tokRow k 4) (ygBlk x 4), k0_pay16 v277 (tokRow k 5)⟩)))
      ⊢ wp frame (wpE (defs₀ (F := F)) 𝒱₀ (c : Thread nD τ) none) Set.univ
          (k0_part9 xM (Memref.isWhole_whole _) kM (Memref.isWhole_whole _) oM (Memref.isWhole_whole _) sM (Memref.isWhole_whole _) rM (Memref.isWhole_whole _) cc0_scratch2 cc0_scratch3 v277 v304 v314) Q := by
  rw [k0_part9_eq_skeleton]; unfold k0_part9_skel
  simp only [Prog.lift, Prog.bind_op, Prog.bind_ret, Prog.pure_eq_ret]
  unfold ins
  iintro ⟨⟨Hx, Hk⟩, HQ⟩
  iapply (wp_load 𝒱₀ (c : Thread nD τ) none Set.univ (m := xM) (Finset.subset_univ _)) $$ Hx; iintro Hx
  rw [blk2]
  iapply (wp_load 𝒱₀ (c : Thread nD τ) none Set.univ (m := kM) (Finset.subset_univ _)) $$ Hk; iintro Hk
  rw [row3]
  iapply (wp_load 𝒱₀ (c : Thread nD τ) none Set.univ (m := xM) (Finset.subset_univ _)) $$ Hx; iintro Hx
  rw [blk3]
  iapply (wp_load 𝒱₀ (c : Thread nD τ) none Set.univ (m := kM) (Finset.subset_univ _)) $$ Hk; iintro Hk
  rw [row4]
  iapply (wp_load 𝒱₀ (c : Thread nD τ) none Set.univ (m := xM) (Finset.subset_univ _)) $$ Hx; iintro Hx
  rw [blk4]
  iapply (wp_load 𝒱₀ (c : Thread nD τ) none Set.univ (m := kM) (Finset.subset_univ _)) $$ Hk; iintro Hk
  rw [row5]
  rw [wp_ret]; imodintro
  iapply HQ
  isplitl [Hx] <;> iassumption

end Reads

/-! ## The copies -/

/-- One half copied to the peer: the send buffer's half goes to the own send cell, what lands to the peer's receive cell. -/
theorem wp_half (K : Dev nD × Fin 5 → ℕ) (c d : Dev nD) (hd : d = peer c) (q : Rect S1024x1024) (hq : ∀ a, q.stride a = 1) {j k : Fin 5} {sS sR : SemLoc sig}
    (hj : T.csem j = sS) (hk : T.csem k = sR)
    (hpj : pay m ρ c j = sPts c q.set (sentAt m ρ c)) (hpk : pay m ρ (peer c) k = rPts (peer c) q.set (sentAt m ρ (peer (peer c))))
    {hsc : (rM.slice q hq : Memref sig (Dev.tc d : Thread nD τ).2.kind .vmem q.shape .bf16).view.ref.isScScratch = false}
    {hsrc : (sM.slice q hq).view.WordExact} {hdst : (rM.slice q hq).view.WordExact}
    {hsem : DmaTarget.Typed .vmem sR (.remote (Dev.tc d : Thread nD τ) (rM.slice q hq) sS hsc)}
    (hN : (rM.slice q hq).view.amount sR = T.amt k) (hjk : T.amt j = T.amt k)
    (f : S1024x1024.Idx → Elt F .bf16) {l : List (Fin 5)} {W : Waits sig Unit}
    {α : Type} {Q : α → sProp 𝕄} {kont : PUnit → Prog (TpuEff nD τ sig (Elt F) Λ₀ .tc) α} :
    iprop(T.records (pay m ρ) K ∗ sPts c q.set (sentAt m ρ c) ∗ rPts (peer c) q.set f
        ∗ owes (c : Thread nD τ) (T.owed c (k :: l)) W ∗ dutyTok ER (T.cell c j) 0 () ∗ dutyTok ER (T.cell (peer c) k) 0 ())
      ⊢ iprop(((cred (tallyAt (T.cell c j) () (T.amt j)) ∗ owes (c : Thread nD τ) (T.owed c l) W) -∗ wp frame (wpE (defs₀ (F := F)) 𝒱₀ (c : Thread nD τ) none) Set.univ (kont ⟨⟩) Q)
          -∗ wp frame (wpE (defs₀ (F := F)) 𝒱₀ (c : Thread nD τ) none) Set.univ
              (.op (.enqueueDma (sM.slice q hq) (.remote (Dev.tc d : Thread nD τ) (rM.slice q hq) sS hsc) sR hsrc hdst hsem) kont) Q) := by
  have es : (sM.slice q hq).view.set = q.set := View.set_slice_whole cc0_scratch0 q
  have er : (rM.slice q hq).view.set = q.set := View.set_slice_whole cc0_scratch1 q
  have h := T.wp_copy (pay m ρ) K (defs := defs₀ (F := F)) 𝒱₀ c d hd (src := sM.slice q hq) (dst := rM.slice q hq) hj hk (hsc := hsc) (hsrc := hsrc) (hdst := hdst)
    (hsem := hsem) hN hjk (q := fullShare) (fs := sentAt m ρ c) (fd := f) (l := l) (W := W) (kont := kont) (Q := Q)
    (by rw [hpj, es]; exact BI.Entails.refl _)
    (by show _ ⊢ pay m ρ (peer c) k; rw [hpk, er, peer_peer]; exact Entails.of_eq (rPts_congr (peer c) (landed q hq hq f (sentAt m ρ c))))
  rw [es, er] at h
  exact h

/-! ## The body -/

theorem fin5 (Φ : Fin 5 → sProp 𝕄) : bigSep Finset.univ Φ = iprop(Φ 0 ∗ Φ 1 ∗ Φ 2 ∗ Φ 3 ∗ Φ 4) :=
  bigSep_univ_eq_bigSepL [0, 1, 2, 3, 4] (by decide) (by decide) Φ
theorem toks_eq (c : Dev nD) : (T.toks c : sProp 𝕄) = iprop(dutyTok ER (T.cell (peer c) 0) 0 () ∗ dutyTok ER (T.cell c 1) 0 () ∗ dutyTok ER (T.cell c 2) 0 ()
    ∗ dutyTok ER (T.cell (peer c) 3) 0 () ∗ dutyTok ER (T.cell (peer c) 4) 0 ()) := by unfold Cells.toks; rw [fin5]; rfl
theorem creds_eq (c : Dev nD) : (T.creds c : sProp 𝕄) = iprop(cred (tallyAt (T.cell c 0) () (T.amt 0)) ∗ cred (tallyAt (T.cell c 3) () (T.amt 3))
    ∗ cred (tallyAt (T.cell c 4) () (T.amt 4))) := by
  unfold Cells.creds
  exact bigSep_eq_bigSepL_of_eq ([0, 3, 4] : List (Fin 5)) rfl (by decide) _

/-- What the signal hands the peer: the device's receive buffer; -/
theorem bar_intro (c : Dev nD) (f : S1024x1024.Idx → Elt F .bf16) : iprop(rPts c q0.set f ∗ rPts c q1.set f) ⊢ pay m ρ (T.peer c) 0 := by
  show _ ⊢ iprop(∃ g, rPts (peer (peer c)) q0.set g ∗ rPts (peer (peer c)) q1.set g)
  rw [peer_peer]; iintro H; iexists f; iexact H
/-- what the wait yields: the peer's. -/
theorem bar_elim (c : Dev nD) : pay (F := F) m ρ c 0 ⊢ iprop(∃ g, rPts (peer c) q0.set g ∗ rPts (peer c) q1.set g) := BI.Entails.refl _

/-- The two receives' halves are the receive buffer, as the peer sent it; -/
theorem recv_join (c : Dev nD) : iprop(pay m ρ c 3 ∗ pay m ρ c 4)
    ⊢ (((c : Thread nD τ).loc cc0_scratch1) ↦{fullShare} (sentAt m ρ (peer c) : S1024x1024.Idx → Elt F .bf16) : sProp 𝕄) := (r_halves c _).2
/-- the two sends' the send buffer. -/
theorem send_join (c : Dev nD) : iprop(pay m ρ c 1 ∗ pay m ρ c 2)
    ⊢ (((c : Thread nD τ).loc cc0_scratch0) ↦{fullShare} (sentAt m ρ c : S1024x1024.Idx → Elt F .bf16) : sProp 𝕄) := (s_halves c _).2

section Body

variable (K : Dev nD × Fin 5 → ℕ)

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(((T.records (pay m ρ) K ∗ T.ats c ∗ T.toks c) ∗ T.creds c ∗ levAts Cells.L T.lv
      ∗ (∃ f : S1024x1024.Idx → Elt F .bf16, ((c : Thread nD τ).loc cc0_scratch0) ↦{fullShare} f)
      ∗ ∃ f : S1024x1024.Idx → Elt F .bf16, ((c : Thread nD τ).loc cc0_scratch1) ↦{fullShare} f)
    ∗ (dats m ρ 0 c).owesAt () t0_0.castSucc
    ∗ (∃ d, stg c cc0_stg0_0 ((dats m ρ 0 c).before (0 : Fin 3) t0_0 d))
    ∗ (∃ d, stg c cc0_stg1_0 ((dats m ρ 0 c).before (1 : Fin 3) t0_0 d))
    ∗ (∃ d, stg c cc0_stg2_0 ((dats m ρ 0 c).before (2 : Fin 3) t0_0 d)))

def bodyPost (c : Dev nD) : sProp 𝕄 :=
  iprop(Φ₁ c ∗ (dats m ρ 0 c).owesAt () t0_0.succ ∗ stg c cc0_stg0_0 (xstg m ρ c) ∗ stg c cc0_stg1_0 (kstg m ρ c) ∗ stg c cc0_stg2_0 (outAt m ρ c))

theorem hz : (![0, 0] : Fin 2 → Nat) = fun _ => 0 := funext fun a => by fin_cases a <;> rfl

/-- The receive buffer read whole; -/
theorem read_recv (f : (cc0_scratch1 : Ref sig .tc).ty.Contents (Elt F)) : rM.view.readAt (Elt F) qW.toLoadRect f = f :=
  Memref.readAt_unit_zero (Elt F) cc0_scratch1 hz _ f
/-- the result stored whole. -/
theorem write_out (f w : (cc0_stg2_0 : Ref sig .tc).ty.Contents (Elt F)) :
    (oM.access qW : View sig .tc _ _ _).write (Elt F) f w Finset.univ = w := Memref.write_access_unit_zero_univ (Elt F) cc0_stg2_0 hz _ f w

/-- A half's dead load stays in the half. -/
theorem set_load (q : Rect S1024x1024) : sM.view.setOn q.toLoadRect.set ⊆ q.set := by
  intro i hi; obtain ⟨x, hx, e⟩ := Finset.mem_map.mp hi; exact e ▸ hx

/-- Half 1 as stored. -/
theorem stored1_pts (c : Dev nD) (f : S1024x1024.Idx → Elt F .bf16) :
    (((sM.access q1 : View sig .tc _ _ _).loc (c : Thread nD τ) ↦[q1.set]{fullShare}
        ((sM.access q1 : View sig .tc _ _ _).write (Elt F) f (far1 c (xstg m ρ c) (kstg m ρ c)) Finset.univ)) : sProp 𝕄) ⊢ sPts c q1.set (sentAt m ρ c) :=
  Entails.of_eq (sPts_congr c (stored1 c (xstg m ρ c) (kstg m ρ c) f))

/-- The wait for cell 1. -/
theorem wait1 (c : Dev nD) {hsrc hdst} (X : PUnit → sProp 𝕄) :
    wpE (defs₀ (F := F)) 𝒱₀ (c : Thread nD τ) none Set.univ (.waitDma2 snd0 (rM.slice q0 (fun _ => rfl)) (sM.slice q0 (fun _ => rfl)) hsrc hdst) X
      = waitSpec (c : Thread nD τ) Set.univ (T.csem 1) (T.amt 1) X := rfl
/-- The wait for cell 2. -/
theorem wait2 (c : Dev nD) {hsrc hdst} (X : PUnit → sProp 𝕄) :
    wpE (defs₀ (F := F)) 𝒱₀ (c : Thread nD τ) none Set.univ (.waitDma2 snd1 (rM.slice q1 (fun _ => rfl)) (sM.slice q1 (fun _ => rfl)) hsrc hdst) X
      = waitSpec (c : Thread nD τ) Set.univ (T.csem 2) (T.amt 2) X := rfl
/-- The wait for cell 3. -/
theorem wait3 (c : Dev nD) {hsrc hdst} (X : PUnit → sProp 𝕄) :
    wpE (defs₀ (F := F)) 𝒱₀ (c : Thread nD τ) none Set.univ (.waitDma2 rcv0 (sM.slice q0 (fun _ => rfl)) (rM.slice q0 (fun _ => rfl)) hsrc hdst) X
      = waitSpec (c : Thread nD τ) Set.univ (T.csem 3) (T.amt 3) X := rfl
/-- The wait for cell 4. -/
theorem wait4 (c : Dev nD) {hsrc hdst} (X : PUnit → sProp 𝕄) :
    wpE (defs₀ (F := F)) 𝒱₀ (c : Thread nD τ) none Set.univ (.waitDma2 rcv1 (sM.slice q1 (fun _ => rfl)) (rM.slice q1 (fun _ => rfl)) hsrc hdst) X
      = waitSpec (c : Thread nD τ) Set.univ (T.csem 4) (T.amt 4) X := rfl

set_option maxHeartbeats 400000 in
/-- The body, rule by rule in program order. -/
theorem sound_body (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0__combine_body xM (Memref.isWhole_whole _) kM (Memref.isWhole_whole _) oM (Memref.isWhole_whole _) sM (Memref.isWhole_whole _) rM (Memref.isWhole_whole _) cc0_scratch2 cc0_scratch3) Kt := by
  rw [cc0__combine_body_eq_skeleton]; unfold cc0__combine_body_skel
  unfold bodyPre
  rw [toks_eq, creds_eq, Cells.ats, fin5]
  iintro ⟨⟨⟨⟨#HR, ⟨Ha0, Ha1, Ha2, Ha3, Ha4⟩, Ht0, Ht1, Ht2, Ht3, Ht4⟩, ⟨Hc0, Hc3, Hc4⟩, #HL, ⟨%fs, Hs⟩, ⟨%fr, Hr⟩⟩,
    Ho, ⟨%d0, %g0, %hg0, Hx⟩, ⟨%d1, %g1, %hg1, Hk⟩, ⟨%d2, %g2, %hg2, Hout⟩⟩, HK⟩
  have hx : g0 = xstg m ρ c := by rw [hg0]; unfold Dat.before; rw [if_pos (fetch0_0 t0_0)]; rfl
  have hk : g1 = kstg m ρ c := by rw [hg1]; unfold Dat.before; rw [if_pos (fetch0_1 t0_0)]; rfl
  subst hx; subst hk
  unfold Dat.owesAt Pipeline.owesWithin
  icases Ho with ⟨%W, %hW, HO⟩
  rw [show (dats m ρ 0 c).owed t0_0.castSucc = T.owed c [0, 3, 4] from rfl]
  rw [wp_bind, k0_part1_eq_skeleton]; unfold k0_part1_skel
  simp only [semSignalWord, semWaitWord, Prog.lift, Prog.bind_op, Prog.bind_ret, Prog.pure_eq_ret, wp_deviceId, dev1_eq c]
  -- the signal: the peer gets the receive buffer
  ihave Hr := (r_halves c fr).1 $$ Hr
  icases Hr with ⟨Hr0, Hr1⟩
  iapply (T.wp_signal (pay m ρ) K 𝒱₀ c (peer c) rfl (k := 0) (l := [3, 4]) rfl (by rfl)) $$ [HO Ht0 Hr0 Hr1]
  · isplitr; · iexact HR
    isplitl [HO]; · iexact HO
    isplitl [Ht0]; · iexact Ht0
    iapply (bar_intro m ρ c fr); isplitl [Hr0] <;> iassumption
  iintro HO
  -- the wait: the peer's receive buffer comes
  iapply (T.wp_wait (pay m ρ) K 𝒱₀ c 0 (wpE_semWait_eq 𝒱₀ (c : Thread nD τ) none Set.univ) (l := [3, 4]) (by decide)) $$ [HO Hc0 Ha0]
  · isplitr; · iexact HR
    isplitr; · iexact HL
    isplitl [Hc0]; · iexact Hc0
    isplitl [HO] <;> iassumption
  iintro ⟨HO, Ha0, Hp⟩
  ihave Hp := (bar_elim m ρ c) $$ Hp
  icases Hp with ⟨%fp, Hp0, Hp1⟩
  iapply (wp_load 𝒱₀ (c : Thread nD τ) none Set.univ (m := kM) (Finset.subset_univ _)) $$ Hk; iintro Hk
  rw [row0]
  iapply (wp_load 𝒱₀ (c : Thread nD τ) none Set.univ (m := xM) (Finset.subset_univ _)) $$ Hx; iintro Hx
  rw [blk0]
  rw [wp_ret]; imodintro; dsimp only
  -- half 0 is summed
  rw [wp_bind]
  iapply (part2 c (xstg m ρ c) (kstg m ρ c) (base0 c) (far0a c (xstg m ρ c) (kstg m ρ c)))
  isplitl [Hx Hk]
  · unfold ins; isplitl [Hx] <;> iassumption
  unfold ins; iintro ⟨Hx, Hk⟩
  try dsimp only
  rw [wp_bind]
  iapply (part3 c (xstg m ρ c) (kstg m ρ c) (base0 c) (far0b c (xstg m ρ c) (kstg m ρ c)))
  isplitl [Hx Hk]
  · unfold ins; isplitl [Hx] <;> iassumption
  unfold ins; iintro ⟨Hx, Hk⟩
  -- half 0 is stored and sent
  try dsimp only
  rw [wp_bind, k0_part4_eq_skeleton]; unfold k0_part4_skel
  simp only [Prog.lift, Prog.bind_op, Prog.bind_ret, Prog.pure_eq_ret]
  iapply (wp_load 𝒱₀ (c : Thread nD τ) none Set.univ (m := kM) (Finset.subset_univ _)) $$ Hk; iintro Hk
  rw [row7]
  iapply (wp_load 𝒱₀ (c : Thread nD τ) none Set.univ (m := xM) (Finset.subset_univ _)) $$ Hx; iintro Hx
  rw [blk7]
  iapply (wp_load 𝒱₀ (c : Thread nD τ) none Set.univ (m := sM) (Finset.subset_univ _)) $$ Hs; iintro Hs
  iapply (wp_store 𝒱₀ (c : Thread nD τ) none Set.univ (m := sM) (r := q0) (Mk := Finset.univ) (Finset.subset_univ _)) $$ Hs; iintro Hs
  ihave Hs := (s_halves c _).1 $$ Hs
  icases Hs with ⟨Hs0, Hs1⟩
  ihave Hs0 := (Entails.of_eq (sPts_congr c (stored0 c (xstg m ρ c) (kstg m ρ c) fs))) $$ Hs0
  iapply (wp_half m ρ K c _ (dev2_eq c) q0 (fun _ => rfl) (j := 1) (k := 3) rfl rfl rfl rfl rfl rfl fp (l := [4])) $$ [Hs0 Hp0 HO Ht1 Ht3]
  · isplitr; · iexact HR
    isplitl [Hs0]; · iexact Hs0
    isplitl [Hp0]; · iexact Hp0
    isplitl [HO]; · iexact HO
    isplitl [Ht1] <;> iassumption
  iintro ⟨Hc1, HO⟩
  iapply (wp_load 𝒱₀ (c : Thread nD τ) none Set.univ (m := kM) (Finset.subset_univ _)) $$ Hk; iintro Hk
  rw [row0]
  rw [wp_ret]; imodintro
  -- half 1 is summed
  try dsimp only
  rw [wp_bind]
  iapply (part5 c (xstg m ρ c) (kstg m ρ c) (base1 c) (k0_pay5 (tokRow (kstg m ρ c) 0)) cnt)
  isplitl [Hx Hk]
  · unfold ins; isplitl [Hx] <;> iassumption
  unfold ins; iintro ⟨Hx, Hk⟩
  try dsimp only
  rw [wp_bind]
  iapply (part6 c (xstg m ρ c) (kstg m ρ c) (base1 c) (far1a c (xstg m ρ c) (kstg m ρ c)) (k0_pay7 (tokRow (kstg m ρ c) 3)) cnt (k0_pay8 (base1 c)))
  isplitl [Hx Hk]
  · unfold ins; isplitl [Hx] <;> iassumption
  unfold ins; iintro ⟨Hx, Hk⟩
  try dsimp only
  rw [wp_bind, k0_part7_eq_skeleton]; unfold k0_part7_skel
  simp only [Prog.lift, Prog.bind_op, Prog.bind_ret, Prog.pure_eq_ret]
  iapply (wp_load 𝒱₀ (c : Thread nD τ) none Set.univ (m := xM) (Finset.subset_univ _)) $$ Hx; iintro Hx
  rw [blk6]
  iapply (wp_load 𝒱₀ (c : Thread nD τ) none Set.univ (m := kM) (Finset.subset_univ _)) $$ Hk; iintro Hk
  rw [row7]
  iapply (wp_load 𝒱₀ (c : Thread nD τ) none Set.univ (m := xM) (Finset.subset_univ _)) $$ Hx; iintro Hx
  rw [blk7]
  unfold sPts
  iapply (wp_load 𝒱₀ (c : Thread nD τ) none Set.univ (m := sM) (set_load q1)) $$ Hs1; iintro Hs1
  iapply (wp_store 𝒱₀ (c : Thread nD τ) none Set.univ (m := sM) (r := q1) (Mk := Finset.univ) (by rw [View.setOn_univ, View.set_slice_whole])) $$ Hs1; iintro Hs1
  rw [wp_ret]; imodintro
  ihave Hs1 := (stored1_pts m ρ c _) $$ Hs1
  -- half 1 is sent
  try dsimp only
  rw [wp_bind, k0_part8_eq_skeleton]; unfold k0_part8_skel
  simp only [Prog.lift, Prog.bind_op, Prog.bind_ret, Prog.pure_eq_ret]
  iapply (wp_half m ρ K c _ (dev3_eq c) q1 (fun _ => rfl) (j := 2) (k := 4) rfl rfl rfl rfl rfl rfl fp (l := [])) $$ [Hs1 Hp1 HO Ht2 Ht4]
  · isplitr; · iexact HR
    isplitl [Hs1]; · iexact Hs1
    isplitl [Hp1]; · iexact Hp1
    isplitl [HO]; · iexact HO
    isplitl [Ht2] <;> iassumption
  iintro ⟨Hc2, HO⟩
  -- the device's own tokens
  iapply (wp_load 𝒱₀ (c : Thread nD τ) none Set.univ (m := kM) (Finset.subset_univ _)) $$ Hk; iintro Hk
  rw [row0]
  iapply (wp_load 𝒱₀ (c : Thread nD τ) none Set.univ (m := xM) (Finset.subset_univ _)) $$ Hx; iintro Hx
  rw [blk0]
  iapply (wp_load 𝒱₀ (c : Thread nD τ) none Set.univ (m := kM) (Finset.subset_univ _)) $$ Hk; iintro Hk
  rw [row1]
  iapply (wp_load 𝒱₀ (c : Thread nD τ) none Set.univ (m := xM) (Finset.subset_univ _)) $$ Hx; iintro Hx
  rw [blk1]
  iapply (wp_load 𝒱₀ (c : Thread nD τ) none Set.univ (m := kM) (Finset.subset_univ _)) $$ Hk; iintro Hk
  rw [row2]
  rw [wp_ret]; imodintro
  try dsimp only
  rw [wp_bind]
  iapply (part9 c (xstg m ρ c) (kstg m ρ c) (baseO c) (own1 c (xstg m ρ c) (kstg m ρ c)) (k0_pay14 (zw c) (tokRow (kstg m ρ c) 2)))
  isplitl [Hx Hk]
  · unfold ins; isplitl [Hx] <;> iassumption
  unfold ins; iintro ⟨Hx, Hk⟩
  try dsimp only
  rw [wp_bind, k0_part10_eq_skeleton]; unfold k0_part10_skel
  simp only [Prog.lift, Prog.bind_op, Prog.bind_ret, Prog.pure_eq_ret]
  iapply (wp_load 𝒱₀ (c : Thread nD τ) none Set.univ (m := xM) (Finset.subset_univ _)) $$ Hx; iintro Hx
  rw [blk5]
  iapply (wp_load 𝒱₀ (c : Thread nD τ) none Set.univ (m := kM) (Finset.subset_univ _)) $$ Hk; iintro Hk
  rw [row6]
  iapply (wp_load 𝒱₀ (c : Thread nD τ) none Set.univ (m := xM) (Finset.subset_univ _)) $$ Hx; iintro Hx
  rw [blk6]
  iapply (wp_load 𝒱₀ (c : Thread nD τ) none Set.univ (m := kM) (Finset.subset_univ _)) $$ Hk; iintro Hk
  rw [row7]
  iapply (wp_load 𝒱₀ (c : Thread nD τ) none Set.univ (m := xM) (Finset.subset_univ _)) $$ Hx; iintro Hx
  rw [blk7]
  -- the four waits
  iapply (T.wp_wait (pay m ρ) K 𝒱₀ c 1 (wait1 c) (l := []) (by decide)) $$ [HO Hc1 Ha1]
  · isplitr; · iexact HR
    isplitr; · iexact HL
    isplitl [Hc1]; · iexact Hc1
    isplitl [HO] <;> iassumption
  iintro ⟨HO, Ha1, Hp1⟩
  rw [wp_ret]; imodintro
  try dsimp only
  rw [wp_bind, k0_part11_eq_skeleton]; unfold k0_part11_skel
  simp only [Prog.lift, Prog.bind_op, Prog.bind_ret, Prog.pure_eq_ret]
  iapply (T.wp_wait (pay m ρ) K 𝒱₀ c 3 (wait3 c) (l := []) (by decide)) $$ [HO Hc3 Ha3]
  · isplitr; · iexact HR
    isplitr; · iexact HL
    isplitl [Hc3]; · iexact Hc3
    isplitl [HO] <;> iassumption
  iintro ⟨HO, Ha3, Hp3⟩
  iapply (T.wp_wait (pay m ρ) K 𝒱₀ c 2 (wait2 c) (l := []) (by decide)) $$ [HO Hc2 Ha2]
  · isplitr; · iexact HR
    isplitr; · iexact HL
    isplitl [Hc2]; · iexact Hc2
    isplitl [HO] <;> iassumption
  iintro ⟨HO, Ha2, Hp2⟩
  iapply (T.wp_wait (pay m ρ) K 𝒱₀ c 4 (wait4 c) (l := []) (by decide)) $$ [HO Hc4 Ha4]
  · isplitr; · iexact HR
    isplitr; · iexact HL
    isplitl [Hc4]; · iexact Hc4
    isplitl [HO] <;> iassumption
  iintro ⟨HO, Ha4, Hp4⟩
  -- what came is added
  ihave Hr := (recv_join m ρ c) $$ [Hp3 Hp4]
  · isplitl [Hp3] <;> iassumption
  ihave Hs := (send_join m ρ c) $$ [Hp1 Hp2]
  · isplitl [Hp1] <;> iassumption
  iapply (wp_load 𝒱₀ (c : Thread nD τ) none Set.univ (m := rM) (Finset.subset_univ _)) $$ Hr; iintro Hr
  rw [read_recv]
  iapply (wp_load 𝒱₀ (c : Thread nD τ) none Set.univ (m := oM) (Finset.subset_univ _)) $$ Hout; iintro Hout
  iapply (wp_store 𝒱₀ (c : Thread nD τ) none Set.univ (m := oM) (r := qW) (Mk := Finset.univ) (Finset.subset_univ _)) $$ Hout; iintro Hout
  rw [write_out, wp_ret]; imodintro
  -- the cells close
  imod (T.close (pay m ρ) K c 0) $$ [Ha0] with Hz0
  · isplitr; · iexact HR
    iexact Ha0
  imod (T.close (pay m ρ) K c 1) $$ [Ha1] with Hz1
  · isplitr; · iexact HR
    iexact Ha1
  imod (T.close (pay m ρ) K c 2) $$ [Ha2] with Hz2
  · isplitr; · iexact HR
    iexact Ha2
  imod (T.close (pay m ρ) K c 3) $$ [Ha3] with Hz3
  · isplitr; · iexact HR
    iexact Ha3
  imod (T.close (pay m ρ) K c 4) $$ [Ha4] with Hz4
  · isplitr; · iexact HR
    iexact Ha4
  try dsimp only
  rw [wp_ret]; imodintro
  iapply HK
  unfold bodyPost Φ₁ Dat.owesAt Pipeline.owesWithin
  rw [show (dats m ρ 0 c).owed t0_0.succ = 0 from rfl]
  isplitl [Hs Hr Hz0 Hz1 Hz2 Hz3 Hz4]
  · isplitl [Hs Hr]
    · isplitl [Hs]; · iexists _; iexact Hs
      iexists _; iexact Hr
    isplitl [Hz0]; · iexact Hz0
    isplitl [Hz1]; · iexact Hz1
    isplitl [Hz2]; · iexact Hz2
    isplitl [Hz3] <;> iassumption
  isplitl [HO]
  · iexists (insert (T.csem 4, ()) (insert (T.csem 2, ()) (insert (T.csem 3, ()) (insert (T.csem 1, ()) (insert (T.csem 0, ()) W)))))
    isplitr; · ipureintro; exact fun _ _ => Or.inl trivial
    iexact HO
  isplitl [Hx]
  · iexists _; isplitr; · (ipureintro; rfl)
    iexact Hx
  isplitl [Hk]
  · iexists _; isplitr; · (ipureintro; rfl)
    iexact Hk
  iexists _; isplitr; · (ipureintro; rfl)
  iexact Hout

end Body

set_option maxRecDepth 4000 in
/-- What the pipeline calls the body with. -/
def bodyPre' (c : Dev nD) : sProp 𝕄 :=
  iprop(Φ₀ m ρ c ∗ (dats m ρ 0 c).owesAt () t0_0.castSucc
    ∗ (∃ d, stg c cc0_stg0_0 ((dats m ρ 0 c).before (0 : Fin 3) t0_0 d))
    ∗ (∃ d, stg c cc0_stg1_0 ((dats m ρ 0 c).before (1 : Fin 3) t0_0 d))
    ∗ (∃ d, stg c cc0_stg2_0 ((dats m ρ 0 c).before (2 : Fin 3) t0_0 d)))

set_option maxRecDepth 4000 in
/-- The library's body obligation on device `c`. -/
theorem body_obligation (c : Dev nD) : Pipeline.BodyObligationLoose (dats (F := F) m ρ 0 c) (defs₀ (F := F)) 𝒱₀ () Set.univ :=
  BodyObligation.loose _ <| show BodyObligation (dats (F := F) m ρ 0 c) (defs₀ (F := F)) 𝒱₀ () Set.univ from fun t => by
  rw [fin_N0 t]
  rw [bigSep_W0, bigSep_W0]
  simp only [owns_whole_eq]
  show bodyPre' m ρ c ⊢ wp frame (wpE (defs₀ (F := F)) 𝒱₀ c none) Set.univ (cc0__combine_body xM (Memref.isWhole_whole _) kM (Memref.isWhole_whole _) oM (Memref.isWhole_whole _) sM (Memref.isWhole_whole _) rM (Memref.isWhole_whole _) cc0_scratch2 cc0_scratch3) (fun _ => bodyPost m ρ c)
  unfold bodyPre' Φ₀ Cells.start Cells.ghost
  iintro ⟨⟨⟨⟨%K, Hg⟩, Hc, HL⟩, Hs, Hr⟩, Ho, Hx, Hk, Hout⟩
  iapply (sound_body m ρ K c fun _ => bodyPost m ρ c)
  unfold bodyPre
  isplitr []
  · isplitl [Hg Hc HL Hs Hr]
    · isplitl [Hg]; · iexact Hg
      isplitl [Hc]; · iexact Hc
      isplitl [HL]; · iexact HL
      isplitl [Hs] <;> iassumption
    isplitl [Ho]; · iexact Ho
    isplitl [Hx]; · iexact Hx
    isplitl [Hk] <;> iassumption
  · iintro H; iexact H

/-! ## The launch -/

theorem ownSemFacts : Pipeline.OwnSemFacts cfg0.spec osem := by decide

theorem share_eq (c : Dev nD) (w : Fin cfg0.W) : (dats m ρ 0 c).share w = fullShare := by unfold Dat.share; split <;> rfl

/-- The ghost state at launch: the pipeline's and the protocol's. -/
def u₀ : UU nD τ sig :=
  (initOf (Pipeline.cells cfgs cellOf_inj) (Pipeline.launchToks cfgs cellOf_inj), initOf (T.allCells (τ := τ)) (T.allToks (τ := τ)))

/-- The kernel's own semaphores are the two sends and the two receives; -/
theorem ownSems0_eq (c : Dev nD) : (Pipeline.ownSems0 (Ix := Unit) (Name := ℕ) (U := UU nD τ sig) (Lvl := ℕ) (Val := Elt F) (τ := τ) osem c : sProp 𝕄)
    = iprop(semVal (T.cell c 1) 0 ∗ semVal (T.cell c 2) 0 ∗ semVal (T.cell c 3) 0 ∗ semVal (T.cell c 4) 0) := by
  rw [Pipeline.ownSems0_eq_of_list c osem [0, 1, 2, 3] (by decide) (by decide)]; rfl
/-- the barrier is the launch's one unscoped semaphore. -/
theorem unscopedSems0_eq (c : Dev nD) : (unscopedSems0 c : sProp 𝕄) = semVal (T.cell c 0) 0 := by
  unfold unscopedSems0; rw [bigSep_eq_bigSepL_of_eq [SemLoc.reg barS] (by decide) (by decide)]; rfl

/-- A device's semaphores at zero are its five cells at zero. -/
theorem sems_eq (c : Dev nD) :
    iprop(Pipeline.ownSems0 (Ix := Unit) (Name := ℕ) (U := UU nD τ sig) (Lvl := ℕ) (Val := Elt F) (τ := τ) osem c ∗ unscopedSems0 c)
      ⊢ (bigSep Finset.univ fun k : Fin 5 => semVal (T.cell c k) 0 : sProp 𝕄) := by
  rw [ownSems0_eq, unscopedSems0_eq, fin5]
  iintro ⟨H, H0⟩
  isplitl [H0] <;> iassumption

/-- Three resources, the first two together. -/
theorem regroup3 (A B C : sProp 𝕄) : iprop(A ∗ B ∗ C) ⊢ iprop((A ∗ B) ∗ C) := by
  iintro ⟨HA, HB, HC⟩
  isplitl [HA HB]
  · isplitl [HA] <;> iassumption
  iexact HC

/-- Every device's cells become invariants, their tokens dealt to who raises them. -/
theorem glob :
    (bigSep Finset.univ fun c : Dev nD => iprop(Pipeline.ownSems0 (Ix := Unit) (Name := ℕ) (U := UU nD τ sig) (Lvl := ℕ) (Val := Elt F) (τ := τ) osem c ∗ unscopedSems0 c ∗ T.dealt (pay m ρ) c) : sProp 𝕄)
      ⊢ |={Set.univ}=> bigSep Finset.univ (T.ghost (pay m ρ)) := by
  have h (c : Dev nD) := (regroup3 _ _ _).trans (T.alloc (pay m ρ) c (sems_eq c))
  exact ((bigSep_mono fun c _ => h c).trans (bigSep_fupd _ _)).trans (BI.fupd_mono (T.regroup (pay m ρ)))

/-- What a device starts from. -/
theorem start_intro (c : Dev nD) :
    iprop(Pipeline.unscopedRestP Pipeline.Prefetch.none cfg0.spec c (fun b => m ((c : Thread nD τ).loc b)) ∗ levAts Cells.L T.lv ∗ Pipeline.launchCred (T.owed₀ (τ := τ)) c ∗ prngReg c (ρ c) ∗ T.ghost (pay m ρ) c)
      ⊢ |={Set.univ}=> iprop(T.start (pay m ρ) c ∗ emp) := by
  iintro ⟨-, HL, Hc, -, Hg⟩
  imodintro
  isplitl
  · unfold Cells.start
    isplitl [Hg]; · iexact Hg
    isplitl [Hc]; · iapply (T.creds_intro c); iexact Hc
    iexact HL
  · iempintro

/-- The body's start from the launch's; -/
theorem phi0_intro (c : Dev nD) :
    iprop(T.start (pay m ρ) c ∗ Pipeline.prefHeld Pipeline.Prefetch.none c (fun _ => fullShare.right) (fun k => k.elim0) ∗ Pipeline.scopedRest cfg0.spec c)
      ⊢ (dats (F := F) m ρ 0 c).Φ 0 := by
  show _ ⊢ Φ₀ m ρ c
  rw [scopedRest0_eq]; unfold Φ₀
  iintro ⟨HS, -, H0, H1⟩
  isplitl [HS]; · iexact HS
  isplitl [H0] <;> iassumption

/-- what the body leaves. -/
theorem phi1_exit (c : Dev nD) :
    (dats (F := F) m ρ 0 c).Φ (Fin.last cfg0.N) ⊢ iprop(unscopedSems0 c ∗ Pipeline.ownSems0 (Ix := Unit) (Name := ℕ) (U := UU nD τ sig) (Lvl := ℕ) (Val := Elt F) (τ := τ) osem c ∗ Pipeline.scopedRest cfg0.spec c) := by
  show Φ₁ c ⊢ _
  rw [scopedRest0_eq, ownSems0_eq, unscopedSems0_eq]; unfold Φ₁
  iintro ⟨HB, H0, Hrest⟩
  isplitl [H0]; · iexact H0
  isplitl [Hrest] <;> iassumption

/-- The pipeline's own waits are below everything owed. -/
theorem waits (c : Dev nD) : (levAts Cells.L T.lv : sProp 𝕄) ⊢ Pipeline.cellsWaits cfgs (dats m ρ) () 0 c :=
  Pipeline.cellsWaits_intro cfgs (dats m ρ) () 0 c fun w s t => by
    have hs : ∀ k, T.csem k ≠ .dma ((cfg0.win w).sem s) := by
      clear t; revert w s; decide
    obtain ⟨t, ht⟩ := t
    cases t with
    | zero => exact T.mayWait c _ [0, 3, 4] fun j hj => by rw [T.lv_other c hs]; clear hs; revert j; decide
    | succ t =>
      show _ ⊢ MayWait (c : Thread nD τ) _ () 0
      rw [MayWait_zero]; iintro -; iempintro

/-- Window `w`'s array after the launch on device `c`. -/
def finalA (c : Dev nD) (w : Fin cfg0.W) := (dats m ρ 0 c).arrAt w cfg0.N
/-- Every window's array, on every device. -/
def QC (r : PUnit × MemSt nD τ sig (Elt F)) : Prop :=
  ∀ c : Dev nD, ∀ w : Fin cfg0.W, r.2.mem ((cfg0.win w).arr.view.loc (c : Thread nD τ)) = finalA m ρ c w

set_option maxRecDepth 8000 in
/-- The launch: from any memory every schedule ends, every window's array as stated and every counter at zero. -/
theorem run_main : θ_run (defs (F := F)) (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1) winFacts0.to₀ ownSemFacts (Pipeline.PreFacts.none _) EP defs₀ 𝒱₀ m ρ main
    (hmain := fun _ => rfl) (hbody := body_obligation m ρ) (hne := fun w => by fin_cases w <;> exact Nat.succ_pos _) (harr := arr_whole0) (hstage := stage_whole0)
    (hshare := share_eq m ρ) (hdistinct := winFacts0.arr_inj) (O₀ := T.owed₀) (howed₀ := fun _ => rfl) (howedN := fun _ => rfl)
    (L := Cells.L) (lv := T.lv) (hL := Cells.L_of_ne) (hwaits := waits m ρ) (G := T.dealt (pay m ρ)) (G' := T.ghost (pay m ρ)) (u₀ := u₀)
    (hu₀ := by
      unfold u₀; iintro Hu
      ihave H := (ownU_pair _ _) $$ Hu
      icases H with ⟨HP, HX⟩
      imod (T.fund (pay m ρ)) $$ HX with HG
      imodintro
      isplitl [HP] <;> iassumption)
    (hglob := glob m ρ) (hA := fun _ _ => rfl) (hpf := fun _ k => k.elim0)
    (X := T.start (pay m ρ)) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The operands' arrays are as they were; -/
theorem finalA_x (c : Dev nD) : finalA m ρ c (0 : Fin 3) = m ((c : Thread nD τ).loc main_arg0) := (dats m ρ 0 c).arrAt_in (0 : Fin _) rfl _
theorem finalA_k (c : Dev nD) : finalA m ρ c (1 : Fin 3) = m ((c : Thread nD τ).loc main_arg1) := (dats m ρ 0 c).arrAt_in (1 : Fin _) rfl _

end Cert.CombineIdealRun

end
-- ==== Proof.OneHot.lean ====
/-
  A product with a one-hot matrix, over the extended reals: row `r` of the product is the sum of the rows of the block
  whose token is `base + r`. And the same sum as a host scatter that adds rows at the positions of a table.
-/
module

public import Idealize.ShloMosaic.Lib.MatmulPlain
public import Idealize.ShloMosaic.Lib.Pipeline.Value
public import Idealize.ShloMosaic.Lib.IdealHost

@[expose] public section

noncomputable section

namespace Cert.OneHot

open Idealize.ShloMosaic Idealize.ShloMosaic.ValueIdx
open scoped BigOperators

variable {F : FTy → Type} [FloatOps F] {M C D : ℕ}

/-- The matrix whose row `r` marks the slots of `row` that hold token `base + r`. -/
def hot (base : BitVec 32) (row : IVec ⟨2, ![1, C]⟩ 32) (h₁ : (⟨2, ![1, C]⟩ : Shape).ShapeCasts ⟨1, ![C]⟩)
    (h₂ : (⟨1, ![C]⟩ : Shape).ShapeCasts ⟨2, ![1, C]⟩) (h₃ : (⟨2, ![1, C]⟩ : Shape).Broadcasts ⟨2, ![M, C]⟩)
    (h₄ : (⟨2, ![M, C]⟩ : Shape).Iotas .tc 32 [0]) : FVec F ⟨2, ![M, C]⟩ .f32 :=
  sitofp .f32 (extui 32 (cmpi .eq (addi (iota .tc ⟨2, ![M, C]⟩ 32 [0] h₄) (broadcast ⟨2, ![M, C]⟩ base))
    (broadcastTo ⟨2, ![M, C]⟩ (shapeCast ⟨2, ![1, C]⟩ (shapeCast ⟨1, ![C]⟩ row h₁) h₂) h₃)))

/-- That matrix times the block `blk`. -/
def term (base : BitVec 32) (row : IVec ⟨2, ![1, C]⟩ 32) (blk : FVec F ⟨3, ![1, C, D]⟩ .f32) (h₁ : (⟨2, ![1, C]⟩ : Shape).ShapeCasts ⟨1, ![C]⟩)
    (h₂ : (⟨1, ![C]⟩ : Shape).ShapeCasts ⟨2, ![1, C]⟩) (h₃ : (⟨2, ![1, C]⟩ : Shape).Broadcasts ⟨2, ![M, C]⟩)
    (h₄ : (⟨2, ![M, C]⟩ : Shape).Iotas .tc 32 [0]) (h₅ : (⟨3, ![1, C, D]⟩ : Shape).ShapeCasts ⟨2, ![C, D]⟩) : FVec F ⟨2, ![M, D]⟩ .f32 :=
  matmul (DotDims.plain M C D) none (hot base row h₁ h₂ h₃ h₄) (shapeCast ⟨2, ![C, D]⟩ blk h₅) (constant ⟨2, ![M, D]⟩ .f32 0x00000000#32)

/-- A mark, over the extended reals. -/
theorem hot_apply (base : BitVec 32) (row : IVec ⟨2, ![1, C]⟩ 32) (h₁ h₂ h₃ h₄) (r : Fin M) (s : Fin C) :
    (hot (F := Ideal) (M := M) base row h₁ h₂ h₃ h₄) (ix2 r s) = if BitVec.ofNat 32 r.val + base = row (ix2 0 s) then (1 : EReal) else 0 := by
  have hrow : broadcastTo ⟨2, ![M, C]⟩ (shapeCast ⟨2, ![1, C]⟩ (shapeCast ⟨1, ![C]⟩ row h₁) h₂) h₃ (ix2 r s) = row (ix2 0 s) := by
    rw [shapeCast_shapeCast]
    refine broadcastTo_apply row h₃ (ix2 r s) (ix2 0 s) fun a => ?_
    match a with
    | ⟨0, _⟩ => rfl
    | ⟨1, _⟩ =>
      show s.val = if C = 1 then 0 else s.val
      split
      · have := s.isLt; omega
      · rfl
  unfold hot
  show ((((IntOp.cmpi .eq (IntOp.addi (iota .tc ⟨2, ![M, C]⟩ 32 [0] h₄ (ix2 r s)) base)
    (broadcastTo ⟨2, ![M, C]⟩ (shapeCast ⟨2, ![1, C]⟩ (shapeCast ⟨1, ![C]⟩ row h₁) h₂) h₃ (ix2 r s))).setWidth 32).toInt : ℝ) : EReal) = _
  rw [hrow, iota_single_apply]
  show ((((BitVec.ofBool (BitVec.ofNat 32 r.val + base == row (ix2 0 s))).setWidth 32).toInt : ℝ) : EReal) = _
  by_cases h : BitVec.ofNat 32 r.val + base = row (ix2 0 s)
  · rw [if_pos h, beq_iff_eq.2 h]
    have : ((BitVec.ofBool true).setWidth 32).toInt = 1 := by decide
    rw [this]; simp
  · rw [if_neg h, beq_eq_false_iff_ne.2 h]
    have : ((BitVec.ofBool false).setWidth 32).toInt = 0 := by decide
    rw [this]; simp

/-- A row of the product, over the extended reals. -/
theorem term_apply (base : BitVec 32) (row : IVec ⟨2, ![1, C]⟩ 32) (blk : FVec Ideal ⟨3, ![1, C, D]⟩ .f32) (h₁ h₂ h₃ h₄ h₅) (r : Fin M) (d : Fin D) :
    term (F := Ideal) (M := M) base row blk h₁ h₂ h₃ h₄ h₅ (ix2 r d)
      = ∑ s : Fin C, if BitVec.ofNat 32 r.val + base = row (ix2 0 s) then (blk (ix3 0 s d) : EReal) else 0 := by
  unfold term
  refine (Ideal.matmul_plain_apply none _ _ _ r d).trans ?_
  have h0 : (constant (F := Ideal) ⟨2, ![M, D]⟩ .f32 0x00000000#32) (ix2 r d) = (0 : EReal) := by
    show Ideal.ofBits .f32 0x00000000#32 = 0
    simp [Ideal.ofBits, Ideal.ieee]
  rw [h0]
  refine (zero_add _).trans (Finset.sum_congr rfl fun s _ => ?_)
  rw [hot_apply]
  have hb : shapeCast ⟨2, ![C, D]⟩ blk h₅ (ix2 s d) = blk (ix3 0 s d) := by
    refine (shapeCast_dropUnit_apply ![C, D] blk h₅ (ix2 s d)).trans (congrArg blk ?_)
    funext a
    match a with
    | ⟨0, _⟩ => rfl
    | ⟨1, _⟩ => rfl
    | ⟨2, _⟩ => rfl
  rw [hb]
  split
  · exact one_mul _
  · exact zero_mul _

/-! ## The host's scatter -/

section Scatter
variable {T N : ℕ}

/-- The scatter of rows: update row `n` is added to the operand's row that the table names for it. -/
abbrev rows (wf : ScatterDims.WF (⟨2, ![T, D]⟩ : Shape) (⟨2, ![N, 1]⟩ : Shape) (⟨2, ![N, D]⟩ : Shape) [1] [0] [0] 1) :
    ScatterDims (⟨2, ![T, D]⟩ : Shape) (⟨2, ![N, 1]⟩ : Shape) (⟨2, ![N, D]⟩ : Shape) where
  updateWindowDims := [1]
  insertedWindowDims := [0]
  scatterDimsToOperandDims := [0]
  indexVectorDim := 1
  wf := wf

variable (wf : ScatterDims.WF (⟨2, ![T, D]⟩ : Shape) (⟨2, ![N, 1]⟩ : Shape) (⟨2, ![N, D]⟩ : Shape) [1] [0] [0] 1)

theorem start0 (j : (⟨2, ![N, D]⟩ : Shape).Idx) (idx : IVec ⟨2, ![N, 1]⟩ 32) : (rows wf).start j idx 0 = (idx (ix2 (j 0) 0)).toInt := by
  unfold ScatterDims.start
  rw [dif_pos (show (0 : Fin 2) ∈ [(0 : Fin 2)] by decide)]
  refine congrArg (fun i => (idx i).toInt) ?_
  funext a
  match a with
  | ⟨0, _⟩ => rfl
  | ⟨1, _⟩ => rfl
theorem start1 (j : (⟨2, ![N, D]⟩ : Shape).Idx) (idx : IVec ⟨2, ![N, 1]⟩ 32) : (rows wf).start j idx 1 = 0 := by
  unfold ScatterDims.start
  exact dif_neg (show ¬(1 : Fin 2) ∈ [(0 : Fin 2)] by decide)
theorem window0 (j : (⟨2, ![N, D]⟩ : Shape).Idx) : (rows wf).window j 0 = 0 := rfl
theorem window1 (j : (⟨2, ![N, D]⟩ : Shape).Idx) : (rows wf).window j 1 = (j 1).val := rfl

/-- Update element `(n, d')` lands on `(t, d)` when the table names row `t` for `n` and the columns agree. -/
theorem lands (j : (⟨2, ![N, D]⟩ : Shape).Idx) (idx : IVec ⟨2, ![N, 1]⟩ 32) (t : Fin T) (d : Fin D) :
    (rows wf).resultIdx? j idx = some (ix2 t d) ↔ (idx (ix2 (j 0) 0)).toInt = t.val ∧ j 1 = d := by
  unfold ScatterDims.resultIdx?
  constructor
  · intro h
    split at h
    · rename_i hb
      have h' := Option.some.inj h
      have e0 := congrArg Fin.val (congrFun h' 0)
      have e1 := congrArg Fin.val (congrFun h' 1)
      have hb0 := hb 0
      simp only [start0, start1, window0, window1] at e0 e1 hb0
      refine ⟨?_, Fin.ext ?_⟩
      · have : ((idx (ix2 (j 0) 0)).toInt + (0 : ℕ)).toNat = t.val := e0
        omega
      · have : ((0 : Int) + ((j 1).val : ℕ)).toNat = d.val := e1
        omega
    · exact absurd h (by simp)
  · rintro ⟨h0, h1⟩
    have hb : ∀ a, 0 ≤ (rows wf).start j idx a + (rows wf).window j a ∧ (rows wf).start j idx a + (rows wf).window j a < (⟨2, ![T, D]⟩ : Shape).size a := by
      intro a
      match a with
      | ⟨0, _⟩ =>
        show 0 ≤ (rows wf).start j idx 0 + (rows wf).window j 0 ∧ (rows wf).start j idx 0 + (rows wf).window j 0 < (T : Int)
        rw [start0, window0, h0]; have := t.isLt; omega
      | ⟨1, _⟩ =>
        show 0 ≤ (rows wf).start j idx 1 + (rows wf).window j 1 ∧ (rows wf).start j idx 1 + (rows wf).window j 1 < (D : Int)
        rw [start1, window1]; have : (j 1).val < D := (j 1).isLt; omega
    rw [dif_pos hb]
    refine congrArg some ?_
    funext a
    apply Fin.ext
    match a with
    | ⟨0, _⟩ =>
      show ((rows wf).start j idx 0 + (rows wf).window j 0).toNat = t.val
      rw [start0, window0, h0]; omega
    | ⟨1, _⟩ =>
      show ((rows wf).start j idx 1 + (rows wf).window j 1).toNat = d.val
      rw [start1, window1, ← h1]; omega

/-- The scatter over the extended reals: the operand's element plus every update row that the table sends there. -/
theorem scatter_apply (x : FVec Ideal ⟨2, ![T, D]⟩ .f32) (idx : IVec ⟨2, ![N, 1]⟩ 32) (upd : FVec Ideal ⟨2, ![N, D]⟩ .f32) (t : Fin T) (d : Fin D) :
    Host.scatterAdd (rows wf) x idx upd (ix2 t d)
      = (x (ix2 t d) : EReal) + ∑ n : Fin N, if (idx (ix2 n 0)).toInt = t.val then (upd (ix2 n d) : EReal) else 0 := by
  show (x (ix2 t d) : EReal) + ∑ j ∈ Finset.univ.filter (fun j => (rows wf).resultIdx? j idx = some (ix2 t d)), upd j = _
  refine congrArg ((x (ix2 t d) : EReal) + ·) ?_
  rw [Finset.sum_filter, sum_idx2]
  refine Finset.sum_congr rfl fun n _ => ?_
  have h (d' : Fin D) : (if (rows wf).resultIdx? (ix2 n d') idx = some (ix2 t d) then (upd (ix2 n d') : EReal) else 0)
      = if d' = d then (if (idx (ix2 n 0)).toInt = t.val then (upd (ix2 n d) : EReal) else 0) else 0 := by
    by_cases hd : d' = d
    · subst hd
      rw [if_pos rfl]
      exact if_congr ((lands wf _ idx t d').trans ⟨fun h => h.1, fun h => ⟨h, rfl⟩⟩) rfl rfl
    · rw [if_neg hd, if_neg fun h => hd ((lands wf _ idx t d).1 h).2]
  rw [Finset.sum_congr rfl fun d' _ => h d', Finset.sum_ite_eq' Finset.univ d, if_pos (Finset.mem_univ _)]

end Scatter

end Cert.OneHot

end
-- ==== Proof.CombineIdealValue.lean ====
/-
  What the combine computes, over the extended reals: row `i` of device `c`'s result is the sum, over its experts' and
  its peer's experts' slots, of the rows whose token is that row's.
-/
module

public import proofs.«01_k».proof.Proof.CombineIdealRun
public import proofs.«01_k».proof.Proof.OneHot
public import proofs.«01_k».proof.Proof.Gen.CombineIdeal.Points

@[expose] public section

noncomputable section

namespace Cert.CombineIdealRun

open Cert.CombineIdeal Cert.CombineIdeal.Gen Cert.Talk
open Idealize.ShloMosaic Idealize.ShloMosaic.TcCoe Idealize.ShloMosaic.ValueIdx
open Idealize.SL Idealize.SL.Sem
open Cert.OneHot
open scoped BigOperators

/-! ## The sums as chains of one-hot products -/

section Chains
variable {F : FTy → Type} [FloatOps F] (c : Dev nD) (x : (cc0_stg0_0 : Ref sig .tc).ty.Contents (Elt F)) (k : (cc0_stg1_0 : Ref sig .tc).ty.Contents (Elt F))

/-- Expert `e`'s one-hot product for a half's rows; -/
abbrev half (base : BitVec 32) (e : Fin 8) : FVec F S512x1024 .f32 :=
  term (M := 512) base (tokRow k e) (ygBlk x e) shapeCasts_S1x320_S320 shapeCasts_S320_S1x320 broadcasts_S1x320_S512x320 iota_S512x320_d0_w32 shapeCasts_S1x320x1024_S320x1024
/-- for all of a device's rows. -/
abbrev whole (base : BitVec 32) (e : Fin 8) : FVec F S1024x1024 .f32 :=
  term (M := 1024) base (tokRow k e) (ygBlk x e) shapeCasts_S1x320_S320 shapeCasts_S320_S1x320 broadcasts_S1x320_S1024x320 iota_S1024x320_d0_w32 shapeCasts_S1x320x1024_S320x1024

/-- The eight experts' products, added in order. -/
abbrev chain {s : Shape} (f : Fin 8 → FVec F s .f32) : FVec F s .f32 :=
  addf (addf (addf (addf (addf (addf (addf (f 0) (f 1)) (f 2)) (f 3)) (f 4)) (f 5)) (f 6)) (f 7)

theorem far0_eq : far0 c x k = truncf .bf16 (chain (half x k (base0 c))) bitsLt_bf16_f32 :=
  shapeCast_self (truncf .bf16 (chain (half x k (base0 c))) bitsLt_bf16_f32) shapeCasts_S512x1024_S512x1024
theorem far1_eq : far1 c x k = truncf .bf16 (chain (half x k (base1 c))) bitsLt_bf16_f32 :=
  shapeCast_self (truncf .bf16 (chain (half x k (base1 c))) bitsLt_bf16_f32) shapeCasts_S512x1024_S512x1024
theorem own_eq : own c x k = chain (whole x k (baseO c)) := rfl

/-- The loads at an index. -/
theorem tokRow_apply (e : Fin 8) (s : Fin 320) : tokRow (F := F) k e (ix2 0 s) = k (ix2 e s) := by
  refine congrArg k ?_
  funext a
  apply Fin.ext
  match a with
  | ⟨0, _⟩ => show e.val + 1 * 0 = e.val; omega
  | ⟨1, _⟩ => show 0 + 1 * s.val = s.val; omega
theorem ygBlk_apply (e : Fin 8) (s : Fin 320) (d : Fin 1024) : ygBlk (F := F) x e (ix3 0 s d) = x (ix3 e s d) := by
  refine congrArg x ?_
  funext a
  apply Fin.ext
  match a with
  | ⟨0, _⟩ => show e.val + 1 * 0 = e.val; omega
  | ⟨1, _⟩ => show 0 + 1 * s.val = s.val; omega
  | ⟨2, _⟩ => show 0 + 1 * d.val = d.val; omega

end Chains

/-! ## The words -/

theorem zw_eq (c : Dev nD) : zw c = BitVec.ofNat 32 (c.val % 2) := by revert c; decide
theorem base0_eq (c : Dev nD) : base0 c = BitVec.ofNat 32 ((1 - c.val % 2) * 1024) := by revert c; decide
theorem base1_eq (c : Dev nD) : base1 c = BitVec.ofNat 32 ((1 - c.val % 2) * 1024 + 512) := by revert c; decide
theorem baseO_eq (c : Dev nD) : baseO c = BitVec.ofNat 32 (c.val % 2 * 1024) := by revert c; decide
theorem peer_mod (c : Dev nD) : (peer c).val % 2 = 1 - c.val % 2 := by revert c; decide

/-! ## The sums over the extended reals -/

/-- The rows of token `t` in a device's blocks, summed at column `d`. -/
def part (x : (cc0_stg0_0 : Ref sig .tc).ty.Contents (Elt Ideal)) (k : (cc0_stg1_0 : Ref sig .tc).ty.Contents (Elt Ideal)) (t : ℕ) (d : Fin 1024) : EReal :=
  ∑ e : Fin 8, ∑ s : Fin 320, if BitVec.ofNat 32 t = k (ix2 e s) then (x (ix3 e s d) : EReal) else 0

variable (c : Dev nD) (x : (cc0_stg0_0 : Ref sig .tc).ty.Contents (Elt Ideal)) (k : (cc0_stg1_0 : Ref sig .tc).ty.Contents (Elt Ideal))

theorem chain_apply {s : Shape} (f : Fin 8 → FVec Ideal s .f32) (i : s.Idx) : chain f i = ∑ e : Fin 8, (f e i : EReal) :=
  (Fin.sum_univ_eight fun e => (f e i : EReal)).symm

theorem half_apply (b : ℕ) (r : Fin 512) (d : Fin 1024) : chain (half x k (BitVec.ofNat 32 b)) (ix2 r d) = part x k (b + r.val) d := by
  rw [chain_apply]
  refine Finset.sum_congr rfl fun e _ => ?_
  refine (term_apply _ _ _ _ _ _ _ _ r d).trans ?_
  refine Finset.sum_congr rfl fun s _ => ?_
  rw [tokRow_apply, ygBlk_apply, ← BitVec.ofNat_add, Nat.add_comm r.val b]
theorem whole_apply (b : ℕ) (r : Fin 1024) (d : Fin 1024) : chain (whole x k (BitVec.ofNat 32 b)) (ix2 r d) = part x k (b + r.val) d := by
  rw [chain_apply]
  refine Finset.sum_congr rfl fun e _ => ?_
  refine (term_apply _ _ _ _ _ _ _ _ r d).trans ?_
  refine Finset.sum_congr rfl fun s _ => ?_
  rw [tokRow_apply, ygBlk_apply, ← BitVec.ofNat_add, Nat.add_comm r.val b]

/-- A device's own sum; -/
theorem own_apply (r d : Fin 1024) : own c x k (ix2 r d) = part x k (c.val % 2 * 1024 + r.val) d := by
  rw [own_eq, baseO_eq, whole_apply]
/-- what it sends. -/
theorem sent_apply (r d : Fin 1024) : (sent c x k (ix2 r d) : EReal) = part x k ((1 - c.val % 2) * 1024 + r.val) d := by
  unfold sent
  have hw : within (ix2 r d) = ix2 (⟨r.val % 512, Nat.mod_lt _ (by decide)⟩ : Fin 512) d := by
    funext a
    apply Fin.ext
    match a with
    | ⟨0, _⟩ => rfl
    | ⟨1, _⟩ => exact Nat.mod_eq_of_lt d.isLt
  have hr := r.isLt
  split
  · rename_i h
    have h : r.val < 512 := h
    rw [hw, far0_eq, base0_eq]
    refine (half_apply x k _ _ d).trans ?_
    rw [show (1 - c.val % 2) * 1024 + r.val % 512 = (1 - c.val % 2) * 1024 + r.val by omega]
  · rename_i h
    have h : ¬r.val < 512 := h
    rw [hw, far1_eq, base1_eq]
    refine (half_apply x k _ _ d).trans ?_
    rw [show (1 - c.val % 2) * 1024 + 512 + r.val % 512 = (1 - c.val % 2) * 1024 + r.val by omega]

variable (m : (ℓ : Loc nD τ sig) → Buf (Elt Ideal) ℓ) (ρ : Dev nD → PrngReg)

/-- The kernel's result on device `c`: both devices' sums for its rows. -/
theorem outAt_apply (r d : Fin 1024) : (outAt m ρ c (ix2 r d) : EReal)
    = part (xstg m ρ c) (kstg m ρ c) (c.val % 2 * 1024 + r.val) d + part (xstg m ρ (peer c)) (kstg m ρ (peer c)) (c.val % 2 * 1024 + r.val) d := by
  have h : (outAt m ρ c (ix2 r d) : EReal) = own c (xstg m ρ c) (kstg m ρ c) (ix2 r d) + sent (peer c) (xstg m ρ (peer c)) (kstg m ρ (peer c)) (ix2 r d) := rfl
  rw [h, own_apply, sent_apply, peer_mod]
  have : 1 - (1 - c.val % 2) = c.val % 2 := by omega
  rw [this]

/-- The staged blocks are the arrays. -/
theorem xstg_eq (c : Dev nD) : xstg m ρ c = m ((c : Thread nD τ).loc main_arg0) := by
  unfold xstg s₀
  funext i
  refine congrArg (m ((c : Thread nD τ).loc main_arg0)) ?_
  funext a
  apply Fin.ext
  match a with
  | ⟨0, _⟩ => show 0 + 1 * (i 0).val = (i 0).val; omega
  | ⟨1, _⟩ => show 0 + 1 * (i 1).val = (i 1).val; omega
  | ⟨2, _⟩ => show 0 + 1 * (i 2).val = (i 2).val; omega
theorem kstg_eq (c : Dev nD) : kstg m ρ c = m ((c : Thread nD τ).loc main_arg1) := by
  unfold kstg s₀
  funext i
  refine congrArg (m ((c : Thread nD τ).loc main_arg1)) ?_
  funext a
  apply Fin.ext
  match a with
  | ⟨0, _⟩ => show 0 + 1 * (i 0).val = (i 0).val; omega
  | ⟨1, _⟩ => show 0 + 1 * (i 1).val = (i 1).val; omega

/-- The result array holds what the one point computed. -/
theorem finalA_out (c : Dev nD) : finalA m ρ c (2 : Fin 3) = outAt m ρ c := by
  unfold finalA
  refine ((dats m ρ 0 c).arrAt_succ (2 : Fin 3) t0_0).trans ?_
  rw [flush0_2]
  funext i
  have h : i = (win0_2.blk (0 : Fin 1)).view.emb i := by
    funext a
    apply Fin.ext
    match a with
    | ⟨0, _⟩ => show (i 0).val = 0 + 1 * (i 0).val; omega
    | ⟨1, _⟩ => show (i 1).val = 0 + 1 * (i 1).val; omega
  conv_lhs => rw [h]
  exact View.write_emb_of_mem (v := (win0_2.blk (0 : Fin 1)).view) (Val := Elt Ideal) _ _ (x := i) (Finset.mem_univ _)

end Cert.CombineIdealRun

end
-- ==== Proof.CombineBridge.lean ====
/-
  The combine's result is the segment sum: the reference's element at row `t` is the sum over all sixteen experts' slots
  of the rows whose token is `t`; a device's eight experts and its peer's eight are those sixteen.
-/
module

public import proofs.«01_k».proof.Proof.CombineIdealValue
public import proofs.«01_k».proof.Proof.Gen.CombineRefIdeal.Run
public import Idealize.ShloMosaic.Lib.Layout

@[expose] public section

noncomputable section

namespace Cert.CombineBridge

open Idealize.ShloMosaic Idealize.ShloMosaic.TcCoe Idealize.ShloMosaic.ValueIdx
open Idealize.SL.Sem
open Cert.OneHot Cert.CombineIdealRun
open scoped BigOperators

variable (X : (⟨3, ![16, 320, 1024]⟩ : Shape).Idx → EReal) (K : (⟨2, ![16, 320]⟩ : Shape).Idx → BitVec 32)

/-- The rows of all experts' slots whose token is `t`, summed at column `d`. -/
def total (t : ℕ) (d : Fin 1024) : EReal :=
  ∑ e : Fin 16, ∑ s : Fin 320, if (K (ix2 e s)).toInt = t then X (ix3 e s d) else 0

/-! ## The reference -/

open Cert.CombineRefIdeal Cert.CombineRefIdeal.Gen in
/-- The reference's composed term, of its arguments. -/
abbrev refTerm (X : FVec Ideal S16x320x1024 .f32) (K : IVec S16x320 32) : FVec Ideal S2048x1024 .f32 :=
  Host.scatterAdd scatter_S2048x1024_S5120x1_S5120x1024_1_0_0_1 (broadcastInDim S2048x1024 ![] bcast_S_S2048x1024 (constant S_ .f32 0x00000000#32)) (broadcastInDim S5120x1 ![0] bcast_S5120_S5120x1_0 (shapeCast _ K shapeCasts_S16x320_S5120)) (shapeCast _ X shapeCasts_S16x320x1024_S5120x1024)

/-- Slot `s` of expert `e` is row `320 e + s` of the flattened arrays. -/
theorem flat_val (e : Fin 16) (s : Fin 320) : ((finProdFinEquiv (e, s) : Fin (16 * 320)) : ℕ) = s.val + 320 * e.val := rfl

open Cert.CombineRefIdeal Cert.CombineRefIdeal.Gen in
theorem refTerm_apply (X : FVec Ideal S16x320x1024 .f32) (K : IVec S16x320 32) (t : Fin 2048) (d : Fin 1024) :
    (refTerm X K (ix2 t d) : EReal) = total X K t.val d := by
  refine (scatter_apply (D := 1024) (T := 2048) (N := 5120) scatter_S2048x1024_S5120x1_S5120x1024_1_0_0_1.wf _ _ _ t d).trans ?_
  have hz : ((broadcastInDim S2048x1024 ![] bcast_S_S2048x1024 (constant (F := Ideal) S_ .f32 0x00000000#32)) (ix2 t d) : EReal) = 0 := by
    show Ideal.ofBits .f32 0x00000000#32 = 0
    simp [Ideal.ofBits, Ideal.ieee]
  rw [hz, zero_add]
  unfold total
  rw [← Equiv.sum_comp (finProdFinEquiv : Fin 16 × Fin 320 ≃ Fin 5120), Fintype.sum_prod_type]
  refine Finset.sum_congr rfl fun e _ => Finset.sum_congr rfl fun s _ => ?_
  have hk : (broadcastInDim S5120x1 ![0] bcast_S5120_S5120x1_0 (shapeCast _ K shapeCasts_S16x320_S5120)) (ix2 (finProdFinEquiv (e, s) : Fin 5120) 0) = K (ix2 e s) := by
    refine shapeCast_apply K shapeCasts_S16x320_S5120 _ (ix2 e s) ?_
    rw [Shape.rowMajor_val_two, Shape.rowMajor_val_one]
    show e.val * 320 + s.val = s.val + 320 * e.val
    omega
  have hx : (shapeCast _ X shapeCasts_S16x320x1024_S5120x1024) (ix2 (finProdFinEquiv (e, s) : Fin 5120) d) = X (ix3 e s d) := by
    refine shapeCast_apply X shapeCasts_S16x320x1024_S5120x1024 _ (ix3 e s d) ?_
    rw [Shape.rowMajor_val_three, Shape.rowMajor_val_two]
    show (e.val * 320 + s.val) * 1024 + d.val = (s.val + 320 * e.val) * 1024 + d.val
    omega
  rw [hk, hx]

/-! ## The devices' blocks -/

/-- A word below `2 ^ 31` equals a table's word when it is that word read as a signed number. -/
theorem word_iff {t : ℕ} (ht : t < 2 ^ 31) (w : BitVec 32) : BitVec.ofNat 32 t = w ↔ w.toInt = t := by
  have h : (BitVec.ofNat 32 t).toInt = (t : Int) := by
    rw [BitVec.toInt_eq_toNat_of_lt] <;> rw [BitVec.toNat_ofNat] <;> omega
  exact ⟨fun e => e ▸ h, fun e => BitVec.eq_of_toInt_eq (h.trans e.symm)⟩

/-- Expert `e` of the half `z`. -/
def expert (z : ℕ) (hz : z < 2) (e : Fin 8) : Fin 16 := ⟨z * 8 + e.val, by have := e.isLt; omega⟩

/-- One half's experts' rows whose token is `t`. -/
def halfTotal (z : ℕ) (hz : z < 2) (t : ℕ) (d : Fin 1024) : EReal :=
  ∑ e : Fin 8, ∑ s : Fin 320, if (K (ix2 (expert z hz e) s)).toInt = t then X (ix3 (expert z hz e) s d) else 0

theorem total_split (t : ℕ) (d : Fin 1024) : total X K t d = halfTotal X K 0 (by decide) t d + halfTotal X K 1 (by decide) t d := by
  unfold total halfTotal
  refine (Fin.sum_univ_add (a := 8) (b := 8) fun e : Fin 16 => ∑ s : Fin 320, if (K (ix2 e s)).toInt = t then X (ix3 e s d) else 0).trans ?_
  refine congrArg₂ (· + ·) (Finset.sum_congr rfl fun e _ => ?_) (Finset.sum_congr rfl fun e _ => ?_)
  · rw [show (Fin.castAdd 8 e : Fin 16) = expert 0 (by decide) e from Fin.ext (by show e.val = 0 * 8 + e.val; omega)]
  · rw [show (Fin.natAdd 8 e : Fin 16) = expert 1 (by decide) e from Fin.ext (by show 8 + e.val = 1 * 8 + e.val; omega)]

open Cert.CombineIdeal

/-- The half of the experts, and of the rows, that a device holds. -/
theorem half_lt (c : Dev nD) : c.val % 2 < 2 := Nat.mod_lt _ (by decide)
theorem block3 (c : Dev nD) (b : Fin 3) : ((Layout.meshBlock [2, 2, 2] ![[2], [], []] c) b : ℕ) = if b = 0 then c.val % 2 else 0 := by
  revert b c; decide
theorem block2 (c : Dev nD) (b : Fin 2) : ((Layout.meshBlock [2, 2, 2] ![[2], []] c) b : ℕ) = if b = 0 then c.val % 2 else 0 := by
  revert b c; decide

theorem blockX (c : Dev nD) (e : Fin 8) (s : Fin 320) (d : Fin 1024) :
    Layout.blockN ⟨3, ![8, 320, 1024]⟩ ⟨3, ![16, 320, 1024]⟩ (Layout.meshBlock [2, 2, 2] ![[2], [], []] c) X (by decide) (ix3 e s d) = X (ix3 (expert (c.val % 2) (half_lt c) e) s d) := by
  rw [Layout.blockN_apply]
  refine congrArg X ?_
  funext a
  apply Fin.ext
  rw [Layout.TilesN.idx_val]
  match a with
  | ⟨0, _⟩ => exact congrArg (· * 8 + e.val) (block3 c 0)
  | ⟨1, _⟩ => refine (congrArg (· * 320 + s.val) (block3 c 1)).trans ?_; show 0 * 320 + s.val = s.val; omega
  | ⟨2, _⟩ => refine (congrArg (· * 1024 + d.val) (block3 c 2)).trans ?_; show 0 * 1024 + d.val = d.val; omega
theorem blockK (c : Dev nD) (e : Fin 8) (s : Fin 320) :
    Layout.blockN ⟨2, ![8, 320]⟩ ⟨2, ![16, 320]⟩ (Layout.meshBlock [2, 2, 2] ![[2], []] c) K (by decide) (ix2 e s) = K (ix2 (expert (c.val % 2) (half_lt c) e) s) := by
  rw [Layout.blockN_apply]
  refine congrArg K ?_
  funext a
  apply Fin.ext
  rw [Layout.TilesN.idx_val]
  match a with
  | ⟨0, _⟩ => exact congrArg (· * 8 + e.val) (block2 c 0)
  | ⟨1, _⟩ => refine (congrArg (· * 320 + s.val) (block2 c 1)).trans ?_; show 0 * 320 + s.val = s.val; omega
theorem blockOut (c : Dev nD) (v : (⟨2, ![2048, 1024]⟩ : Shape).Idx → EReal) (r d : Fin 1024) :
    Layout.blockN ⟨2, ![1024, 1024]⟩ ⟨2, ![2048, 1024]⟩ (Layout.meshBlock [2, 2, 2] ![[2], []] c) v (by decide) (ix2 r d)
      = v (ix2 (⟨c.val % 2 * 1024 + r.val, by have := r.isLt; have := half_lt c; omega⟩ : Fin 2048) d) := by
  rw [Layout.blockN_apply]
  refine congrArg v ?_
  funext a
  apply Fin.ext
  rw [Layout.TilesN.idx_val]
  match a with
  | ⟨0, _⟩ => exact congrArg (· * 1024 + r.val) (block2 c 0)
  | ⟨1, _⟩ => refine (congrArg (· * 1024 + d.val) (block2 c 1)).trans ?_; show 0 * 1024 + d.val = d.val; omega

/-- A device's part of a row's sum is its half of the experts'. -/
theorem part_block (c : Dev nD) (t : ℕ) (ht : t < 2 ^ 31) (d : Fin 1024) :
    part (Layout.blockN ⟨3, ![8, 320, 1024]⟩ ⟨3, ![16, 320, 1024]⟩ (Layout.meshBlock [2, 2, 2] ![[2], [], []] c) X (by decide))
      (Layout.blockN ⟨2, ![8, 320]⟩ ⟨2, ![16, 320]⟩ (Layout.meshBlock [2, 2, 2] ![[2], []] c) K (by decide)) t d
      = halfTotal X K (c.val % 2) (half_lt c) t d := by
  unfold part halfTotal
  refine Finset.sum_congr rfl fun e _ => Finset.sum_congr rfl fun s _ => ?_
  rw [blockK, blockX]
  exact if_congr (word_iff ht _) rfl rfl

/-- A device's half and its peer's are all the experts. -/
theorem halves (c : Dev nD) (t : ℕ) (d : Fin 1024) :
    halfTotal X K (c.val % 2) (half_lt c) t d + halfTotal X K ((peer c).val % 2) (half_lt (peer c)) t d = total X K t d := by
  rw [total_split]
  rcases Nat.mod_two_eq_zero_or_one c.val with h | h
  · have h' : (peer c).val % 2 = 1 := by rw [peer_mod, h]
    simp only [h, h']
  · have h' : (peer c).val % 2 = 0 := by rw [peer_mod, h]
    simp only [h, h']
    exact add_comm _ _

/-- From memories that hold the reference's blocks, a device's result is its block of the reference's. -/
theorem agree (m : (ℓ : Loc nD τ sig) → Buf (Elt Ideal) ℓ) (ρ : Dev nD → PrngReg) (X : FVec Ideal ⟨3, ![16, 320, 1024]⟩ .f32) (K : IVec ⟨2, ![16, 320]⟩ 32)
    (hx : ∀ c : Dev nD, m ((c : Thread nD τ).loc main_arg0) = Layout.blockN ⟨3, ![8, 320, 1024]⟩ ⟨3, ![16, 320, 1024]⟩ (Layout.meshBlock [2, 2, 2] ![[2], [], []] c) X (by decide))
    (hk : ∀ c : Dev nD, m ((c : Thread nD τ).loc main_arg1) = Layout.blockN ⟨2, ![8, 320]⟩ ⟨2, ![16, 320]⟩ (Layout.meshBlock [2, 2, 2] ![[2], []] c) K (by decide))
    (c : Dev nD) :
    outAt m ρ c = Layout.blockN ⟨2, ![1024, 1024]⟩ ⟨2, ![2048, 1024]⟩ (Layout.meshBlock [2, 2, 2] ![[2], []] c) (refTerm X K) (by decide) := by
  funext i
  obtain ⟨r, d, rfl⟩ : ∃ r d : Fin 1024, i = ix2 r d := ⟨i 0, i 1, by funext a; match a with | ⟨0, _⟩ => rfl | ⟨1, _⟩ => rfl⟩
  have ht : c.val % 2 * 1024 + r.val < 2 ^ 31 := by have := r.isLt; have := half_lt c; omega
  refine (outAt_apply c m ρ r d).trans ?_
  rw [xstg_eq, kstg_eq, xstg_eq, kstg_eq, hx c, hk c, hx (peer c), hk (peer c)]
  rw [part_block X K c _ ht, part_block X K (peer c) _ ht, halves]
  exact ((blockOut c (refTerm X K) r d).trans (refTerm_apply X K _ d)).symm

end Cert.CombineBridge

end
-- ==== Proof.CombineClaims.lean ====
/-
  The combine's five claims: what each program's run gives, read at the claims' buffers.
-/
module

public import proofs.«01_k».proof.Defs
public import proofs.«01_k».proof.Proof.CombineRun
public import proofs.«01_k».proof.Proof.CombineBridge

@[expose] public section

noncomputable section

namespace Cert.CombineClaims

open Idealize.ShloMosaic Idealize.ShloMosaic.TcCoe Idealize.SL.Sem

/-- The printed kernel runs, keeps its arguments and leaves every counter at zero. -/
theorem frame_combine : Cert.quiescent_Combine := fun m g _ =>
  (θ_run Cert.Combine.defs _ _).mono
    (fun _ h => ⟨fun c => ⟨(h.1 c 0).trans (Cert.CombineRun.finalA_x m g c), (h.1 c 1).trans (Cert.CombineRun.finalA_k m g c)⟩, h.2⟩)
    (Cert.CombineRun.run_main (F := Bits) m g)

/-- So does the kernel over the extended reals. -/
theorem frame_combineIdeal : Cert.quiescent_CombineIdeal := fun m g _ =>
  (θ_run Cert.CombineIdeal.defs _ _).mono
    (fun _ h => ⟨fun c => ⟨(h.1 c 0).trans (Cert.CombineIdealRun.finalA_x m g c), (h.1 c 1).trans (Cert.CombineIdealRun.finalA_k m g c)⟩, h.2⟩)
    (Cert.CombineIdealRun.run_main (F := Ideal) m g)

/-- The reference runs and keeps its arguments; it declares no semaphore. -/
theorem frame_combineRefIdeal : Cert.quiescent_CombineRefIdeal := fun m g _ =>
  (θ_run Cert.CombineRefIdeal.defs _ _).mono (fun r h => ⟨fun c => (h c).2, Idealize.ShloMosaic.sem_eq_zero_of_no_sems (by decide) r.2⟩)
    (Cert.CombineRefIdeal.Value.run (F := Ideal) m g)

/-- Every device's result is its block of the reference's segment sum. -/
theorem algebraic_combine : Cert.algebraic_CombineIdeal_CombineRefIdeal := fun m g m' g' _ hag =>
  ⟨_, (θ_run Cert.CombineIdeal.defs _ _).mono
      (fun _ h c => ⟨((h.1 c 2).trans (Cert.CombineIdealRun.finalA_out m g c)).trans
          (Cert.CombineBridge.agree m g _ _ (fun c => (hag c).1) (fun c => (hag c).2) c),
        (h.1 c 0).trans (Cert.CombineIdealRun.finalA_x m g c), (h.1 c 1).trans (Cert.CombineIdealRun.finalA_k m g c)⟩)
      (Cert.CombineIdealRun.run_main (F := Ideal) m g),
    (θ_run Cert.CombineRefIdeal.defs _ _).mono (fun _ h => h 0) (Cert.CombineRefIdeal.Value.run (F := Ideal) m' g')⟩

end Cert.CombineClaims

end
-- ==== Proof.ExchangeIdealTables.lean ====
/-
# The exchange call: its cells, its slots, what every device gathers

Every buffer that takes part has two slots, one for each coordinate on the mesh's last axis. Device `c` fills the slot of its
own coordinate and copies it into the same slot of `peer c`. So once all has arrived the two hold the same: `rAll` (the router's
columns), `xAll` (the tokens' rows), `iAll` and `wAll` (which experts each token takes and how much of each). Nine cells: the
barrier, and a send and a receive semaphore for each of the four copies.
-/
module

public import proofs.«01_k».proof.Proof.Gen.ExchangeIdeal
public import proofs.«01_k».proof.Proof.Gen.ExchangeIdeal.Skeleton
public import proofs.«01_k».proof.Proof.Gen.ExchangeIdeal.Launch
public import proofs.«01_k».proof.Proof.Gen.ExchangeIdeal.Points
public import proofs.«01_k».proof.Proof.Talk
public import Idealize.ShloMosaic.Lib.ViewIndex

@[expose] public section

noncomputable section

namespace Cert.ExchangeIdealRun

open Cert.ExchangeIdeal Cert.ExchangeIdeal.Gen Cert.Talk
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-! ## The peer and the cells -/

set_option backward.proofsInPublic true in
/-- The device across the last mesh axis. -/
def peer (c : Dev nD) : Dev nD :=
  ⟨(4 * (c.val / 4) + 2 * ((c.val / 2) % 2) + 1) - c.val % 2, by have := c.isLt; simp only [show nD = 8 from rfl] at *; omega⟩

theorem peer_peer (c : Dev nD) : peer (peer c) = c := by
  apply Fin.ext; have := c.isLt; simp only [show nD = 8 from rfl, peer] at *; omega
theorem peer_z (c : Dev nD) : (peer c).val % 2 = 1 - c.val % 2 := by
  have := c.isLt; simp only [show nD = 8 from rfl, peer] at *; omega

theorem dev1_eq (c : Dev nD) : (⟨k0_dev1 c, k0_dev1_lt c⟩ : Dev nD) = peer c := Fin.ext (k0_dev1_eq c)
theorem dev2_eq (c : Dev nD) : (⟨k0_dev2 c, k0_dev2_lt c⟩ : Dev nD) = peer c := Fin.ext (k0_dev2_eq c)
theorem dev3_eq (c : Dev nD) : (⟨k0_dev3 c, k0_dev3_lt c⟩ : Dev nD) = peer c := Fin.ext (k0_dev3_eq c)
theorem dev4_eq (c : Dev nD) : (⟨k0_dev4 c, k0_dev4_lt c⟩ : Dev nD) = peer c := Fin.ext (k0_dev4_eq c)
theorem dev5_eq (c : Dev nD) : (⟨k0_dev5 c, k0_dev5_lt c⟩ : Dev nD) = peer c := Fin.ext (k0_dev5_eq c)

abbrev xM : Memref sig .tc .vmem S1024x1024 .f32 := Memref.whole cc0_stg0_0
abbrev kM : Memref sig .tc .vmem S1024x8 .f32 := Memref.whole cc0_stg1_0
abbrev aM : Memref sig .tc .vmem S2x1024x1024 .bf16 := Memref.whole cc0_stg2_0
abbrev iM : Memref sig .tc .vmem S2x2x1024 .i32 := Memref.whole cc0_stg3_0
abbrev wM : Memref sig .tc .vmem S2x2x1024 .f32 := Memref.whole cc0_stg4_0
abbrev rM : Memref sig .tc .vmem S2x1024x8 .f32 := Memref.whole cc0_scratch0
abbrev gM : Memref sig .tc .vmem S1024x16 .f32 := Memref.whole cc0_scratch1

/-- The rectangles of device `c`'s slots, as the kernel spells them. -/
abbrev rQ (c : Dev nD) : Rect S2x1024x8 := Rect.unit (s := S2x1024x8) (k0_off2 c) S1x1024x8.size (k0_off2_inb c)
abbrev xQ (c : Dev nD) : Rect S2x1024x1024 := Rect.unit (s := S2x1024x1024) (k0_off4 c) S1x1024x1024.size (k0_off4_inb c)
abbrev iQ (c : Dev nD) : Rect S2x2x1024 := Rect.unit (s := S2x2x1024) (k0_off7 c) S1x2x1024.size (k0_off7_inb c)
/-- The rectangles it stores at. -/
abbrev rS (c : Dev nD) : Rect S2x1024x8 := Rect.unit (s := S2x1024x8) (k0_off1 c) S1x1024x8.size (k0_off1_inb c)
abbrev xS (c : Dev nD) : Rect S2x1024x1024 := Rect.unit (s := S2x1024x1024) (k0_off3 c) S1x1024x1024.size (k0_off3_inb c)
abbrev iS0 (c : Dev nD) : Rect S2x2x1024 := Rect.unit (s := S2x2x1024) (k0_off5 c) S1x1x1024.size (k0_off5_inb c)
abbrev iS1 (c : Dev nD) : Rect S2x2x1024 := Rect.unit (s := S2x2x1024) (k0_off6 c) S1x1x1024.size (k0_off6_inb c)
/-- The two halves of the gates' columns, and all of them. -/
abbrev g0 : Rect S1024x16 := Rect.unit (s := S1024x16) ![0, 0] S1024x8.size inb_S1024x16_S1024x8_0_0
abbrev g1 : Rect S1024x16 := Rect.unit (s := S1024x16) ![0, 8] S1024x8.size inb_S1024x16_S1024x8_0_8
abbrev gW : Rect S1024x16 := Rect.unit (s := S1024x16) ![0, 0] S1024x16.size inb_S1024x16_S1024x16_0_0

/-- Device `c`'s slot of each buffer, as the copies name it. -/
abbrev rV (c : Dev nD) : Memref sig .tc .vmem S1024x8 .f32 := (rM.slice (rQ c) (fun _ => rfl)).squeeze S1024x8 squeezes_S1x1024x8_S1024x8
abbrev xV (c : Dev nD) : Memref sig .tc .vmem S1024x1024 .bf16 := (aM.slice (xQ c) (fun _ => rfl)).squeeze S1024x1024 squeezes_S1x1024x1024_S1024x1024
abbrev iV (c : Dev nD) : Memref sig .tc .vmem S2x1024 .i32 := (iM.slice (iQ c) (fun _ => rfl)).squeeze S2x1024 squeezes_S1x2x1024_S2x1024
abbrev wV (c : Dev nD) : Memref sig .tc .vmem S2x1024 .f32 := (wM.slice (iQ c) (fun _ => rfl)).squeeze S2x1024 squeezes_S1x2x1024_S2x1024

abbrev barS : Sem sig := (SemArray.scalar (sig.barrier 0 rfl) : Sems sig S_).sem
abbrev sndX : DmaSem sig := ((cc0_scratch2.slice (Rect.unit (s := S4) ![0] S1.size inb_S4_S1_0)).squeeze S_ squeezes_S1_S_).sem
abbrev sndR : DmaSem sig := ((cc0_scratch2.slice (Rect.unit (s := S4) ![1] S1.size inb_S4_S1_1)).squeeze S_ squeezes_S1_S_).sem
abbrev sndI : DmaSem sig := ((cc0_scratch2.slice (Rect.unit (s := S4) ![2] S1.size inb_S4_S1_2)).squeeze S_ squeezes_S1_S_).sem
abbrev sndW : DmaSem sig := ((cc0_scratch2.slice (Rect.unit (s := S4) ![3] S1.size inb_S4_S1_3)).squeeze S_ squeezes_S1_S_).sem
abbrev rcvX : DmaSem sig := ((cc0_scratch3.slice (Rect.unit (s := S4) ![0] S1.size inb_S4_S1_0)).squeeze S_ squeezes_S1_S_).sem
abbrev rcvR : DmaSem sig := ((cc0_scratch3.slice (Rect.unit (s := S4) ![1] S1.size inb_S4_S1_1)).squeeze S_ squeezes_S1_S_).sem
abbrev rcvI : DmaSem sig := ((cc0_scratch3.slice (Rect.unit (s := S4) ![2] S1.size inb_S4_S1_2)).squeeze S_ squeezes_S1_S_).sem
abbrev rcvW : DmaSem sig := ((cc0_scratch3.slice (Rect.unit (s := S4) ![3] S1.size inb_S4_S1_3)).squeeze S_ squeezes_S1_S_).sem

/-- The kernel's own (scoped) semaphores, as the launch indexes them: the sends, then the receives. -/
abbrev osem : Fin 8 → SemLoc sig := fun
  | 0 => .dma sndR | 1 => .dma sndX | 2 => .dma sndI | 3 => .dma sndW | 4 => .dma rcvR | 5 => .dma rcvX | 6 => .dma rcvI | 7 => .dma rcvW
/-- All nine cells' semaphores, the barrier first. -/
abbrev cs : Fin 9 → SemLoc sig := fun
  | 0 => .reg barS | 1 => .dma sndR | 2 => .dma sndX | 3 => .dma sndI | 4 => .dma sndW | 5 => .dma rcvR | 6 => .dma rcvX | 7 => .dma rcvI | 8 => .dma rcvW

/-- The credit of each copy. -/
abbrev nR : ℕ := (rV 0).view.dmaCredit
abbrev nX : ℕ := (xV 0).view.dmaCredit
abbrev nI : ℕ := (iV 0).view.dmaCredit
abbrev nW : ℕ := (wV 0).view.dmaCredit
theorem nR_pos : 0 < nR := View.dmaCredit_pos _ (by decide)
theorem nX_pos : 0 < nX := View.dmaCredit_pos _ (by decide)
theorem nI_pos : 0 < nI := View.dmaCredit_pos _ (by decide)
theorem nW_pos : 0 < nW := View.dmaCredit_pos _ (by decide)

theorem cs_inj : Function.Injective cs := by decide

/-- The exchange's protocol: a device signals its peer's barrier, then copies into it the router's columns, the tokens, the chosen
    experts and the weights. The router's columns are waited for while the last two copies are still owed. -/
def T : Cells nD sig 9 where
  csem := cs
  inj := cs_inj
  amt := fun | 0 => 1 | 1 => nR | 2 => nX | 3 => nI | 4 => nW | 5 => nR | 6 => nX | 7 => nI | 8 => nW
  amt_pos := fun k => by fin_cases k <;> first | exact Nat.one_pos | exact nR_pos | exact nX_pos | exact nI_pos | exact nW_pos
  lev := fun | 0 => 1 | 1 => 0 | 2 => 0 | 3 => 0 | 4 => 0 | 5 => 2 | 6 => 3 | 7 => 3 | 8 => 3
  peer := peer
  peer_peer := peer_peer
  dues := [0, 5, 6, 7, 8]
  dues_nodup := by decide

/-! ## The slots -/

/-- A slab of a three-dimensional array, one first coordinate wide. -/
theorem mem_slab {a b z : ℕ} {off : Fin 3 → ℕ} (h : off = ![z, 0, 0]) (inb : ∀ d, off d + (![1, a, b] : Fin 3 → ℕ) d ≤ (⟨3, ![2, a, b]⟩ : Shape).size d)
    (i : (⟨3, ![2, a, b]⟩ : Shape).Idx) : i ∈ (Rect.unit (s := ⟨3, ![2, a, b]⟩) off ![1, a, b] inb).set ↔ (i 0).val = z := by
  subst h
  rw [Rect.mem_set_unit]
  constructor
  · intro h; have h0 := h 0
    have l : z ≤ (i 0).val := h0.1
    have u : (i 0).val < z + 1 := h0.2
    omega
  · intro h d
    have hi := (i d).isLt
    fin_cases d
    · exact ⟨by show z ≤ (i 0).val; omega, by show (i 0).val < z + 1; omega⟩
    · exact ⟨Nat.zero_le _, by show (i 1).val < 0 + a; have : (i 1).val < a := hi; omega⟩
    · exact ⟨Nat.zero_le _, by show (i 2).val < 0 + b; have : (i 2).val < b := hi; omega⟩

theorem rV_set (c : Dev nD) : (rV c).view.set = (rQ c).set := (View.set_reshape _ _).trans (View.set_slice_whole cc0_scratch0 (rQ c))
theorem xV_set (c : Dev nD) : (xV c).view.set = (xQ c).set := (View.set_reshape _ _).trans (View.set_slice_whole cc0_stg2_0 (xQ c))
theorem iV_set (c : Dev nD) : (iV c).view.set = (iQ c).set := (View.set_reshape _ _).trans (View.set_slice_whole cc0_stg3_0 (iQ c))
theorem wV_set (c : Dev nD) : (wV c).view.set = (iQ c).set := (View.set_reshape _ _).trans (View.set_slice_whole cc0_stg4_0 (iQ c))

theorem mem_rQ (c : Dev nD) (i : S2x1024x8.Idx) : i ∈ (rQ c).set ↔ (i 0).val = c.val % 2 := mem_slab (k0_off2_eq c) _ i
theorem mem_rS (c : Dev nD) (i : S2x1024x8.Idx) : i ∈ (rS c).set ↔ (i 0).val = c.val % 2 := mem_slab (k0_off1_eq c) _ i
theorem mem_xQ (c : Dev nD) (i : S2x1024x1024.Idx) : i ∈ (xQ c).set ↔ (i 0).val = c.val % 2 := mem_slab (k0_off4_eq c) _ i
theorem mem_xS (c : Dev nD) (i : S2x1024x1024.Idx) : i ∈ (xS c).set ↔ (i 0).val = c.val % 2 := mem_slab (k0_off3_eq c) _ i
theorem mem_iQ (c : Dev nD) (i : S2x2x1024.Idx) : i ∈ (iQ c).set ↔ (i 0).val = c.val % 2 := mem_slab (k0_off7_eq c) _ i

theorem mem_row {z r : ℕ} {off : Fin 3 → ℕ} (h : off = ![z, r, 0]) (inb : ∀ d, off d + S1x1x1024.size d ≤ S2x2x1024.size d)
    (i : S2x2x1024.Idx) : i ∈ (Rect.unit (s := S2x2x1024) off S1x1x1024.size inb).set ↔ (i 0).val = z ∧ (i 1).val = r := by
  subst h
  rw [Rect.mem_set_unit]
  constructor
  · intro h
    have l0 : z ≤ (i 0).val := (h 0).1
    have u0 : (i 0).val < z + 1 := (h 0).2
    have l1 : r ≤ (i 1).val := (h 1).1
    have u1 : (i 1).val < r + 1 := (h 1).2
    omega
  · intro h d
    have hi := (i d).isLt
    fin_cases d
    · exact ⟨by show z ≤ (i 0).val; omega, by show (i 0).val < z + 1; omega⟩
    · exact ⟨by show r ≤ (i 1).val; omega, by show (i 1).val < r + 1; omega⟩
    · exact ⟨Nat.zero_le _, by show (i 2).val < 0 + 1024; have : (i 2).val < 1024 := hi; omega⟩

theorem mem_iS0 (c : Dev nD) (i : S2x2x1024.Idx) : i ∈ (iS0 c).set ↔ (i 0).val = c.val % 2 ∧ (i 1).val = 0 := mem_row (k0_off5_eq c) _ i
theorem mem_iS1 (c : Dev nD) (i : S2x2x1024.Idx) : i ∈ (iS1 c).set ↔ (i 0).val = c.val % 2 ∧ (i 1).val = 1 := mem_row (k0_off6_eq c) _ i

/-- What is stored lies in the slot. -/
theorem rS_sub (c : Dev nD) : (rS c).set = (rQ c).set := by ext i; rw [mem_rS, mem_rQ]
theorem xS_sub (c : Dev nD) : (xS c).set = (xQ c).set := by ext i; rw [mem_xS, mem_xQ]
theorem iS0_sub (c : Dev nD) : (iS0 c).set ⊆ (iQ c).set := fun i h => (mem_iQ c i).mpr ((mem_iS0 c i).mp h).1
theorem iS1_sub (c : Dev nD) : (iS1 c).set ⊆ (iQ c).set := fun i h => (mem_iQ c i).mpr ((mem_iS1 c i).mp h).1

/-- A device's slot and its peer's are the whole buffer. -/
theorem r_disj (c : Dev nD) : Disjoint (rV c).view.set (rV (peer c)).view.set := by
  rw [rV_set, rV_set, Finset.disjoint_left]; intro i h h'; rw [mem_rQ] at h h'; rw [peer_z] at h'; omega
theorem r_cover (c : Dev nD) : (rV c).view.set ∪ (rV (peer c)).view.set = (Finset.univ : Finset S2x1024x8.Idx) := by
  rw [rV_set, rV_set]; ext i; rw [Finset.mem_union, mem_rQ, mem_rQ, peer_z]
  have : (i 0).val < 2 := (i 0).isLt
  simp only [Finset.mem_univ, iff_true]; omega
theorem x_disj (c : Dev nD) : Disjoint (xV c).view.set (xV (peer c)).view.set := by
  rw [xV_set, xV_set, Finset.disjoint_left]; intro i h h'; rw [mem_xQ] at h h'; rw [peer_z] at h'; omega
theorem x_cover (c : Dev nD) : (xV c).view.set ∪ (xV (peer c)).view.set = (Finset.univ : Finset S2x1024x1024.Idx) := by
  rw [xV_set, xV_set]; ext i; rw [Finset.mem_union, mem_xQ, mem_xQ, peer_z]
  have : (i 0).val < 2 := (i 0).isLt
  simp only [Finset.mem_univ, iff_true]; omega
theorem i_disj (c : Dev nD) : Disjoint (iV c).view.set (iV (peer c)).view.set := by
  rw [iV_set, iV_set, Finset.disjoint_left]; intro i h h'; rw [mem_iQ] at h h'; rw [peer_z] at h'; omega
theorem i_cover (c : Dev nD) : (iV c).view.set ∪ (iV (peer c)).view.set = (Finset.univ : Finset S2x2x1024.Idx) := by
  rw [iV_set, iV_set]; ext i; rw [Finset.mem_union, mem_iQ, mem_iQ, peer_z]
  have : (i 0).val < 2 := (i 0).isLt
  simp only [Finset.mem_univ, iff_true]; omega
theorem w_disj (c : Dev nD) : Disjoint (wV c).view.set (wV (peer c)).view.set := by
  rw [wV_set, wV_set, ← iV_set, ← iV_set]; exact i_disj c
theorem w_cover (c : Dev nD) : (wV c).view.set ∪ (wV (peer c)).view.set = (Finset.univ : Finset S2x2x1024.Idx) := by
  rw [wV_set, wV_set, ← iV_set, ← iV_set]; exact i_cover c

/-! ## What is gathered -/

/-- The device of the pair whose coordinate is `z`. -/
def at' (c : Dev nD) (z : ℕ) : Dev nD := if z = c.val % 2 then c else peer c

theorem at_self (c : Dev nD) : at' c (c.val % 2) = c := if_pos rfl
theorem at_peer (c : Dev nD) {z : ℕ} (hz : z < 2) : at' (peer c) z = at' c z := by
  unfold at'
  rw [peer_z, peer_peer]
  by_cases h : z = c.val % 2
  · rw [if_pos h, if_neg (by omega)]
  · rw [if_neg h, if_pos (by omega)]

/-- A position within its slot. -/
def inR (i : S2x1024x8.Idx) : S1x1024x8.Idx := fun a => ⟨(i a).val % S1x1024x8.size a, Nat.mod_lt _ (by fin_cases a <;> decide)⟩
def inX (i : S2x1024x1024.Idx) : S1x1024x1024.Idx := fun a => ⟨(i a).val % S1x1024x1024.size a, Nat.mod_lt _ (by fin_cases a <;> decide)⟩
def inI (i : S2x2x1024.Idx) : S1x1x1024.Idx := fun a => ⟨(i a).val % S1x1x1024.size a, Nat.mod_lt _ (by fin_cases a <;> decide)⟩
/-- A gate's position within its half of the columns. -/
def inG (i : S1024x16.Idx) : S1024x8.Idx := fun a => ⟨(i a).val % S1024x8.size a, Nat.mod_lt _ (by fin_cases a <;> decide)⟩

section Values

variable (xs : Dev nD → Vec F S1024x1024 .f32) (rs : Dev nD → Vec F S1024x8 .f32) (c : Dev nD)

/-- The router, a slot for each device of the pair. -/
def rAll : (cc0_scratch0 : Ref sig .tc).ty.Contents (Elt F) := fun i : S2x1024x8.Idx => k0_pay1 (rs (at' c (i 0).val)) (inR i)
/-- The tokens. -/
def xAll : (cc0_stg2_0 : Ref sig .tc).ty.Contents (Elt F) := fun i : S2x1024x1024.Idx => k0_pay2 (xs (at' c (i 0).val)) (inX i)

/-- Slot `z` of the gathered router. -/
def rBlk (f : (cc0_scratch0 : Ref sig .tc).ty.Contents (Elt F)) (z : Fin 2) : Vec F S1x1024x8 .f32 :=
  rM.view.readAt (Elt F) (Rect.unit (s := S2x1024x8) ![z.val, 0, 0] S1x1024x8.size (by intro a; fin_cases z <;> fin_cases a <;> decide)).toLoadRect f
theorem rblk0 (f : (cc0_scratch0 : Ref sig .tc).ty.Contents (Elt F)) :
    rM.view.readAt (Elt F) (Rect.unit (s := S2x1024x8) ![0, 0, 0] S1x1024x8.size inb_S2x1024x8_S1x1024x8_0_0_0).toLoadRect f = rBlk f 0 := rfl
theorem rblk1 (f : (cc0_scratch0 : Ref sig .tc).ty.Contents (Elt F)) :
    rM.view.readAt (Elt F) (Rect.unit (s := S2x1024x8) ![1, 0, 0] S1x1024x8.size inb_S2x1024x8_S1x1024x8_1_0_0).toLoadRect f = rBlk f 1 := rfl

/-- Device `c`'s gates: its tokens against the gathered router. -/
def gates : FVec F S1024x16 .f32 := fun i =>
  if (i 1).val < 8 then k0_pay4 (xs c) (rBlk (rAll rs c) 0) (inG i) else k0_pay5 (xs c) (rBlk (rAll rs c) 1) (inG i)

/-- The experts device `c`'s tokens take, best first; -/
def idx0 : Vec F S1x1x1024 .i32 := k0_pay12 (gates xs rs c) (k0_pay7 (gates xs rs c))
def idx1 : Vec F S1x1x1024 .i32 := k0_pay13 (gates xs rs c) (k0_pay7 (gates xs rs c))
/-- and how much of each. -/
def wgt0 : Vec F S1x1x1024 .f32 := k0_pay14 (gates xs rs c) (k0_pay6 (gates xs rs c)) (k0_pay7 (gates xs rs c))
def wgt1 : Vec F S1x1x1024 .f32 := k0_pay16 (k0_pay15 (gates xs rs c) (k0_pay6 (gates xs rs c)) (k0_pay7 (gates xs rs c)))

/-- The experts, gathered; -/
def iAll : (cc0_stg3_0 : Ref sig .tc).ty.Contents (Elt F) := fun i : S2x2x1024.Idx =>
  if (i 1).val = 0 then idx0 xs rs (at' c (i 0).val) (inI i) else idx1 xs rs (at' c (i 0).val) (inI i)
/-- the weights, gathered. -/
def wAll : (cc0_stg4_0 : Ref sig .tc).ty.Contents (Elt F) := fun i : S2x2x1024.Idx =>
  if (i 1).val = 0 then wgt0 xs rs (at' c (i 0).val) (inI i) else wgt1 xs rs (at' c (i 0).val) (inI i)

/-- The two devices of a pair gather the same. -/
theorem rAll_peer : rAll rs (peer c) = rAll rs c := by
  funext i; have h : ((i : S2x1024x8.Idx) 0).val < 2 := ((i : S2x1024x8.Idx) 0).isLt
  unfold rAll; rw [at_peer c h]
theorem xAll_peer : xAll xs (peer c) = xAll xs c := by
  funext i; have h : ((i : S2x1024x1024.Idx) 0).val < 2 := ((i : S2x1024x1024.Idx) 0).isLt
  unfold xAll; rw [at_peer c h]
theorem iAll_peer : iAll xs rs (peer c) = iAll xs rs c := by
  funext i; have h : ((i : S2x2x1024.Idx) 0).val < 2 := ((i : S2x2x1024.Idx) 0).isLt
  unfold iAll; rw [at_peer c h]
theorem wAll_peer : wAll xs rs (peer c) = wAll xs rs c := by
  funext i; have h : ((i : S2x2x1024.Idx) 0).val < 2 := ((i : S2x2x1024.Idx) 0).isLt
  unfold wAll; rw [at_peer c h]

/-! ## What the stores leave -/

theorem inR_emb (y : (rS c).shape.Idx) : inR ((rS c).emb y) = y := by
  funext a; apply Fin.ext
  have hx := (y a).isLt
  have e : ∀ a, k0_off1 c a = (![c.val % 2, 0, 0] : Fin 3 → ℕ) a := fun a => congrFun (k0_off1_eq c) a
  fin_cases a
  · show (k0_off1 c 0 + 1 * (y 0).val) % 1 = (y 0).val; have : (y 0).val < 1 := hx; omega
  · show (k0_off1 c 1 + 1 * (y 1).val) % 1024 = (y 1).val; rw [e 1]; show (0 + 1 * (y 1).val) % 1024 = _; have : (y 1).val < 1024 := hx; omega
  · show (k0_off1 c 2 + 1 * (y 2).val) % 8 = (y 2).val; rw [e 2]; show (0 + 1 * (y 2).val) % 8 = _; have : (y 2).val < 8 := hx; omega
theorem inX_emb (y : (xS c).shape.Idx) : inX ((xS c).emb y) = y := by
  funext a; apply Fin.ext
  have hx := (y a).isLt
  have e : ∀ a, k0_off3 c a = (![c.val % 2, 0, 0] : Fin 3 → ℕ) a := fun a => congrFun (k0_off3_eq c) a
  fin_cases a
  · show (k0_off3 c 0 + 1 * (y 0).val) % 1 = (y 0).val; have : (y 0).val < 1 := hx; omega
  · show (k0_off3 c 1 + 1 * (y 1).val) % 1024 = (y 1).val; rw [e 1]; show (0 + 1 * (y 1).val) % 1024 = _; have : (y 1).val < 1024 := hx; omega
  · show (k0_off3 c 2 + 1 * (y 2).val) % 1024 = (y 2).val; rw [e 2]; show (0 + 1 * (y 2).val) % 1024 = _; have : (y 2).val < 1024 := hx; omega
theorem inI_emb {r : ℕ} {off : Fin 3 → ℕ} (h : off = ![c.val % 2, r, 0]) (inb : ∀ d, off d + S1x1x1024.size d ≤ S2x2x1024.size d)
    (y : S1x1x1024.Idx) : inI ((Rect.unit (s := S2x2x1024) off S1x1x1024.size inb).emb y) = y := by
  subst h
  funext a; apply Fin.ext
  have hx := (y a).isLt
  fin_cases a
  · show (c.val % 2 + 1 * (y 0).val) % 1 = (y 0).val; have : (y 0).val < 1 := hx; omega
  · show (r + 1 * (y 1).val) % 1 = (y 1).val; have : (y 1).val < 1 := hx; omega
  · show (0 + 1 * (y 2).val) % 1024 = (y 2).val; have : (y 2).val < 1024 := hx; omega

/-- Storing its router columns makes a device's slot what is gathered there; -/
theorem storedR (f : (cc0_scratch0 : Ref sig .tc).ty.Contents (Elt F)) :
    ∀ i ∈ (rV c).view.set, (rM.access (rS c) : View sig .tc _ _ _).write (Elt F) f (k0_pay1 (rs c)) Finset.univ i = rAll rs c i := by
  intro i hi
  rw [rV_set, ← rS_sub] at hi
  have hz := (mem_rS c i).mp hi
  rw [← View.set_slice_whole cc0_scratch0] at hi
  obtain ⟨y, rfl⟩ := View.exists_of_mem_set_slice hi
  refine (View.write_emb_of_mem (v := (rM.access (rS c) : View sig .tc _ _ _)) (Val := Elt F) f (k0_pay1 (rs c)) (x := y) (Finset.mem_univ _)).trans ?_
  show k0_pay1 (rs c) y = k0_pay1 (rs (at' c ((rS c).emb y 0).val)) (inR ((rS c).emb y))
  rw [show ((rS c).emb y 0).val = c.val % 2 from hz, at_self, inR_emb]
/-- storing its tokens likewise; -/
theorem storedX (f : (cc0_stg2_0 : Ref sig .tc).ty.Contents (Elt F)) :
    ∀ i ∈ (xV c).view.set, (aM.access (xS c) : View sig .tc _ _ _).write (Elt F) f (k0_pay2 (xs c)) Finset.univ i = xAll xs c i := by
  intro i hi
  rw [xV_set, ← xS_sub] at hi
  have hz := (mem_xS c i).mp hi
  rw [← View.set_slice_whole cc0_stg2_0] at hi
  obtain ⟨y, rfl⟩ := View.exists_of_mem_set_slice hi
  refine (View.write_emb_of_mem (v := (aM.access (xS c) : View sig .tc _ _ _)) (Val := Elt F) f (k0_pay2 (xs c)) (x := y) (Finset.mem_univ _)).trans ?_
  show k0_pay2 (xs c) y = k0_pay2 (xs (at' c ((xS c).emb y 0).val)) (inX ((xS c).emb y))
  rw [show ((xS c).emb y 0).val = c.val % 2 from hz, at_self, inX_emb]

/-- A store of a row, read in the row; -/
theorem rowI_in (M : Ref sig .tc) (r : Rect M.ty.shape) (f : M.ty.Contents (Elt F)) (w : r.shape.Idx → Elt F M.ty.elt) (i : M.ty.shape.Idx) (hi : i ∈ r.set) :
    ∃ y, r.emb y = i ∧ ((Memref.whole M).access r : View sig .tc _ _ _).write (Elt F) f w Finset.univ i = w y := by
  rw [← View.set_slice_whole M] at hi
  obtain ⟨y, rfl⟩ := View.exists_of_mem_set_slice hi
  exact ⟨y, rfl, View.write_emb_of_mem (v := ((Memref.whole M).access r : View sig .tc _ _ _)) (Val := Elt F) f w (x := y) (Finset.mem_univ _)⟩
/-- and beside it. -/
theorem rowI_out (M : Ref sig .tc) (r : Rect M.ty.shape) (f : M.ty.Contents (Elt F)) (w : r.shape.Idx → Elt F M.ty.elt) (i : M.ty.shape.Idx) (hi : i ∉ r.set) :
    ((Memref.whole M).access r : View sig .tc _ _ _).write (Elt F) f w Finset.univ i = f i :=
  View.write_of_not_mem (v := ((Memref.whole M).access r : View sig .tc _ _ _)) (Val := Elt F) f w Finset.univ
    (by rw [View.setOn_univ]; show i ∉ ((View.whole M).slice r).set; rw [View.set_slice_whole]; exact hi)

/-- Storing both rows of the chosen experts makes the slot what is gathered there; -/
theorem storedI (f : (cc0_stg3_0 : Ref sig .tc).ty.Contents (Elt F)) :
    ∀ i ∈ (iV c).view.set, (iM.access (iS1 c) : View sig .tc _ _ _).write (Elt F)
      ((iM.access (iS0 c) : View sig .tc _ _ _).write (Elt F) f (idx0 xs rs c) Finset.univ) (idx1 xs rs c) Finset.univ i = iAll xs rs c i := by
  intro i hi
  rw [iV_set] at hi
  have hz := (mem_iQ c i).mp hi
  have h1 : ((i : S2x2x1024.Idx) 1).val < 2 := ((i : S2x2x1024.Idx) 1).isLt
  unfold iAll
  rw [show (((i : S2x2x1024.Idx) 0).val) = c.val % 2 from hz, at_self]
  by_cases h : ((i : S2x2x1024.Idx) 1).val = 0
  · rw [if_pos h, rowI_out cc0_stg3_0 (iS1 c) _ _ i (fun hm => by have := ((mem_iS1 c i).mp hm).2; omega)]
    obtain ⟨y, rfl, e⟩ := rowI_in cc0_stg3_0 (iS0 c) f (idx0 xs rs c) i ((mem_iS0 c i).mpr ⟨hz, h⟩)
    rw [e, inI_emb c (k0_off5_eq c)]
  · rw [if_neg h]
    obtain ⟨y, rfl, e⟩ := rowI_in cc0_stg3_0 (iS1 c) ((iM.access (iS0 c) : View sig .tc _ _ _).write (Elt F) f (idx0 xs rs c) Finset.univ) (idx1 xs rs c) i
      ((mem_iS1 c i).mpr ⟨hz, by omega⟩)
    rw [e, inI_emb c (k0_off6_eq c)]
/-- of the weights likewise. -/
theorem storedW (f : (cc0_stg4_0 : Ref sig .tc).ty.Contents (Elt F)) :
    ∀ i ∈ (wV c).view.set, (wM.access (iS1 c) : View sig .tc _ _ _).write (Elt F)
      ((wM.access (iS0 c) : View sig .tc _ _ _).write (Elt F) f (wgt0 xs rs c) Finset.univ) (wgt1 xs rs c) Finset.univ i = wAll xs rs c i := by
  intro i hi
  rw [wV_set] at hi
  have hz := (mem_iQ c i).mp hi
  have h1 : ((i : S2x2x1024.Idx) 1).val < 2 := ((i : S2x2x1024.Idx) 1).isLt
  unfold wAll
  rw [show (((i : S2x2x1024.Idx) 0).val) = c.val % 2 from hz, at_self]
  by_cases h : ((i : S2x2x1024.Idx) 1).val = 0
  · rw [if_pos h, rowI_out cc0_stg4_0 (iS1 c) _ _ i (fun hm => by have := ((mem_iS1 c i).mp hm).2; omega)]
    obtain ⟨y, rfl, e⟩ := rowI_in cc0_stg4_0 (iS0 c) f (wgt0 xs rs c) i ((mem_iS0 c i).mpr ⟨hz, h⟩)
    rw [e, inI_emb c (k0_off5_eq c)]
  · rw [if_neg h]
    obtain ⟨y, rfl, e⟩ := rowI_in cc0_stg4_0 (iS1 c) ((wM.access (iS0 c) : View sig .tc _ _ _).write (Elt F) f (wgt0 xs rs c) Finset.univ) (wgt1 xs rs c) i
      ((mem_iS1 c i).mpr ⟨hz, by omega⟩)
    rw [e, inI_emb c (k0_off6_eq c)]

theorem mem_g0 (i : S1024x16.Idx) : i ∈ g0.set ↔ (i 1).val < 8 := by
  rw [Rect.mem_set_unit]
  constructor
  · intro h; have : (i 1).val < 0 + 8 := (h 1).2; omega
  · intro h a
    have hi := (i a).isLt
    fin_cases a
    · exact ⟨Nat.zero_le _, by show (i 0).val < 0 + 1024; have : (i 0).val < 1024 := hi; omega⟩
    · exact ⟨Nat.zero_le _, by show (i 1).val < 0 + 8; omega⟩
theorem mem_g1 (i : S1024x16.Idx) : i ∈ g1.set ↔ 8 ≤ (i 1).val := by
  rw [Rect.mem_set_unit]
  constructor
  · intro h; exact (h 1).1
  · intro h a
    have hi := (i a).isLt
    fin_cases a
    · exact ⟨Nat.zero_le _, by show (i 0).val < 0 + 1024; have : (i 0).val < 1024 := hi; omega⟩
    · exact ⟨h, by show (i 1).val < 8 + 8; have : (i 1).val < 16 := hi; omega⟩
theorem inG_0 (y : g0.shape.Idx) : inG (g0.emb y) = y := by
  funext a; apply Fin.ext
  have hx := (y a).isLt
  fin_cases a
  · show (0 + 1 * (y 0).val) % 1024 = (y 0).val; have : (y 0).val < 1024 := hx; omega
  · show (0 + 1 * (y 1).val) % 8 = (y 1).val; have : (y 1).val < 8 := hx; omega
theorem inG_1 (y : g1.shape.Idx) : inG (g1.emb y) = y := by
  funext a; apply Fin.ext
  have hx := (y a).isLt
  fin_cases a
  · show (0 + 1 * (y 0).val) % 1024 = (y 0).val; have : (y 0).val < 1024 := hx; omega
  · show (8 + 1 * (y 1).val) % 8 = (y 1).val; have : (y 1).val < 8 := hx; omega

theorem hz2 : (![0, 0] : Fin 2 → Nat) = fun _ => 0 := funext fun a => by fin_cases a <;> rfl

/-- The gates as stored, half by half, and read whole. -/
theorem storedG (f : (cc0_scratch1 : Ref sig .tc).ty.Contents (Elt F)) :
    gM.view.readAt (Elt F) gW.toLoadRect ((gM.access g1 : View sig .tc _ _ _).write (Elt F)
      ((gM.access g0 : View sig .tc _ _ _).write (Elt F) f (k0_pay4 (xs c) (rBlk (rAll rs c) 0)) Finset.univ) (k0_pay5 (xs c) (rBlk (rAll rs c) 1)) Finset.univ)
      = gates xs rs c := by
  refine (Memref.readAt_unit_zero (Elt F) cc0_scratch1 hz2 _ _).trans ?_
  funext i
  unfold gates
  by_cases h : (i 1).val < 8
  · rw [if_pos h]
    refine (rowI_out cc0_scratch1 g1 _ _ i (fun hm => absurd ((mem_g1 i).mp hm) (by omega))).trans ?_
    obtain ⟨y, rfl, e⟩ := rowI_in cc0_scratch1 g0 f (k0_pay4 (xs c) (rBlk (rAll rs c) 0)) i ((mem_g0 i).mpr h)
    rw [inG_0]; exact e
  · rw [if_neg h]
    obtain ⟨y, rfl, e⟩ := rowI_in cc0_scratch1 g1 ((gM.access g0 : View sig .tc _ _ _).write (Elt F) f (k0_pay4 (xs c) (rBlk (rAll rs c) 0)) Finset.univ)
      (k0_pay5 (xs c) (rBlk (rAll rs c) 1)) i ((mem_g1 i).mpr (by omega))
    rw [inG_1]; exact e

end Values

/-- What a copy of a slot into the same slot elsewhere leaves there. -/
theorem landed {sp : Space} {s : Shape} {e : EltTy} (v : View sig .tc sp s e) (f g : v.ty.Contents (Elt F)) :
    ∀ i ∈ v.set, v.write (Elt F) f (v.read (Elt F) g) Finset.univ i = g i := by
  intro i hi
  obtain ⟨x, -, rfl⟩ := Finset.mem_map.mp hi
  rw [View.write_emb_of_mem f _ (Finset.mem_univ x), View.read_apply, cast_cast, cast_eq]

end Cert.ExchangeIdealRun

end
-- ==== Proof.ExchangeIdealRun.lean ====
/-
# The exchange call runs: its body on a symbolic device, and the launch

The body is followed once, for a device `c`: signal the peer, wait for it, send the router's columns and the tokens, wait for the
peer's columns, score, pick the experts, send those and the weights, wait for the rest. `run_main` is the launch: every device
ends with what the pair gathered, all counters at zero.
-/
module

public import proofs.«01_k».proof.Proof.ExchangeIdealTables
public import Idealize.ShloMosaic.Lib.Pipeline.Launch
public import Idealize.ShloMosaic.Lib.Pipeline.Kit
public import Idealize.ShloMosaic.Lib.Pipeline.CollectiveSegs
public import Idealize.ShloMosaic.Lib.Tactic

@[expose] public section

noncomputable section

namespace Cert.ExchangeIdealRun

open Cert.ExchangeIdeal Cert.ExchangeIdeal.Gen Cert.Talk
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UU nD τ sig) ℕ

variable (m : (ℓ : Loc nD τ sig) → Buf (Elt F) ℓ) (ρ : Dev nD → PrngReg)

/-- The memory at launch. -/
def s₀ : MemSt nD τ sig (Elt F) := ⟨m, fun _ => 0, ρ⟩

/-- Device `c`'s tokens as staged; -/
def xstg (c : Dev nD) : (cc0_stg0_0 : Ref sig .tc).ty.Contents (Elt F) :=
  (win0_0.blk (0 : Fin 1)).view.read (Elt F) ((s₀ m ρ).mem ((c : Thread nD τ).loc main_arg0))
/-- its router columns. -/
def kstg (c : Dev nD) : (cc0_stg1_0 : Ref sig .tc).ty.Contents (Elt F) :=
  (win0_1.blk (0 : Fin 1)).view.read (Elt F) ((s₀ m ρ).mem ((c : Thread nD τ).loc main_arg1))
/-- What the pair of device `c` gathers: the router, -/
def rG (c : Dev nD) := rAll (kstg m ρ) c
/-- the tokens, -/
def xG (c : Dev nD) := xAll (xstg m ρ) c
/-- the experts, -/
def iG (c : Dev nD) := iAll (xstg m ρ) (kstg m ρ) c
/-- the weights. -/
def wG (c : Dev nD) := wAll (xstg m ρ) (kstg m ρ) c

/-! ## What each raise hands over -/

/-- A part `I` of device `c`'s buffer `b`. -/
def pts (b : Ref sig .tc) (c : Dev nD) (I : Finset b.ty.shape.Idx) (f : b.ty.Contents (Elt F)) : sProp 𝕄 := ((c : Thread nD τ).loc b) ↦[I]{fullShare} f

instance pts_storable (b : Ref sig .tc) (c : Dev nD) (I f) : BI.Storable (upEmb : UEmb _ 𝕄) (pts (F := F) b c I f) := by unfold pts; infer_instance

theorem pts_congr (b : Ref sig .tc) (c : Dev nD) {I : Finset b.ty.shape.Idx} {f g : b.ty.Contents (Elt F)} (h : ∀ i ∈ I, f i = g i) : (pts b c I f : sProp 𝕄) = pts b c I g := by
  unfold pts; exact pointsTo_congr h

/-- Plainly. -/
theorem pts_out (b : Ref sig .tc) (c : Dev nD) (I : Finset b.ty.shape.Idx) (f : b.ty.Contents (Elt F)) :
    (pts b c I f : sProp 𝕄) ⊢ (((c : Thread nD τ).loc b) ↦[I]{fullShare} f) := BI.Entails.refl _

/-- A buffer is its two slots. -/
theorem slots (b : Ref sig .tc) (c : Dev nD) {I J : Finset b.ty.shape.Idx} (hd : Disjoint I J) (hc : I ∪ J = Finset.univ) (f : b.ty.Contents (Elt F)) :
    (((c : Thread nD τ).loc b) ↦{fullShare} f : sProp 𝕄) ⊣⊢ iprop(pts b c I f ∗ pts b c J f) := by
  unfold pts
  have h := pointsTo_union (Ix := Unit) (Name := ℕ) (U := UU nD τ sig) (Lvl := ℕ) (ℓ := (c : Thread nD τ).loc b) (q := fullShare) (f := f) hd
  have e : (I ∪ J : Finset ((c : Thread nD τ).loc b).ty.shape.Idx) = Finset.univ := hc
  rw [e] at h; exact h

/-- What the one raise of each cell of device `c` hands it: the barrier, its own slot of each of the peer's buffers; a send, its
    own slot back; a receive, the other slot, filled. -/
def pay (c : Dev nD) : Fin 9 → sProp 𝕄
  | 0 => iprop((∃ f, pts cc0_scratch0 (peer c) (rV c).view.set f) ∗ (∃ f, pts cc0_stg2_0 (peer c) (xV c).view.set f)
      ∗ (∃ f, pts cc0_stg3_0 (peer c) (iV c).view.set f) ∗ ∃ f, pts cc0_stg4_0 (peer c) (wV c).view.set f)
  | 1 => pts cc0_scratch0 c (rV c).view.set (rG m ρ c)
  | 2 => pts cc0_stg2_0 c (xV c).view.set (xG m ρ c)
  | 3 => pts cc0_stg3_0 c (iV c).view.set (iG m ρ c)
  | 4 => pts cc0_stg4_0 c (wV c).view.set (wG m ρ c)
  | 5 => pts cc0_scratch0 c (rV (peer c)).view.set (rG m ρ c)
  | 6 => pts cc0_stg2_0 c (xV (peer c)).view.set (xG m ρ c)
  | 7 => pts cc0_stg3_0 c (iV (peer c)).view.set (iG m ρ c)
  | 8 => pts cc0_stg4_0 c (wV (peer c)).view.set (wG m ρ c)

instance pay_storable (c : Dev nD) (k : Fin 9) : BI.Storable (upEmb : UEmb _ 𝕄) (pay (F := F) m ρ c k) := by
  fin_cases k <;> (unfold pay; infer_instance)

/-! ## The pipeline's data -/

/-- The two scratch buffers. -/
def scr (c : Dev nD) : sProp 𝕄 :=
  iprop((∃ f : (cc0_scratch0 : Ref sig .tc).ty.Contents (Elt F), ((c : Thread nD τ).loc cc0_scratch0) ↦{fullShare} f)
    ∗ ∃ f : (cc0_scratch1 : Ref sig .tc).ty.Contents (Elt F), ((c : Thread nD τ).loc cc0_scratch1) ↦{fullShare} f)
/-- What the body starts from: the protocol's start and the two scratch buffers. -/
def Φ₀ (c : Dev nD) : sProp 𝕄 := iprop(T.start (pay m ρ) c ∗ scr c)
/-- What it ends with: the buffers, and every cell closed at zero. -/
def Φ₁ (c : Dev nD) : sProp 𝕄 := iprop(scr (F := F) c ∗ bigSep Finset.univ fun k : Fin 9 => semVal (T.cell c k) 0)

def dats (_ : Fin 1) (c : Dev nD) : Dat τ (Elt F) Unit ℕ (UU nD τ sig) ℕ cfg0 c where
  A w := (s₀ m ρ).mem ((cfg0.win w).arr.view.loc (c : Thread nD τ))
  after w _ := match w with
    | ⟨0, _⟩ => xstg m ρ c
    | ⟨1, _⟩ => kstg m ρ c
    | ⟨2, _⟩ => xG m ρ c
    | ⟨3, _⟩ => iG m ρ c
    | ⟨4, _⟩ => wG m ρ c
  Φ t := match t with
    | ⟨0, _⟩ => Φ₀ m ρ c
    | ⟨_ + 1, _⟩ => Φ₁ c
  q _ := fullShare
  owed t := match t with
    | ⟨0, _⟩ => T.owed₀ c
    | ⟨_ + 1, _⟩ => 0

abbrev 𝒱₀ : Variants := Variants.none

theorem owns_whole_eq (c : Dev nD) (b : Ref sig .tc) (X : b.ty.Contents (Elt F)) :
    (owns (Ix := Unit) (Name := ℕ) (U := UU nD τ sig) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## The copies -/

/-- A slot copied into the same slot of the peer: it goes to the own send cell, what lands to the peer's receive cell. -/
theorem wp_slot (K : Dev nD × Fin 9 → ℕ) (c d : Dev nD) (hd : d = peer c) {s : Shape} {e : EltTy} (M : Memref sig .tc .vmem s e) {j k : Fin 9} {sS sR : SemLoc sig}
    (hj : T.csem j = sS) (hk : T.csem k = sR) (g f : M.view.ref.ty.Contents (Elt F))
    (hpj : pay m ρ c j = pts M.view.ref c M.view.set g) (hpk : pay m ρ (peer c) k = pts M.view.ref (peer c) M.view.set g)
    {hsc : (M : Memref sig (Dev.tc d : Thread nD τ).2.kind .vmem s e).view.ref.isScScratch = false}
    {hsrc : M.view.WordExact} {hdst : M.view.WordExact}
    {hsem : DmaTarget.Typed .vmem sR (.remote (Dev.tc d : Thread nD τ) M sS hsc)}
    (hN : M.view.amount sR = T.amt k) (hjk : T.amt j = T.amt k)
    {l : List (Fin 9)} {W : Waits sig Unit}
    {α : Type} {Q : α → sProp 𝕄} {kont : PUnit → Prog (TpuEff nD τ sig (Elt F) Λ₀ .tc) α} :
    iprop(T.records (pay m ρ) K ∗ pts M.view.ref c M.view.set g ∗ pts M.view.ref (peer c) M.view.set f
        ∗ owes (c : Thread nD τ) (T.owed c (k :: l)) W ∗ dutyTok ER (T.cell c j) 0 () ∗ dutyTok ER (T.cell (peer c) k) 0 ())
      ⊢ iprop(((cred (tallyAt (T.cell c j) () (T.amt j)) ∗ owes (c : Thread nD τ) (T.owed c l) W) -∗ wp frame (wpE (defs₀ (F := F)) 𝒱₀ (c : Thread nD τ) none) Set.univ (kont ⟨⟩) Q)
          -∗ wp frame (wpE (defs₀ (F := F)) 𝒱₀ (c : Thread nD τ) none) Set.univ
              (.op (.enqueueDma M (.remote (Dev.tc d : Thread nD τ) M sS hsc) sR hsrc hdst hsem) kont) Q) :=
  T.wp_copy (pay m ρ) K (defs := defs₀ (F := F)) 𝒱₀ c d hd (src := M) (dst := M) hj hk (hsc := hsc) (hsrc := hsrc) (hdst := hdst)
    (hsem := hsem) hN hjk (q := fullShare) (fs := g) (fd := f) (l := l) (W := W) (kont := kont) (Q := Q)
    (by rw [hpj]; exact BI.Entails.refl _)
    (by show _ ⊢ pay m ρ (peer c) k; rw [hpk]; exact Entails.of_eq (pts_congr M.view.ref (peer c) (landed M.view f g)))

/-! ## The body -/

theorem fin9 (Φ : Fin 9 → sProp 𝕄) : bigSep Finset.univ Φ = iprop(Φ 0 ∗ Φ 1 ∗ Φ 2 ∗ Φ 3 ∗ Φ 4 ∗ Φ 5 ∗ Φ 6 ∗ Φ 7 ∗ Φ 8) :=
  bigSep_univ_eq_bigSepL [0, 1, 2, 3, 4, 5, 6, 7, 8] (by decide) (by decide) Φ
theorem toks_eq (c : Dev nD) : (T.toks c : sProp 𝕄) = iprop(dutyTok ER (T.cell (peer c) 0) 0 () ∗ dutyTok ER (T.cell c 1) 0 () ∗ dutyTok ER (T.cell c 2) 0 ()
    ∗ dutyTok ER (T.cell c 3) 0 () ∗ dutyTok ER (T.cell c 4) 0 () ∗ dutyTok ER (T.cell (peer c) 5) 0 () ∗ dutyTok ER (T.cell (peer c) 6) 0 ()
    ∗ dutyTok ER (T.cell (peer c) 7) 0 () ∗ dutyTok ER (T.cell (peer c) 8) 0 ()) := by unfold Cells.toks; rw [fin9]; rfl
theorem creds_eq (c : Dev nD) : (T.creds c : sProp 𝕄) = iprop(cred (tallyAt (T.cell c 0) () (T.amt 0)) ∗ cred (tallyAt (T.cell c 5) () (T.amt 5))
    ∗ cred (tallyAt (T.cell c 6) () (T.amt 6)) ∗ cred (tallyAt (T.cell c 7) () (T.amt 7)) ∗ cred (tallyAt (T.cell c 8) () (T.amt 8))) := by
  unfold Cells.creds
  exact bigSep_eq_bigSepL_of_eq ([0, 5, 6, 7, 8] : List (Fin 9)) rfl (by decide) _

/-- What the signal hands the peer: the peer's slot of each of the device's buffers; -/
theorem bar_intro (c : Dev nD) (fr : (cc0_scratch0 : Ref sig .tc).ty.Contents (Elt F)) (fx : (cc0_stg2_0 : Ref sig .tc).ty.Contents (Elt F))
    (fi : (cc0_stg3_0 : Ref sig .tc).ty.Contents (Elt F)) (fw : (cc0_stg4_0 : Ref sig .tc).ty.Contents (Elt F)) :
    iprop(pts cc0_scratch0 c (rV (peer c)).view.set fr ∗ pts cc0_stg2_0 c (xV (peer c)).view.set fx ∗ pts cc0_stg3_0 c (iV (peer c)).view.set fi
      ∗ pts cc0_stg4_0 c (wV (peer c)).view.set fw) ⊢ pay m ρ (T.peer c) 0 := by
  show _ ⊢ iprop((∃ f, pts cc0_scratch0 (peer (peer c)) (rV (peer c)).view.set f) ∗ (∃ f, pts cc0_stg2_0 (peer (peer c)) (xV (peer c)).view.set f)
      ∗ (∃ f, pts cc0_stg3_0 (peer (peer c)) (iV (peer c)).view.set f) ∗ ∃ f, pts cc0_stg4_0 (peer (peer c)) (wV (peer c)).view.set f)
  rw [peer_peer]; iintro ⟨H1, H2, H3, H4⟩
  isplitl [H1]; · iexists fr; iexact H1
  isplitl [H2]; · iexists fx; iexact H2
  isplitl [H3]; · iexists fi; iexact H3
  iexists fw; iexact H4
/-- what the wait yields: its own slot of each of the peer's. -/
theorem bar_elim (c : Dev nD) : pay (F := F) m ρ c 0 ⊢ iprop((∃ f, pts cc0_scratch0 (peer c) (rV c).view.set f) ∗ (∃ f, pts cc0_stg2_0 (peer c) (xV c).view.set f)
      ∗ (∃ f, pts cc0_stg3_0 (peer c) (iV c).view.set f) ∗ ∃ f, pts cc0_stg4_0 (peer c) (wV c).view.set f) := BI.Entails.refl _

/-- A sent slot and the received one are the gathered buffer: the router, -/
theorem r_join (c : Dev nD) : iprop(pay m ρ c 1 ∗ pay m ρ c 5) ⊢ (((c : Thread nD τ).loc cc0_scratch0) ↦{fullShare} rG m ρ c : sProp 𝕄) :=
  (slots cc0_scratch0 c (r_disj c) (r_cover c) _).2
/-- the tokens, -/
theorem x_join (c : Dev nD) : iprop(pay m ρ c 2 ∗ pay m ρ c 6) ⊢ (((c : Thread nD τ).loc cc0_stg2_0) ↦{fullShare} xG m ρ c : sProp 𝕄) :=
  (slots cc0_stg2_0 c (x_disj c) (x_cover c) _).2
/-- the experts, -/
theorem i_join (c : Dev nD) : iprop(pay m ρ c 3 ∗ pay m ρ c 7) ⊢ (((c : Thread nD τ).loc cc0_stg3_0) ↦{fullShare} iG m ρ c : sProp 𝕄) :=
  (slots cc0_stg3_0 c (i_disj c) (i_cover c) _).2
/-- the weights. -/
theorem w_join (c : Dev nD) : iprop(pay m ρ c 4 ∗ pay m ρ c 8) ⊢ (((c : Thread nD τ).loc cc0_stg4_0) ↦{fullShare} wG m ρ c : sProp 𝕄) :=
  (slots cc0_stg4_0 c (w_disj c) (w_cover c) _).2

/-- What a receive cell of the peer is handed, over the sender's slot. -/
theorem pay5 (c : Dev nD) : pay m ρ (peer c) 5 = pts cc0_scratch0 (peer c) (rV c).view.set (rG m ρ c) := by
  show pts cc0_scratch0 (peer c) (rV (peer (peer c))).view.set (rAll (kstg m ρ) (peer c)) = _; rw [peer_peer, rAll_peer]; rfl
theorem pay6 (c : Dev nD) : pay m ρ (peer c) 6 = pts cc0_stg2_0 (peer c) (xV c).view.set (xG m ρ c) := by
  show pts cc0_stg2_0 (peer c) (xV (peer (peer c))).view.set (xAll (xstg m ρ) (peer c)) = _; rw [peer_peer, xAll_peer]; rfl
theorem pay7 (c : Dev nD) : pay m ρ (peer c) 7 = pts cc0_stg3_0 (peer c) (iV c).view.set (iG m ρ c) := by
  show pts cc0_stg3_0 (peer c) (iV (peer (peer c))).view.set (iAll (xstg m ρ) (kstg m ρ) (peer c)) = _; rw [peer_peer, iAll_peer]; rfl
theorem pay8 (c : Dev nD) : pay m ρ (peer c) 8 = pts cc0_stg4_0 (peer c) (wV c).view.set (wG m ρ c) := by
  show pts cc0_stg4_0 (peer c) (wV (peer (peer c))).view.set (wAll (xstg m ρ) (kstg m ρ) (peer c)) = _; rw [peer_peer, wAll_peer]; rfl

/-- The whole tokens read; -/
theorem read_x (f : (cc0_stg0_0 : Ref sig .tc).ty.Contents (Elt F)) :
    xM.view.readAt (Elt F) (Rect.unit (s := S1024x1024) ![0, 0] S1024x1024.size inb_S1024x1024_S1024x1024_0_0).toLoadRect f = f :=
  Memref.readAt_unit_zero (Elt F) cc0_stg0_0 hz2 _ f
/-- the router's columns read. -/
theorem read_k (f : (cc0_stg1_0 : Ref sig .tc).ty.Contents (Elt F)) :
    kM.view.readAt (Elt F) (Rect.unit (s := S1024x8) ![0, 0] S1024x8.size inb_S1024x8_S1024x8_0_0).toLoadRect f = f :=
  Memref.readAt_unit_zero (Elt F) cc0_stg1_0 hz2 _ f

/-- A load at a rectangle stays in what holds the rectangle; -/
theorem load_in (b : Ref sig .tc) (r : Rect b.ty.shape) {I : Finset b.ty.shape.Idx} (h : r.set ⊆ I) : (Memref.whole b).view.setOn r.toLoadRect.set ⊆ I := by
  intro i hi; obtain ⟨x, hx, e⟩ := Finset.mem_map.mp hi; exact h (e ▸ hx)
/-- so does a store. -/
theorem store_in (b : Ref sig .tc) (r : Rect b.ty.shape) {I : Finset b.ty.shape.Idx} (h : r.set ⊆ I) :
    ((Memref.whole b).access r : View sig .tc _ _ _).setOn Finset.univ ⊆ I := by
  rw [View.setOn_univ]; show ((View.whole b).slice r).set ⊆ I; rw [View.set_slice_whole]; exact h

theorem r_in (c : Dev nD) : (rS c).set ⊆ (rV c).view.set := by rw [rV_set, rS_sub]
theorem x_in (c : Dev nD) : (xS c).set ⊆ (xV c).view.set := by rw [xV_set, xS_sub]
theorem i0_in (c : Dev nD) : (iS0 c).set ⊆ (iV c).view.set := by rw [iV_set]; exact iS0_sub c
theorem i1_in (c : Dev nD) : (iS1 c).set ⊆ (iV c).view.set := by rw [iV_set]; exact iS1_sub c
theorem w0_in (c : Dev nD) : (iS0 c).set ⊆ (wV c).view.set := by rw [wV_set]; exact iS0_sub c
theorem w1_in (c : Dev nD) : (iS1 c).set ⊆ (wV c).view.set := by rw [wV_set]; exact iS1_sub c

/-- The slots as stored. -/
theorem storedR_pts (c : Dev nD) (f : (cc0_scratch0 : Ref sig .tc).ty.Contents (Elt F)) :
    (((rM.access (rS c) : View sig .tc _ _ _).loc (c : Thread nD τ) ↦[(rV c).view.set]{fullShare}
        ((rM.access (rS c) : View sig .tc _ _ _).write (Elt F) f (k0_pay1 (kstg m ρ c)) Finset.univ)) : sProp 𝕄) ⊢ pts cc0_scratch0 c (rV c).view.set (rG m ρ c) :=
  Entails.of_eq (pts_congr cc0_scratch0 c (storedR (kstg m ρ) c f))
theorem storedX_pts (c : Dev nD) (f : (cc0_stg2_0 : Ref sig .tc).ty.Contents (Elt F)) :
    (((aM.access (xS c) : View sig .tc _ _ _).loc (c : Thread nD τ) ↦[(xV c).view.set]{fullShare}
        ((aM.access (xS c) : View sig .tc _ _ _).write (Elt F) f (k0_pay2 (xstg m ρ c)) Finset.univ)) : sProp 𝕄) ⊢ pts cc0_stg2_0 c (xV c).view.set (xG m ρ c) :=
  Entails.of_eq (pts_congr cc0_stg2_0 c (storedX (xstg m ρ) c f))
theorem storedI_pts (c : Dev nD) (f : (cc0_stg3_0 : Ref sig .tc).ty.Contents (Elt F)) :
    (((iM.access (iS1 c) : View sig .tc _ _ _).loc (c : Thread nD τ) ↦[(iV c).view.set]{fullShare}
        ((iM.access (iS1 c) : View sig .tc _ _ _).write (Elt F) ((iM.access (iS0 c) : View sig .tc _ _ _).write (Elt F) f (k0_pay12 (gates (xstg m ρ) (kstg m ρ) c) (k0_pay7 (gates (xstg m ρ) (kstg m ρ) c))) Finset.univ)
          (k0_pay13 (gates (xstg m ρ) (kstg m ρ) c) (k0_pay7 (gates (xstg m ρ) (kstg m ρ) c))) Finset.univ)) : sProp 𝕄) ⊢ pts cc0_stg3_0 c (iV c).view.set (iG m ρ c) :=
  Entails.of_eq (pts_congr cc0_stg3_0 c (storedI (xstg m ρ) (kstg m ρ) c f))
theorem storedW_pts (c : Dev nD) (f : (cc0_stg4_0 : Ref sig .tc).ty.Contents (Elt F)) :
    (((wM.access (iS1 c) : View sig .tc _ _ _).loc (c : Thread nD τ) ↦[(wV c).view.set]{fullShare}
        ((wM.access (iS1 c) : View sig .tc _ _ _).write (Elt F) ((wM.access (iS0 c) : View sig .tc _ _ _).write (Elt F) f (k0_pay14 (gates (xstg m ρ) (kstg m ρ) c) (k0_pay6 (gates (xstg m ρ) (kstg m ρ) c)) (k0_pay7 (gates (xstg m ρ) (kstg m ρ) c))) Finset.univ)
          (k0_pay16 (k0_pay15 (gates (xstg m ρ) (kstg m ρ) c) (k0_pay6 (gates (xstg m ρ) (kstg m ρ) c)) (k0_pay7 (gates (xstg m ρ) (kstg m ρ) c)))) Finset.univ)) : sProp 𝕄) ⊢ pts cc0_stg4_0 c (wV c).view.set (wG m ρ c) :=
  Entails.of_eq (pts_congr cc0_stg4_0 c (storedW (xstg m ρ) (kstg m ρ) c f))

/-- The wait for cell 1. -/
theorem wait1 (c : Dev nD) {hsrc hdst} (X : PUnit → sProp 𝕄) :
    wpE (defs₀ (F := F)) 𝒱₀ (c : Thread nD τ) none Set.univ (.waitDma2 sndR (rV c) (rV c) hsrc hdst) X
      = waitSpec (c : Thread nD τ) Set.univ (T.csem 1) (T.amt 1) X := rfl
/-- The wait for cell 2. -/
theorem wait2 (c : Dev nD) {hsrc hdst} (X : PUnit → sProp 𝕄) :
    wpE (defs₀ (F := F)) 𝒱₀ (c : Thread nD τ) none Set.univ (.waitDma2 sndX (xV c) (xV c) hsrc hdst) X
      = waitSpec (c : Thread nD τ) Set.univ (T.csem 2) (T.amt 2) X := rfl
/-- The wait for cell 3. -/
theorem wait3 (c : Dev nD) {hsrc hdst} (X : PUnit → sProp 𝕄) :
    wpE (defs₀ (F := F)) 𝒱₀ (c : Thread nD τ) none Set.univ (.waitDma2 sndI (iV c) (iV c) hsrc hdst) X
      = waitSpec (c : Thread nD τ) Set.univ (T.csem 3) (T.amt 3) X := rfl
/-- The wait for cell 4. -/
theorem wait4 (c : Dev nD) {hsrc hdst} (X : PUnit → sProp 𝕄) :
    wpE (defs₀ (F := F)) 𝒱₀ (c : Thread nD τ) none Set.univ (.waitDma2 sndW (wV c) (wV c) hsrc hdst) X
      = waitSpec (c : Thread nD τ) Set.univ (T.csem 4) (T.amt 4) X := rfl
/-- The wait for cell 5. -/
theorem wait5 (c : Dev nD) {hsrc hdst} (X : PUnit → sProp 𝕄) :
    wpE (defs₀ (F := F)) 𝒱₀ (c : Thread nD τ) none Set.univ (.waitDma2 rcvR (rV c) (rV c) hsrc hdst) X
      = waitSpec (c : Thread nD τ) Set.univ (T.csem 5) (T.amt 5) X := rfl
/-- The wait for cell 6. -/
theorem wait6 (c : Dev nD) {hsrc hdst} (X : PUnit → sProp 𝕄) :
    wpE (defs₀ (F := F)) 𝒱₀ (c : Thread nD τ) none Set.univ (.waitDma2 rcvX (xV c) (xV c) hsrc hdst) X
      = waitSpec (c : Thread nD τ) Set.univ (T.csem 6) (T.amt 6) X := rfl
/-- The wait for cell 7. -/
theorem wait7 (c : Dev nD) {hsrc hdst} (X : PUnit → sProp 𝕄) :
    wpE (defs₀ (F := F)) 𝒱₀ (c : Thread nD τ) none Set.univ (.waitDma2 rcvI (iV c) (iV c) hsrc hdst) X
      = waitSpec (c : Thread nD τ) Set.univ (T.csem 7) (T.amt 7) X := rfl
/-- The wait for cell 8. -/
theorem wait8 (c : Dev nD) {hsrc hdst} (X : PUnit → sProp 𝕄) :
    wpE (defs₀ (F := F)) 𝒱₀ (c : Thread nD τ) none Set.univ (.waitDma2 rcvW (wV c) (wV c) hsrc hdst) X
      = waitSpec (c : Thread nD τ) Set.univ (T.csem 8) (T.amt 8) X := rfl

section Body

variable (K : Dev nD × Fin 9 → ℕ)

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- The staged windows before the body. -/
def wins (c : Dev nD) : sProp 𝕄 :=
  iprop((∃ d, stg c cc0_stg0_0 ((dats m ρ 0 c).before (0 : Fin 5) t0_0 d))
    ∗ (∃ d, stg c cc0_stg1_0 ((dats m ρ 0 c).before (1 : Fin 5) t0_0 d))
    ∗ (∃ d, stg c cc0_stg2_0 ((dats m ρ 0 c).before (2 : Fin 5) t0_0 d))
    ∗ (∃ d, stg c cc0_stg3_0 ((dats m ρ 0 c).before (3 : Fin 5) t0_0 d))
    ∗ (∃ d, stg c cc0_stg4_0 ((dats m ρ 0 c).before (4 : Fin 5) t0_0 d)))

def bodyPre (c : Dev nD) : sProp 𝕄 :=
  iprop(((T.records (pay m ρ) K ∗ T.ats c ∗ T.toks c) ∗ T.creds c ∗ levAts Cells.L T.lv ∗ scr c)
    ∗ (dats m ρ 0 c).owesAt () t0_0.castSucc ∗ wins m ρ c)
def bodyPost (c : Dev nD) : sProp 𝕄 :=
  iprop(Φ₁ c ∗ (dats m ρ 0 c).owesAt () t0_0.succ ∗ stg c cc0_stg0_0 (xstg m ρ c) ∗ stg c cc0_stg1_0 (kstg m ρ c) ∗ stg c cc0_stg2_0 (xG m ρ c)
    ∗ stg c cc0_stg3_0 (iG m ρ c) ∗ stg c cc0_stg4_0 (wG m ρ c))

set_option maxHeartbeats 400000 in
/-- The body, rule by rule in program order. -/
theorem sound_body (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0__exchange_body xM (Memref.isWhole_whole _) kM (Memref.isWhole_whole _) aM (Memref.isWhole_whole _) iM (Memref.isWhole_whole _) wM (Memref.isWhole_whole _) rM (Memref.isWhole_whole _) gM (Memref.isWhole_whole _) cc0_scratch2 cc0_scratch3) Kt := by
  rw [cc0__exchange_body_eq_skeleton]; unfold cc0__exchange_body_skel
  unfold bodyPre scr wins
  rw [toks_eq, creds_eq, Cells.ats, fin9]
  iintro ⟨⟨⟨⟨#HR, ⟨Ha0, Ha1, Ha2, Ha3, Ha4, Ha5, Ha6, Ha7, Ha8⟩, Ht0, Ht1, Ht2, Ht3, Ht4, Ht5, Ht6, Ht7, Ht8⟩, ⟨Hc0, Hc5, Hc6, Hc7, Hc8⟩, #HL, ⟨%fr, Hr⟩, ⟨%fg, Hg⟩⟩,
    Ho, ⟨%d0, %g0, %hg0, Hx⟩, ⟨%d1, %g1, %hg1, Hk⟩, ⟨%d2, %fx, %hg2, HA⟩, ⟨%d3, %fi, %hg3, HI⟩, ⟨%d4, %fw, %hg4, HW⟩⟩, HK⟩
  have hx : g0 = xstg m ρ c := by rw [hg0]; unfold Dat.before; rw [if_pos (fetch0_0 t0_0)]; rfl
  have hk : g1 = kstg m ρ c := by rw [hg1]; unfold Dat.before; rw [if_pos (fetch0_1 t0_0)]; rfl
  subst hx; subst hk
  unfold Dat.owesAt Pipeline.owesWithin
  icases Ho with ⟨%W, %hW, HO⟩
  rw [show (dats m ρ 0 c).owed t0_0.castSucc = T.owed c [0, 5, 6, 7, 8] from rfl]
  rw [wp_bind, k0_part1_eq_skeleton]; unfold k0_part1_skel
  simp only [semSignalWord, semWaitWord, Prog.lift, Prog.bind_op, Prog.bind_ret, Prog.pure_eq_ret, wp_deviceId, dev1_eq c]
  -- the signal: the peer gets its slots
  ihave Hr := (slots cc0_scratch0 c (r_disj c) (r_cover c) fr).1 $$ Hr
  icases Hr with ⟨Hr, Hr'⟩
  ihave HA := (slots cc0_stg2_0 c (x_disj c) (x_cover c) fx).1 $$ HA
  icases HA with ⟨HA, HA'⟩
  ihave HI := (slots cc0_stg3_0 c (i_disj c) (i_cover c) fi).1 $$ HI
  icases HI with ⟨HI, HI'⟩
  ihave HW := (slots cc0_stg4_0 c (w_disj c) (w_cover c) fw).1 $$ HW
  icases HW with ⟨HW, HW'⟩
  iapply (T.wp_signal (pay m ρ) K 𝒱₀ c (peer c) rfl (k := 0) (l := [5, 6, 7, 8]) rfl (by rfl)) $$ [HO Ht0 Hr' HA' HI' HW']
  · isplitr; · iexact HR
    isplitl [HO]; · iexact HO
    isplitl [Ht0]; · iexact Ht0
    iapply (bar_intro m ρ c fr fx fi fw)
    isplitl [Hr']; · iexact Hr'
    isplitl [HA']; · iexact HA'
    isplitl [HI'] <;> iassumption
  iintro HO
  -- the wait: the device's slots of the peer's buffers come
  iapply (T.wp_wait (pay m ρ) K 𝒱₀ c 0 (wpE_semWait_eq 𝒱₀ (c : Thread nD τ) none Set.univ) (l := [5, 6, 7, 8]) (by decide)) $$ [HO Hc0 Ha0]
  · isplitr; · iexact HR
    isplitr; · iexact HL
    isplitl [Hc0]; · iexact Hc0
    isplitl [HO] <;> iassumption
  iintro ⟨HO, Ha0, Hp⟩
  ihave Hp := (bar_elim m ρ c) $$ Hp
  icases Hp with ⟨⟨%pr, Hpr⟩, ⟨%px, Hpx⟩, ⟨%pi, Hpi⟩, %pw, Hpw⟩
  iapply (wp_load 𝒱₀ (c : Thread nD τ) none Set.univ (m := kM) (Finset.subset_univ _)) $$ Hk; iintro Hk
  rw [read_k]
  ihave Hr := (pts_out cc0_scratch0 c _ fr) $$ Hr
  ihave HA := (pts_out cc0_stg2_0 c _ fx) $$ HA
  ihave HI := (pts_out cc0_stg3_0 c _ fi) $$ HI
  ihave HW := (pts_out cc0_stg4_0 c _ fw) $$ HW
  iapply (wp_load 𝒱₀ (c : Thread nD τ) none Set.univ (m := rM) (load_in cc0_scratch0 (rS c) (r_in c))) $$ Hr; iintro Hr
  iapply (wp_store 𝒱₀ (c : Thread nD τ) none Set.univ (m := rM) (r := rS c) (Mk := Finset.univ) (store_in cc0_scratch0 (rS c) (r_in c))) $$ Hr; iintro Hr
  ihave Hr := (storedR_pts m ρ c fr) $$ Hr
  rw [wp_ret]; imodintro
  -- the router's columns are sent
  try dsimp only
  rw [wp_bind, k0_part2_eq_skeleton]; unfold k0_part2_skel
  simp only [Prog.lift, Prog.bind_op, Prog.bind_ret, Prog.pure_eq_ret]
  iapply (wp_slot m ρ K c _ (dev2_eq c) (rV c) (j := 1) (k := 5) rfl rfl (rG m ρ c) pr rfl (pay5 m ρ c) rfl rfl (l := [6, 7, 8])) $$ [Hr Hpr HO Ht1 Ht5]
  · isplitr; · iexact HR
    isplitl [Hr]; · iexact Hr
    isplitl [Hpr]; · iexact Hpr
    isplitl [HO]; · iexact HO
    isplitl [Ht1] <;> iassumption
  iintro ⟨Hc1, HO⟩
  -- the tokens are stored and sent
  iapply (wp_load 𝒱₀ (c : Thread nD τ) none Set.univ (m := xM) (Finset.subset_univ _)) $$ Hx; iintro Hx
  rw [read_x]
  iapply (wp_load 𝒱₀ (c : Thread nD τ) none Set.univ (m := aM) (load_in cc0_stg2_0 (xS c) (x_in c))) $$ HA; iintro HA
  iapply (wp_store 𝒱₀ (c : Thread nD τ) none Set.univ (m := aM) (r := xS c) (Mk := Finset.univ) (store_in cc0_stg2_0 (xS c) (x_in c))) $$ HA; iintro HA
  ihave HA := (storedX_pts m ρ c fx) $$ HA
  iapply (wp_slot m ρ K c _ (dev3_eq c) (xV c) (j := 2) (k := 6) rfl rfl (xG m ρ c) px rfl (pay6 m ρ c) rfl rfl (l := [7, 8])) $$ [HA Hpx HO Ht2 Ht6]
  · isplitr; · iexact HR
    isplitl [HA]; · iexact HA
    isplitl [Hpx]; · iexact Hpx
    isplitl [HO]; · iexact HO
    isplitl [Ht2] <;> iassumption
  iintro ⟨Hc2, HO⟩
  rw [wp_ret]; imodintro
  -- the router's columns are waited for
  try dsimp only
  rw [wp_bind, k0_part3_eq_skeleton]; unfold k0_part3_skel
  simp only [Prog.lift, Prog.bind_op, Prog.bind_ret, Prog.pure_eq_ret]
  iapply (T.wp_wait (pay m ρ) K 𝒱₀ c 1 (wait1 c) (l := [7, 8]) (by decide)) $$ [HO Hc1 Ha1]
  · isplitr; · iexact HR
    isplitr; · iexact HL
    isplitl [Hc1]; · iexact Hc1
    isplitl [HO] <;> iassumption
  iintro ⟨HO, Ha1, Hp1⟩
  iapply (T.wp_wait (pay m ρ) K 𝒱₀ c 5 (wait5 c) (l := [7, 8]) (by decide)) $$ [HO Hc5 Ha5]
  · isplitr; · iexact HR
    isplitr; · iexact HL
    isplitl [Hc5]; · iexact Hc5
    isplitl [HO] <;> iassumption
  iintro ⟨HO, Ha5, Hp5⟩
  ihave Hr := (r_join m ρ c) $$ [Hp1 Hp5]
  · isplitl [Hp1] <;> iassumption
  -- the gates
  iapply (wp_load 𝒱₀ (c : Thread nD τ) none Set.univ (m := xM) (Finset.subset_univ _)) $$ Hx; iintro Hx
  rw [read_x]
  iapply (wp_load 𝒱₀ (c : Thread nD τ) none Set.univ (m := rM) (Finset.subset_univ _)) $$ Hr; iintro Hr
  rw [rblk0]
  iapply (wp_load 𝒱₀ (c : Thread nD τ) none Set.univ (m := gM) (Finset.subset_univ _)) $$ Hg; iintro Hg
  iapply (wp_store 𝒱₀ (c : Thread nD τ) none Set.univ (m := gM) (r := g0) (Mk := Finset.univ) (Finset.subset_univ _)) $$ Hg; iintro Hg
  iapply (wp_load 𝒱₀ (c : Thread nD τ) none Set.univ (m := rM) (Finset.subset_univ _)) $$ Hr; iintro Hr
  rw [rblk1]
  iapply (wp_load 𝒱₀ (c : Thread nD τ) none Set.univ (m := gM) (Finset.subset_univ _)) $$ Hg; iintro Hg
  iapply (wp_store 𝒱₀ (c : Thread nD τ) none Set.univ (m := gM) (r := g1) (Mk := Finset.univ) (Finset.subset_univ _)) $$ Hg; iintro Hg
  iapply (wp_load 𝒱₀ (c : Thread nD τ) none Set.univ (m := gM) (Finset.subset_univ _)) $$ Hg; iintro Hg
  unfold rG
  rw [storedG (xstg m ρ) (kstg m ρ) c fg]
  rw [wp_ret]; imodintro
  -- the choice
  try dsimp only
  rw [wp_bind, k0_part4_eq_skeleton]; unfold k0_part4_skel
  simp only [Prog.lift, Prog.bind_op, Prog.bind_ret, Prog.pure_eq_ret]
  iapply (wp_load 𝒱₀ (c : Thread nD τ) none Set.univ (m := iM) (load_in cc0_stg3_0 (iS0 c) (i0_in c))) $$ HI; iintro HI
  iapply (wp_store 𝒱₀ (c : Thread nD τ) none Set.univ (m := iM) (r := iS0 c) (Mk := Finset.univ) (store_in cc0_stg3_0 (iS0 c) (i0_in c))) $$ HI; iintro HI
  iapply (wp_load 𝒱₀ (c : Thread nD τ) none Set.univ (m := iM) (load_in cc0_stg3_0 (iS1 c) (i1_in c))) $$ HI; iintro HI
  iapply (wp_store 𝒱₀ (c : Thread nD τ) none Set.univ (m := iM) (r := iS1 c) (Mk := Finset.univ) (store_in cc0_stg3_0 (iS1 c) (i1_in c))) $$ HI; iintro HI
  ihave HI := (storedI_pts m ρ c fi) $$ HI
  iapply (wp_load 𝒱₀ (c : Thread nD τ) none Set.univ (m := wM) (load_in cc0_stg4_0 (iS0 c) (w0_in c))) $$ HW; iintro HW
  iapply (wp_store 𝒱₀ (c : Thread nD τ) none Set.univ (m := wM) (r := iS0 c) (Mk := Finset.univ) (store_in cc0_stg4_0 (iS0 c) (w0_in c))) $$ HW; iintro HW
  rw [wp_ret]; imodintro
  try dsimp only
  rw [wp_bind, k0_part5_eq_skeleton]; unfold k0_part5_skel
  simp only [Prog.lift, Prog.bind_op, Prog.bind_ret, Prog.pure_eq_ret]
  iapply (wp_load 𝒱₀ (c : Thread nD τ) none Set.univ (m := wM) (load_in cc0_stg4_0 (iS1 c) (w1_in c))) $$ HW; iintro HW
  iapply (wp_store 𝒱₀ (c : Thread nD τ) none Set.univ (m := wM) (r := iS1 c) (Mk := Finset.univ) (store_in cc0_stg4_0 (iS1 c) (w1_in c))) $$ HW; iintro HW
  ihave HW := (storedW_pts m ρ c fw) $$ HW
  iapply (wp_slot m ρ K c _ (dev4_eq c) (iV c) (j := 3) (k := 7) rfl rfl (iG m ρ c) pi rfl (pay7 m ρ c) rfl rfl (l := [8])) $$ [HI Hpi HO Ht3 Ht7]
  · isplitr; · iexact HR
    isplitl [HI]; · iexact HI
    isplitl [Hpi]; · iexact Hpi
    isplitl [HO]; · iexact HO
    isplitl [Ht3] <;> iassumption
  iintro ⟨Hc3, HO⟩
  iapply (wp_slot m ρ K c _ (dev5_eq c) (wV c) (j := 4) (k := 8) rfl rfl (wG m ρ c) pw rfl (pay8 m ρ c) rfl rfl (l := [])) $$ [HW Hpw HO Ht4 Ht8]
  · isplitr; · iexact HR
    isplitl [HW]; · iexact HW
    isplitl [Hpw]; · iexact Hpw
    isplitl [HO]; · iexact HO
    isplitl [Ht4] <;> iassumption
  iintro ⟨Hc4, HO⟩
  rw [wp_ret]; imodintro
  -- the remaining waits
  try dsimp only
  rw [wp_bind, k0_part6_eq_skeleton]; unfold k0_part6_skel
  simp only [Prog.lift, Prog.bind_op, Prog.bind_ret, Prog.pure_eq_ret]
  iapply (T.wp_wait (pay m ρ) K 𝒱₀ c 3 (wait3 c) (l := []) (by decide)) $$ [HO Hc3 Ha3]
  · isplitr; · iexact HR
    isplitr; · iexact HL
    isplitl [Hc3]; · iexact Hc3
    isplitl [HO] <;> iassumption
  iintro ⟨HO, Ha3, Hp3⟩
  iapply (T.wp_wait (pay m ρ) K 𝒱₀ c 7 (wait7 c) (l := []) (by decide)) $$ [HO Hc7 Ha7]
  · isplitr; · iexact HR
    isplitr; · iexact HL
    isplitl [Hc7]; · iexact Hc7
    isplitl [HO] <;> iassumption
  iintro ⟨HO, Ha7, Hp7⟩
  iapply (T.wp_wait (pay m ρ) K 𝒱₀ c 4 (wait4 c) (l := []) (by decide)) $$ [HO Hc4 Ha4]
  · isplitr; · iexact HR
    isplitr; · iexact HL
    isplitl [Hc4]; · iexact Hc4
    isplitl [HO] <;> iassumption
  iintro ⟨HO, Ha4, Hp4⟩
  rw [wp_ret]; imodintro
  try dsimp only
  try simp only [Prog.lift, Prog.bind_op, Prog.bind_ret, Prog.pure_eq_ret]
  iapply (T.wp_wait (pay m ρ) K 𝒱₀ c 8 (wait8 c) (l := []) (by decide)) $$ [HO Hc8 Ha8]
  · isplitr; · iexact HR
    isplitr; · iexact HL
    isplitl [Hc8]; · iexact Hc8
    isplitl [HO] <;> iassumption
  iintro ⟨HO, Ha8, Hp8⟩
  iapply (T.wp_wait (pay m ρ) K 𝒱₀ c 2 (wait2 c) (l := []) (by decide)) $$ [HO Hc2 Ha2]
  · isplitr; · iexact HR
    isplitr; · iexact HL
    isplitl [Hc2]; · iexact Hc2
    isplitl [HO] <;> iassumption
  iintro ⟨HO, Ha2, Hp2⟩
  iapply (T.wp_wait (pay m ρ) K 𝒱₀ c 6 (wait6 c) (l := []) (by decide)) $$ [HO Hc6 Ha6]
  · isplitr; · iexact HR
    isplitr; · iexact HL
    isplitl [Hc6]; · iexact Hc6
    isplitl [HO] <;> iassumption
  iintro ⟨HO, Ha6, Hp6⟩
  -- the buffers are whole again
  ihave HA := (x_join m ρ c) $$ [Hp2 Hp6]
  · isplitl [Hp2] <;> iassumption
  ihave HI := (i_join m ρ c) $$ [Hp3 Hp7]
  · isplitl [Hp3] <;> iassumption
  ihave HW := (w_join m ρ c) $$ [Hp4 Hp8]
  · isplitl [Hp4] <;> iassumption
  -- the cells close
  imod (T.close (pay m ρ) K c 0) $$ [Ha0] with Hz0
  · isplitr; · iexact HR
    iexact Ha0
  imod (T.close (pay m ρ) K c 1) $$ [Ha1] with Hz1
  · isplitr; · iexact HR
    iexact Ha1
  imod (T.close (pay m ρ) K c 2) $$ [Ha2] with Hz2
  · isplitr; · iexact HR
    iexact Ha2
  imod (T.close (pay m ρ) K c 3) $$ [Ha3] with Hz3
  · isplitr; · iexact HR
    iexact Ha3
  imod (T.close (pay m ρ) K c 4) $$ [Ha4] with Hz4
  · isplitr; · iexact HR
    iexact Ha4
  imod (T.close (pay m ρ) K c 5) $$ [Ha5] with Hz5
  · isplitr; · iexact HR
    iexact Ha5
  imod (T.close (pay m ρ) K c 6) $$ [Ha6] with Hz6
  · isplitr; · iexact HR
    iexact Ha6
  imod (T.close (pay m ρ) K c 7) $$ [Ha7] with Hz7
  · isplitr; · iexact HR
    iexact Ha7
  imod (T.close (pay m ρ) K c 8) $$ [Ha8] with Hz8
  · isplitr; · iexact HR
    iexact Ha8
  try dsimp only
  rw [wp_ret]; imodintro
  iapply HK
  unfold bodyPost Φ₁ scr Dat.owesAt Pipeline.owesWithin
  rw [show (dats m ρ 0 c).owed t0_0.succ = 0 from rfl, fin9]
  isplitl [Hr Hg Hz0 Hz1 Hz2 Hz3 Hz4 Hz5 Hz6 Hz7 Hz8]
  · isplitl [Hr Hg]
    · isplitl [Hr]; · iexists _; iexact Hr
      iexists _; iexact Hg
    isplitl [Hz0]; · iexact Hz0
    isplitl [Hz1]; · iexact Hz1
    isplitl [Hz2]; · iexact Hz2
    isplitl [Hz3]; · iexact Hz3
    isplitl [Hz4]; · iexact Hz4
    isplitl [Hz5]; · iexact Hz5
    isplitl [Hz6]; · iexact Hz6
    isplitl [Hz7] <;> iassumption
  isplitl [HO]
  · iexists (insert (T.csem 6, ()) (insert (T.csem 2, ()) (insert (T.csem 8, ()) (insert (T.csem 4, ()) (insert (T.csem 7, ()) (insert (T.csem 3, ())
      (insert (T.csem 5, ()) (insert (T.csem 1, ()) (insert (T.csem 0, ()) W)))))))))
    isplitr; · ipureintro; exact fun _ _ => Or.inl trivial
    iexact HO
  isplitl [Hx]
  · iexists _; isplitr; · (ipureintro; rfl)
    iexact Hx
  isplitl [Hk]
  · iexists _; isplitr; · (ipureintro; rfl)
    iexact Hk
  isplitl [HA]
  · iexists _; isplitr; · (ipureintro; rfl)
    iexact HA
  isplitl [HI]
  · iexists _; isplitr; · (ipureintro; rfl)
    iexact HI
  iexists _; isplitr; · (ipureintro; rfl)
  iexact HW

end Body

set_option maxRecDepth 4000 in
/-- What the pipeline calls the body with. -/
def bodyPre' (c : Dev nD) : sProp 𝕄 := iprop(Φ₀ m ρ c ∗ (dats m ρ 0 c).owesAt () t0_0.castSucc ∗ wins m ρ c)

set_option maxRecDepth 4000 in
/-- The library's body obligation on device `c`. -/
theorem body_obligation (c : Dev nD) : Pipeline.BodyObligationLoose (dats (F := F) m ρ 0 c) (defs₀ (F := F)) 𝒱₀ () Set.univ :=
  BodyObligation.loose _ <| show BodyObligation (dats (F := F) m ρ 0 c) (defs₀ (F := F)) 𝒱₀ () Set.univ from fun t => by
  rw [fin_N0 t]
  rw [bigSep_W0, bigSep_W0]
  simp only [owns_whole_eq]
  show bodyPre' m ρ c ⊢ wp frame (wpE (defs₀ (F := F)) 𝒱₀ c none) Set.univ (cc0__exchange_body xM (Memref.isWhole_whole _) kM (Memref.isWhole_whole _) aM (Memref.isWhole_whole _) iM (Memref.isWhole_whole _) wM (Memref.isWhole_whole _) rM (Memref.isWhole_whole _) gM (Memref.isWhole_whole _) cc0_scratch2 cc0_scratch3) (fun _ => bodyPost m ρ c)
  unfold bodyPre' Φ₀ Cells.start Cells.ghost
  iintro ⟨⟨⟨⟨%K, Hg⟩, Hc, HL⟩, Hs⟩, Ho, Hw⟩
  iapply (sound_body m ρ K c fun _ => bodyPost m ρ c)
  unfold bodyPre
  isplitr []
  · isplitl [Hg Hc HL Hs]
    · isplitl [Hg]; · iexact Hg
      isplitl [Hc]; · iexact Hc
      isplitl [HL] <;> iassumption
    isplitl [Ho] <;> iassumption
  · iintro H; iexact H

/-! ## The launch -/

theorem ownSemFacts : Pipeline.OwnSemFacts cfg0.spec osem := by decide

theorem share_eq (c : Dev nD) (w : Fin cfg0.W) : (dats m ρ 0 c).share w = fullShare := by unfold Dat.share; split <;> rfl

/-- The ghost state at launch: the pipeline's and the protocol's. -/
def u₀ : UU nD τ sig :=
  (initOf (Pipeline.cells cfgs cellOf_inj) (Pipeline.launchToks cfgs cellOf_inj), initOf (T.allCells (τ := τ)) (T.allToks (τ := τ)))

/-- The kernel's own semaphores are the four sends and the four receives; -/
theorem ownSems0_eq (c : Dev nD) : (Pipeline.ownSems0 (Ix := Unit) (Name := ℕ) (U := UU nD τ sig) (Lvl := ℕ) (Val := Elt F) (τ := τ) osem c : sProp 𝕄)
    = iprop(semVal (T.cell c 1) 0 ∗ semVal (T.cell c 2) 0 ∗ semVal (T.cell c 3) 0 ∗ semVal (T.cell c 4) 0
      ∗ semVal (T.cell c 5) 0 ∗ semVal (T.cell c 6) 0 ∗ semVal (T.cell c 7) 0 ∗ semVal (T.cell c 8) 0) := by
  rw [Pipeline.ownSems0_eq_of_list c osem [0, 1, 2, 3, 4, 5, 6, 7] (by decide) (by decide)]; rfl
/-- the barrier is the launch's one unscoped semaphore. -/
theorem unscopedSems0_eq (c : Dev nD) : (unscopedSems0 c : sProp 𝕄) = semVal (T.cell c 0) 0 := by
  unfold unscopedSems0; rw [bigSep_eq_bigSepL_of_eq [SemLoc.reg barS] (by decide) (by decide)]; rfl

/-- A device's semaphores at zero are its nine cells at zero. -/
theorem sems_eq (c : Dev nD) :
    iprop(Pipeline.ownSems0 (Ix := Unit) (Name := ℕ) (U := UU nD τ sig) (Lvl := ℕ) (Val := Elt F) (τ := τ) osem c ∗ unscopedSems0 c)
      ⊢ (bigSep Finset.univ fun k : Fin 9 => semVal (T.cell c k) 0 : sProp 𝕄) := by
  rw [ownSems0_eq, unscopedSems0_eq, fin9]
  iintro ⟨H, H0⟩
  isplitl [H0] <;> iassumption

/-- Three resources, the first two together. -/
theorem regroup3 (A B C : sProp 𝕄) : iprop(A ∗ B ∗ C) ⊢ iprop((A ∗ B) ∗ C) := by
  iintro ⟨HA, HB, HC⟩
  isplitl [HA HB]
  · isplitl [HA] <;> iassumption
  iexact HC

/-- Every device's cells become invariants, their tokens dealt to who raises them. -/
theorem glob :
    (bigSep Finset.univ fun c : Dev nD => iprop(Pipeline.ownSems0 (Ix := Unit) (Name := ℕ) (U := UU nD τ sig) (Lvl := ℕ) (Val := Elt F) (τ := τ) osem c ∗ unscopedSems0 c ∗ T.dealt (pay m ρ) c) : sProp 𝕄)
      ⊢ |={Set.univ}=> bigSep Finset.univ (T.ghost (pay m ρ)) := by
  have h (c : Dev nD) := (regroup3 _ _ _).trans (T.alloc (pay m ρ) c (sems_eq c))
  exact ((bigSep_mono fun c _ => h c).trans (bigSep_fupd _ _)).trans (BI.fupd_mono (T.regroup (pay m ρ)))

/-- What a device starts from. -/
theorem start_intro (c : Dev nD) :
    iprop(Pipeline.unscopedRestP Pipeline.Prefetch.none cfg0.spec c (fun b => m ((c : Thread nD τ).loc b)) ∗ levAts Cells.L T.lv ∗ Pipeline.launchCred (T.owed₀ (τ := τ)) c ∗ prngReg c (ρ c) ∗ T.ghost (pay m ρ) c)
      ⊢ |={Set.univ}=> iprop(T.start (pay m ρ) c ∗ emp) := by
  iintro ⟨-, HL, Hc, -, Hg⟩
  imodintro
  isplitl
  · unfold Cells.start
    isplitl [Hg]; · iexact Hg
    isplitl [Hc]; · iapply (T.creds_intro c); iexact Hc
    iexact HL
  · iempintro

/-- The body's start from the launch's; -/
theorem phi0_intro (c : Dev nD) :
    iprop(T.start (pay m ρ) c ∗ Pipeline.prefHeld Pipeline.Prefetch.none c (fun _ => fullShare.right) (fun k => k.elim0) ∗ Pipeline.scopedRest cfg0.spec c)
      ⊢ (dats (F := F) m ρ 0 c).Φ 0 := by
  show _ ⊢ Φ₀ m ρ c
  rw [scopedRest0_eq]; unfold Φ₀ scr
  iintro ⟨HS, -, H⟩
  isplitl [HS] <;> iassumption

/-- what the body leaves. -/
theorem phi1_exit (c : Dev nD) :
    (dats (F := F) m ρ 0 c).Φ (Fin.last cfg0.N) ⊢ iprop(unscopedSems0 c ∗ Pipeline.ownSems0 (Ix := Unit) (Name := ℕ) (U := UU nD τ sig) (Lvl := ℕ) (Val := Elt F) (τ := τ) osem c ∗ Pipeline.scopedRest cfg0.spec c) := by
  show Φ₁ c ⊢ _
  rw [scopedRest0_eq, ownSems0_eq, unscopedSems0_eq]; unfold Φ₁ scr; rw [fin9]
  iintro ⟨HB, H0, Hrest⟩
  isplitl [H0]; · iexact H0
  isplitl [Hrest] <;> iassumption

/-- The pipeline's own waits are below everything owed. -/
theorem waits (c : Dev nD) : (levAts Cells.L T.lv : sProp 𝕄) ⊢ Pipeline.cellsWaits cfgs (dats m ρ) () 0 c :=
  Pipeline.cellsWaits_intro cfgs (dats m ρ) () 0 c fun w s t => by
    have hs : ∀ k, T.csem k ≠ .dma ((cfg0.win w).sem s) := by
      clear t; revert w s; decide
    obtain ⟨t, ht⟩ := t
    cases t with
    | zero => exact T.mayWait c _ [0, 5, 6, 7, 8] fun j hj => by rw [T.lv_other c hs]; clear hs; revert j; decide
    | succ t =>
      show _ ⊢ MayWait (c : Thread nD τ) _ () 0
      rw [MayWait_zero]; iintro -; iempintro

/-- Window `w`'s array after the launch on device `c`. -/
def finalA (c : Dev nD) (w : Fin cfg0.W) := (dats m ρ 0 c).arrAt w cfg0.N
/-- Every window's array, on every device. -/
def QC (r : PUnit × MemSt nD τ sig (Elt F)) : Prop :=
  ∀ c : Dev nD, ∀ w : Fin cfg0.W, r.2.mem ((cfg0.win w).arr.view.loc (c : Thread nD τ)) = finalA m ρ c w

set_option maxRecDepth 8000 in
/-- The launch: from any memory every schedule ends, every window's array as stated and every counter at zero. -/
theorem run_main : θ_run (defs (F := F)) (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1) winFacts0.to₀ ownSemFacts (Pipeline.PreFacts.none _) EP defs₀ 𝒱₀ m ρ main
    (hmain := fun _ => rfl) (hbody := body_obligation m ρ) (hne := fun w => by fin_cases w <;> exact Nat.succ_pos _) (harr := arr_whole0) (hstage := stage_whole0)
    (hshare := share_eq m ρ) (hdistinct := winFacts0.arr_inj) (O₀ := T.owed₀) (howed₀ := fun _ => rfl) (howedN := fun _ => rfl)
    (L := Cells.L) (lv := T.lv) (hL := Cells.L_of_ne) (hwaits := waits m ρ) (G := T.dealt (pay m ρ)) (G' := T.ghost (pay m ρ)) (u₀ := u₀)
    (hu₀ := by
      unfold u₀; iintro Hu
      ihave H := (ownU_pair _ _) $$ Hu
      icases H with ⟨HP, HX⟩
      imod (T.fund (pay m ρ)) $$ HX with HG
      imodintro
      isplitl [HP] <;> iassumption)
    (hglob := glob m ρ) (hA := fun _ _ => rfl) (hpf := fun _ k => k.elim0)
    (X := T.start (pay m ρ)) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The operands' arrays are as they were; -/
theorem finalA_x (c : Dev nD) : finalA m ρ c (0 : Fin 5) = m ((c : Thread nD τ).loc main_arg0) := (dats m ρ 0 c).arrAt_in (0 : Fin _) rfl _
theorem finalA_k (c : Dev nD) : finalA m ρ c (1 : Fin 5) = m ((c : Thread nD τ).loc main_arg1) := (dats m ρ 0 c).arrAt_in (1 : Fin _) rfl _

end Cert.ExchangeIdealRun

end
-- ==== Proof.Top2.lean ====
/-
  The two greatest of a row of extended reals, equal ones in index order: a stable sort puts them first, and they are what
  taking the maximum, then its lowest position, then the same with that position masked gives.
-/
module

public import Idealize.ShloMosaic.Lib.SortFacts
public import Idealize.ShloMosaic.Lib.IdealHost

@[expose] public section

noncomputable section

namespace Cert.Top2

open Idealize.ShloMosaic Idealize.ShloMosaic.ValueIdx
open scoped BigOperators

variable {n : ℕ} (g : Fin n → EReal)

/-- Position `p` comes before position `q`: its entry is greater, or equal and earlier. -/
def Wins (p q : Fin n) : Prop := g q < g p ∨ (g q = g p ∧ p < q)

theorem wins_le {p q : Fin n} (h : Wins g p q) : g q ≤ g p := h.elim le_of_lt fun h => le_of_eq h.1

/-- `p` is the first and `q` the second. -/
structure IsTop2 (p q : Fin n) : Prop where
  first : ∀ k, k ≠ p → Wins g p k
  ne : q ≠ p
  second : ∀ k, k ≠ p → k ≠ q → Wins g q k

/-! ## The stable sort -/

/-- The comparator of a sort, greater first. -/
def gtB (k k' : Fin n) : Bool := decide (g k' < g k)

theorem wins_insert (a : Fin n) (l : List (Fin n)) (ha : ∀ b ∈ l, a < b) (hl : l.Pairwise (Wins g)) :
    (insertBefore (gtB g) a l).Pairwise (Wins g) := by
  induction l with
  | nil => exact List.pairwise_singleton _ _
  | cons b l ih =>
    rw [List.pairwise_cons] at hl
    have hb : a < b := ha b (List.mem_cons_self ..)
    unfold insertBefore
    split
    · rename_i h
      have h : g a < g b := of_decide_eq_true h
      refine List.pairwise_cons.mpr ⟨fun c hc => ?_, ih (fun c hc => ha c (List.mem_cons_of_mem _ hc)) hl.2⟩
      rcases List.mem_cons.mp ((perm_insertBefore (gtB g) a l).mem_iff.mp hc) with rfl | hc'
      · exact Or.inl h
      · exact hl.1 c hc'
    · rename_i h
      have h : g b ≤ g a := not_lt.mp fun h' => h (decide_eq_true h')
      have key : ∀ c, g c ≤ g b → a < c → Wins g a c := fun c hc hac =>
        (lt_or_eq_of_le (hc.trans h)).elim Or.inl fun e => Or.inr ⟨e, hac⟩
      refine List.pairwise_cons.mpr ⟨fun c hc => ?_, List.pairwise_cons.mpr hl⟩
      rcases List.mem_cons.mp hc with rfl | hc'
      · exact key _ le_rfl hb
      · exact key c (wins_le g (hl.1 c hc')) (ha c (List.mem_cons_of_mem _ hc'))

theorem wins_sort (l : List (Fin n)) (h : l.Pairwise (· < ·)) : (stableSort (gtB g) l).Pairwise (Wins g) := by
  induction l with
  | nil => exact List.Pairwise.nil
  | cons a l ih =>
    rw [List.pairwise_cons] at h
    unfold stableSort
    exact wins_insert g a _ (fun b hb => h.1 b ((perm_stableSort (gtB g) l).mem_iff.mp hb)) (ih h.2)

/-- Of two places of the sort the earlier one's position wins. -/
theorem sorted_wins {i j : Fin n} (h : i < j) : Wins g (sortedFrom (gtB g) i) (sortedFrom (gtB g) j) := by
  have hp : ∀ a b : Fin (sortPositions n (gtB g)).length, a < b →
      Wins g ((sortPositions n (gtB g)).get a) ((sortPositions n (gtB g)).get b) :=
    List.pairwise_iff_get.mp (wins_sort g (List.finRange n) (List.pairwise_lt_finRange n))
  unfold sortedFrom
  exact hp _ _ (by simp only [Fin.lt_def, Fin.val_cast]; exact h)

/-- The first two places are the two greatest. -/
theorem sorted_top2 (i j : Fin n) (hi : i.val = 0) (hj : j.val = 1) : IsTop2 g (sortedFrom (gtB g) i) (sortedFrom (gtB g) j) := by
  have hinj := sortedFrom_injective (gtB g)
  refine ⟨fun k hk => ?_, fun h => ?_, fun k hk hk' => ?_⟩
  · obtain ⟨x, rfl⟩ := sortedFrom_surjective (gtB g) k
    refine sorted_wins g (Fin.lt_def.mpr ?_)
    have : x ≠ i := fun h => hk (h ▸ rfl)
    have : x.val ≠ i.val := fun h => this (Fin.ext h)
    omega
  · have := congrArg Fin.val (hinj h); omega
  · obtain ⟨x, rfl⟩ := sortedFrom_surjective (gtB g) k
    refine sorted_wins g (Fin.lt_def.mpr ?_)
    have h1 : x ≠ i := fun h => hk (h ▸ rfl)
    have h2 : x ≠ j := fun h => hk' (h ▸ rfl)
    have h1 : x.val ≠ i.val := fun h => h1 (Fin.ext h)
    have h2 : x.val ≠ j.val := fun h => h2 (Fin.ext h)
    omega

/-! ## Maxima and their lowest positions -/

/-- The fold of the maximum from −∞ is the entry that none exceeds. -/
theorem fold_max {p : Fin n} (h : ∀ k, g k ≤ g p) : (Finset.univ : Finset (Fin n)).fold max ⊥ g = g p :=
  le_antisymm ((Finset.fold_max_le _).mpr ⟨bot_le, fun k _ => h k⟩) ((Finset.le_fold_max _).mpr (Or.inr ⟨p, Finset.mem_univ _, le_rfl⟩))

theorem toInt_minsi (x y : BitVec 32) : (IntOp.minsi x y).toInt = min x.toInt y.toInt := by
  unfold IntOp.minsi
  split
  · rename_i h
    have h : x.toInt < y.toInt := by rw [BitVec.slt_iff_toInt_lt] at h; exact h
    exact (min_eq_left h.le).symm
  · rename_i h
    have h : ¬x.toInt < y.toInt := by rw [BitVec.slt_iff_toInt_lt] at h; exact h
    exact (min_eq_right (not_lt.mp h)).symm

/-- The fold of the signed minimum is the word that none is below. -/
theorem fold_minsi (f : Fin n → BitVec 32) (b : BitVec 32) {p : Fin n} (hb : (f p).toInt ≤ b.toInt) (h : ∀ k, (f p).toInt ≤ (f k).toInt) :
    (Finset.univ : Finset (Fin n)).fold IntOp.minsi b f = f p := by
  refine BitVec.eq_of_toInt_eq ?_
  rw [← Finset.fold_hom (op := IntOp.minsi) (op' := min) (m := BitVec.toInt) toInt_minsi]
  exact le_antisymm ((Finset.fold_min_le _).mpr (Or.inr ⟨p, Finset.mem_univ _, le_rfl⟩)) ((Finset.le_fold_min _).mpr ⟨hb, fun k _ => h k⟩)

theorem toInt_ofNat {k : ℕ} (h : k < 2 ^ 31) : (BitVec.ofNat 32 k).toInt = k := by
  rw [BitVec.toInt_eq_toNat_of_lt] <;> rw [BitVec.toNat_ofNat] <;> omega

/-- The lowest marked position, as the minimum of the marked positions' numbers. -/
theorem fold_lowest (hn : n < 2 ^ 31) (P : Fin n → Prop) [DecidablePred P] {p : Fin n} (hp : P p) (h : ∀ k, k < p → ¬P k) :
    (Finset.univ : Finset (Fin n)).fold IntOp.minsi 2147483647#32 (fun k => if P k then BitVec.ofNat 32 k.val else BitVec.ofNat 32 n) = BitVec.ofNat 32 p.val := by
  have hv : ∀ k : Fin n, (BitVec.ofNat 32 k.val).toInt = k.val := fun k => toInt_ofNat (k.isLt.trans hn)
  have hN : (BitVec.ofNat 32 n).toInt = n := toInt_ofNat hn
  have hlt := p.isLt
  refine (fold_minsi _ _ (p := p) ?_ fun k => ?_).trans (if_pos hp)
  · simp only [if_pos hp]; rw [hv p]; show (p.val : ℤ) ≤ 2147483647; omega
  · simp only [if_pos hp]
    split
    · rename_i hk
      have : ¬k < p := fun h' => h k h' hk
      have : ¬k.val < p.val := this
      rw [hv, hv]; omega
    · rw [hv, hN]; omega

variable {g}

/-- The first of the two is the lowest position of the maximum; -/
theorem IsTop2.le {p q : Fin n} (h : IsTop2 g p q) (k : Fin n) : g k ≤ g p := by
  by_cases hk : k = p
  · rw [hk]
  · exact wins_le g (h.first k hk)
theorem IsTop2.lowest {p q : Fin n} (h : IsTop2 g p q) (k : Fin n) (hk : k < p) : ¬g k = g p := fun e =>
  (h.first k (ne_of_lt hk)).elim (fun h' => absurd e (ne_of_lt h')) fun h' => absurd h'.2 (asymm hk)

/-- the row with the first masked: -/
def masked (g : Fin n → EReal) (p k : Fin n) : EReal := if k = p then ⊥ else g k

theorem IsTop2.masked_second {p q : Fin n} (h : IsTop2 g p q) : masked g p q = g q := if_neg h.ne
theorem IsTop2.le2 {p q : Fin n} (h : IsTop2 g p q) (k : Fin n) : masked g p k ≤ masked g p q := by
  rw [h.masked_second]; unfold masked
  split
  · exact bot_le
  · rename_i hk
    by_cases hq : k = q
    · rw [hq]
    · exact wins_le g (h.second k hk hq)
/-- the second is the lowest position of its maximum, when no entry is −∞. -/
theorem IsTop2.lowest2 {p q : Fin n} (h : IsTop2 g p q) (hb : ∀ k, g k ≠ ⊥) (k : Fin n) (hk : k < q) : ¬masked g p k = masked g p q := by
  rw [h.masked_second]; unfold masked
  split
  · exact fun e => hb q e.symm
  · rename_i hkp
    exact fun e => (h.second k hkp (ne_of_lt hk)).elim (fun h' => absurd e (ne_of_lt h')) fun h' => absurd h'.2 (asymm hk)

/-! ## Finite sums -/

/-- A sum of products of finite extended reals is finite. -/
theorem sum_real {ι : Type} (s : Finset ι) (f : ι → EReal) (hf : ∀ i ∈ s, ∃ r : ℝ, f i = r) : ∃ r : ℝ, ∑ i ∈ s, f i = r := by
  classical
  induction s using Finset.induction with
  | empty => exact ⟨0, by simp⟩
  | insert a s ha ih =>
    obtain ⟨r, hr⟩ := ih fun i hi => hf i (Finset.mem_insert_of_mem hi)
    obtain ⟨x, hx⟩ := hf a (Finset.mem_insert_self _ _)
    exact ⟨x + r, by rw [Finset.sum_insert ha, hr, hx, EReal.coe_add]⟩

end Cert.Top2

end
-- ==== Proof.ExchangeIdealRow.lean ====
/-
  What the exchange computes of one row of gates, over the extended reals: the two greatest gates' positions, and their
  softmax weights.
-/
module

public import proofs.«01_k».proof.Proof.Gen.ExchangeIdeal.Skeleton
public import proofs.«01_k».proof.Proof.Top2
public import Idealize.ShloMosaic.Lib.Pipeline.Value
public import Idealize.ShloMosaic.Lib.MatmulPlain

@[expose] public section

noncomputable section

namespace Cert.ExchangeIdealRow

open Cert.ExchangeIdeal Cert.ExchangeIdeal.Gen Cert.Top2
open Idealize.ShloMosaic Idealize.ShloMosaic.ValueIdx
open scoped BigOperators

/-! ## Shapes -/

theorem lift_row (t : Fin 1024) (k : Fin 16) : reduces_S1024x16_S1024.lift (ix1 t) k = ix2 t k := by
  funext a
  match a with
  | ⟨0, _⟩ => rfl
  | ⟨1, _⟩ => rfl

/-- A column, spread over the sixteen gates. -/
theorem column_apply {α : Type} (x : S1024.Idx → α) (t : Fin 1024) (e : Fin 16) :
    broadcastTo S1024x16 (shapeCast S1024x1 x shapeCasts_S1024_S1024x1) broadcasts_S1024x1_S1024x16 (ix2 t e) = x (ix1 t) := by
  refine (broadcastTo_apply _ broadcasts_S1024x1_S1024x16 (ix2 t e) (ix2 t 0) fun a => ?_).trans ?_
  · match a with
    | ⟨0, _⟩ => rfl
    | ⟨1, _⟩ => rfl
  · refine shapeCast_apply x shapeCasts_S1024_S1024x1 (ix2 t 0) (ix1 t) ?_
    rw [Shape.rowMajor_val_one, Shape.rowMajor_val_two]
    show t.val = t.val * 1 + 0
    omega

/-- A column, as the one row of a block. -/
theorem strip_apply {α : Type} (x : S1024.Idx → α) (i : S1x1x1024.Idx) : shapeCast S1x1x1024 x shapeCasts_S1024_S1x1x1024 i = x (ix1 (i 2)) := by
  refine shapeCast_apply x shapeCasts_S1024_S1x1x1024 i (ix1 (i 2)) ?_
  rw [Shape.rowMajor_val_one, Shape.rowMajor_val_three]
  have h0 : (i 0).val < 1 := (i 0).isLt
  have h1 : (i 1).val < 1 := (i 1).isLt
  show (i 2).val = ((i 0).val * 1 + (i 1).val) * 1024 + (i 2).val
  omega

theorem bot_bits : Ideal.ofBits .f32 0xFF800000#32 = ⊥ := by simp [Ideal.ofBits, Ideal.ieee]

theorem maxRow (v : Vec Ideal S1024x16 .f32) (t : Fin 1024) (hφ : FKind.Formats .f32) (hacc : 0xFF800000#32 = FKind.maximumf.neutral .f32 hφ) :
    multiReduction (F := Ideal) .maximumf [1] S1024 v 0xFF800000#32 reduces_S1024x16_S1024 hφ hacc (ix1 t)
      = (Finset.univ : Finset (Fin 16)).fold max (⊥ : EReal) fun e => v (ix2 t e) := by
  refine (Ideal.multiReduction_maximumf_single (s := S1024x16) (a := 1) v _ reduces_S1024x16_S1024 hφ hacc (ix1 t)).trans ?_
  have h : (v ∘ reduces_S1024x16_S1024.lift (ix1 t)) = fun e => v (ix2 t e) := funext fun e => congrArg v (lift_row t e)
  rw [h]
  show Finset.fold max (Ideal.ofBits .f32 0xFF800000#32) _ _ = _
  rw [bot_bits]
  rfl

theorem minRow (v : IVec S1024x16 32) (t : Fin 1024) (hacc) :
    multiReductionI .minsi [1] S1024 v 2147483647#32 reduces_S1024x16_S1024 hacc (ix1 t)
      = (Finset.univ : Finset (Fin 16)).fold IntOp.minsi 2147483647#32 fun e => v (ix2 t e) := by
  refine (multiReductionI_eq_fold .minsi v _ reduces_S1024x16_S1024 hacc (ix1 t)).trans ?_
  refine (reduces_S1024x16_S1024.fold_filter_drop_single IntOp.minsi _ v (ix1 t)).trans ?_
  have h : (v ∘ reduces_S1024x16_S1024.lift (ix1 t)) = fun e => v (ix2 t e) := funext fun e => congrArg v (lift_row t e)
  rw [h]
  rfl

/-- The lowest position at which a row is equal to a column's entry. -/
theorem lowestRow (v : FVec Ideal S1024x16 .f32) (x : FVec Ideal S1024 .f32) (t : Fin 1024) (hacc) (p : Fin 16) (hp : v (ix2 t p) = x (ix1 t))
    (h : ∀ k, k < p → ¬v (ix2 t k) = x (ix1 t)) :
    multiReductionI .minsi [1] S1024 (select (cmpf .oeq v (broadcastTo S1024x16 (shapeCast S1024x1 x shapeCasts_S1024_S1024x1) broadcasts_S1024x1_S1024x16))
      (iota .tc S1024x16 32 [1] iota_S1024x16_d1_w32) (broadcast S1024x16 16#32)) 2147483647#32 reduces_S1024x16_S1024 hacc (ix1 t) = BitVec.ofNat 32 p.val := by
  classical
  refine (minRow _ t hacc).trans ?_
  refine Eq.trans ?_ (fold_lowest (n := 16) (by norm_num) (fun e => v (ix2 t e) = x (ix1 t)) hp h)
  refine congrArg (Finset.fold IntOp.minsi 2147483647#32 · _) (funext fun e => ?_)
  show (if Ideal.cmp .oeq (v (ix2 t e)) (broadcastTo S1024x16 (shapeCast S1024x1 x shapeCasts_S1024_S1024x1) broadcasts_S1024x1_S1024x16 (ix2 t e)) = 1#1
    then iota .tc S1024x16 32 [1] iota_S1024x16_d1_w32 (ix2 t e) else 16#32) = _
  rw [column_apply, iota_single_apply]
  by_cases hh : v (ix2 t e) = x (ix1 t)
  · rw [if_pos hh, if_pos (by show BitVec.ofBool (decide (_ = _)) = 1#1; rw [decide_eq_true hh]; rfl)]
  · rw [if_neg hh, if_neg (by show ¬BitVec.ofBool (decide (_ = _)) = 1#1; rw [decide_eq_false hh]; decide)]

/-- The mask's constant is −∞. -/
theorem mask_value : κ "mask" = some ⊥ := by decide
theorem mask_named : Named.named (F := Ideal) κ "mask" (φ := .f32) 0xF149F2CA#32 = (⊥ : EReal) :=
  IdealRules.named_const.ideal_named_scalar κ "mask" _ ⊥ mask_value

/-! ## Elementwise operations at an index -/

section Elementwise
variable {s : Shape} (x y : FVec Ideal s .f32) (i : s.Idx)
theorem exp_at : Idealize.ShloMosaic.exp x i = Ideal.exp (x i) := rfl
theorem sub_at : subf x y i = (x i : EReal) - y i := rfl
theorem add_at : addf x y i = (x i : EReal) + y i := rfl
theorem div_at : divf x y i = Ideal.div (x i) (y i) := rfl
theorem one_at : (broadcast s (Scalar.ofBits (F := Ideal) .f32 0x3F800000#32) : FVec Ideal s .f32) i = (1 : EReal) := Ideal.ofBits_one_f32
end Elementwise

/-! ## A row -/

section Row
variable (v : Vec Ideal S1024x16 .f32) (t : Fin 1024) {p q : Fin 16} (h : IsTop2 (fun e => (v (ix2 t e) : EReal)) p q)
include h

theorem pay6_row : k0_pay6 v (ix1 t) = (v (ix2 t p) : EReal) :=
  (maxRow v t (.inl rfl) rfl).trans (fold_max (g := fun e => (v (ix2 t e) : EReal)) (p := p) h.le)

theorem pay8_row : k0_pay8 v (k0_pay7 v) (ix1 t) = BitVec.ofNat 32 p.val :=
  lowestRow v (k0_pay6 v) t rfl p (pay6_row v t h).symm fun k hk e => h.lowest k hk (e.trans (pay6_row v t h))

theorem pay9_row (e : Fin 16) : k0_pay9 v (k0_pay7 v) (ix2 t e) = masked (fun e => (v (ix2 t e) : EReal)) p e := by
  show (if IntOp.cmpi .eq (iota .tc S1024x16 32 [1] iota_S1024x16_d1_w32 (ix2 t e))
      (broadcastTo S1024x16 (shapeCast S1024x1 (k0_pay8 v (k0_pay7 v)) shapeCasts_S1024_S1024x1) broadcasts_S1024x1_S1024x16 (ix2 t e)) = 1#1
    then Named.named (F := Ideal) κ "mask" (φ := .f32) 0xF149F2CA#32 else v (ix2 t e)) = _
  rw [column_apply, iota_single_apply, pay8_row v t h]
  show (if BitVec.ofBool (BitVec.ofNat 32 e.val == BitVec.ofNat 32 p.val) = 1#1 then _ else _) = _
  unfold masked
  by_cases he : e = p
  · subst he
    rw [if_pos rfl, if_pos (by simp)]
    exact mask_named
  · rw [if_neg he, if_neg]
    have : BitVec.ofNat 32 e.val ≠ BitVec.ofNat 32 p.val := fun hh => he (Fin.ext (by
      have := congrArg BitVec.toNat hh
      rw [BitVec.toNat_ofNat, BitVec.toNat_ofNat] at this
      have := e.isLt; have := p.isLt; omega))
    rw [beq_eq_false_iff_ne.2 this]; decide

theorem pay10_row : k0_pay10 v (k0_pay7 v) (ix1 t) = (v (ix2 t q) : EReal) := by
  refine (maxRow (k0_pay9 v (k0_pay7 v)) t (.inl rfl) rfl).trans ?_
  rw [show (fun e => (k0_pay9 v (k0_pay7 v) (ix2 t e) : EReal)) = masked (fun e => (v (ix2 t e) : EReal)) p from funext (pay9_row v t h)]
  exact (fold_max (g := masked (fun e => (v (ix2 t e) : EReal)) p) (p := q) h.le2).trans h.masked_second

/-- The first place: the lowest position of the greatest gate. -/
theorem pay12_row (i : S1x1x1024.Idx) (hi : i 2 = t) : k0_pay12 v (k0_pay7 v) i = BitVec.ofNat 32 p.val :=
  (strip_apply (k0_pay8 v (k0_pay7 v)) i).trans (by rw [hi]; exact pay8_row v t h)

/-- The second place: the lowest position of the greatest of the others, when no gate is −∞. -/
theorem pay13_row (hb : ∀ e, (v (ix2 t e) : EReal) ≠ ⊥) (i : S1x1x1024.Idx) (hi : i 2 = t) : k0_pay13 v (k0_pay7 v) i = BitVec.ofNat 32 q.val := by
  refine (strip_apply (multiReductionI .minsi [1] S1024 (select (cmpf .oeq (k0_pay9 v (k0_pay7 v)) (broadcastTo S1024x16 (shapeCast S1024x1 (k0_pay10 v (k0_pay7 v)) shapeCasts_S1024_S1024x1) broadcasts_S1024x1_S1024x16))
    (iota .tc S1024x16 32 [1] iota_S1024x16_d1_w32) (broadcast S1024x16 16#32)) 2147483647#32 reduces_S1024x16_S1024 rfl) i).trans ?_
  rw [hi]
  refine (lowestRow (k0_pay9 v (k0_pay7 v)) (k0_pay10 v (k0_pay7 v)) t rfl q ?_ fun k hk e => ?_)
  · rw [pay9_row v t h, pay10_row v t h]; exact h.masked_second
  · rw [pay9_row v t h, pay10_row v t h] at e
    exact h.lowest2 hb k hk (e.trans h.masked_second.symm)

theorem pay11_row : k0_pay11 v (k0_pay6 v) (k0_pay7 v) (ix1 t) = Ideal.exp ((v (ix2 t q) : EReal) - v (ix2 t p)) := by
  unfold k0_pay11
  rw [exp_at, sub_at, pay10_row v t h, pay6_row v t h]

/-- The first weight, -/
theorem pay14_row (i : S1x1x1024.Idx) (hi : i 2 = t) : k0_pay14 v (k0_pay6 v) (k0_pay7 v) i
    = Ideal.div 1 (1 + Ideal.exp ((v (ix2 t q) : EReal) - v (ix2 t p))) := by
  refine (strip_apply (divf (broadcast S1024 (Scalar.ofBits (F := Ideal) .f32 0x3F800000#32)) (addf (broadcast S1024 (Scalar.ofBits .f32 0x3F800000#32)) (k0_pay11 v (k0_pay6 v) (k0_pay7 v)))) i).trans ?_
  rw [hi]
  rw [div_at, add_at, one_at, pay11_row v t h]

/-- and the second. -/
theorem pay16_row (i : S1x1x1024.Idx) (hi : i 2 = t) : k0_pay16 (k0_pay15 v (k0_pay6 v) (k0_pay7 v)) i
    = Ideal.div (Ideal.exp ((v (ix2 t q) : EReal) - v (ix2 t p))) (1 + Ideal.exp ((v (ix2 t q) : EReal) - v (ix2 t p))) := by
  refine (strip_apply (k0_pay15 v (k0_pay6 v) (k0_pay7 v)) i).trans ?_
  rw [hi]
  unfold k0_pay15
  rw [div_at, add_at, one_at, pay11_row v t h]

end Row

/-! ## The gates -/

/-- One half of the gates: a product of the tokens' rows and eight of the router's columns. -/
theorem pay4_apply (x : Vec Ideal S1024x1024 .f32) (r : Vec Ideal S1x1024x8 .f32) (t : Fin 1024) (e : Fin 8) :
    (k0_pay4 x r (ix2 t e) : EReal) = ∑ k : Fin 1024, (x (ix2 t k) : EReal) * r (ix3 0 k e) := by
  unfold k0_pay4 k0_pay3
  simp only [shapeCast_self]
  refine (Ideal.matmul_plain_apply (M := 1024) (K := 1024) (N := 8) (φ₁ := .f32) (φ₂ := .f32) (some .fp32) x (shapeCast S1024x8 r shapeCasts_S1x1024x8_S1024x8) (constant S1024x8 .f32 0x00000000#32) t e).trans ?_
  have h0 : (constant (F := Ideal) S1024x8 .f32 0x00000000#32) (ix2 t e) = (0 : EReal) := Ideal.ofBits_zero_f32
  rw [h0]
  refine (zero_add _).trans (Finset.sum_congr rfl fun k _ => ?_)
  refine congrArg (_ * ·) ((shapeCast_dropUnit_apply ![1024, 8] r shapeCasts_S1x1024x8_S1024x8 (ix2 k e)).trans (congrArg r ?_))
  funext a
  match a with
  | ⟨0, _⟩ => rfl
  | ⟨1, _⟩ => rfl
  | ⟨2, _⟩ => rfl

theorem pay5_eq (x : Vec Ideal S1024x1024 .f32) (r : Vec Ideal S1x1024x8 .f32) : k0_pay5 x r = k0_pay4 x r := rfl

/-- The tokens as sent: the rounding to bfloat16 is no change. -/
theorem pay2_apply (x : Vec Ideal S1024x1024 .f32) (i : S1x1024x1024.Idx) : (k0_pay2 x i : EReal) = x (ix2 (i 1) (i 2)) := by
  unfold k0_pay2
  simp only [shapeCast_self]
  refine shapeCast_apply _ shapeCasts_S1024x1024_S1x1024x1024 i (ix2 (i 1) (i 2)) ?_
  rw [Shape.rowMajor_val_two, Shape.rowMajor_val_three]
  have h0 : (i 0).val < 1 := (i 0).isLt
  show (i 1).val * 1024 + (i 2).val = ((i 0).val * 1024 + (i 1).val) * 1024 + (i 2).val
  omega

end Cert.ExchangeIdealRow

end
-- ==== Proof.ExchangeIdealValue.lean ====
/-
  What the exchange leaves in its result arrays, and the gates it computes: a device's tokens times all of the router.
-/
module

public import proofs.«01_k».proof.Proof.ExchangeIdealRun
public import proofs.«01_k».proof.Proof.ExchangeIdealRow

@[expose] public section

noncomputable section

namespace Cert.ExchangeIdealRun

open Cert.ExchangeIdeal Cert.ExchangeIdeal.Gen Cert.Talk
open Idealize.ShloMosaic Idealize.ShloMosaic.TcCoe Idealize.ShloMosaic.ValueIdx
open Idealize.SL Idealize.SL.Sem
open Cert.ExchangeIdealRow
open scoped BigOperators

/-! ## The arrays -/

section Arrays
variable {F : FTy → Type} [FloatOps F] [Named F] (m : (ℓ : Loc nD τ sig) → Buf (Elt F) ℓ) (ρ : Dev nD → PrngReg)

theorem xstg_eq (c : Dev nD) : xstg m ρ c = m ((c : Thread nD τ).loc main_arg0) := by
  unfold xstg s₀
  funext i
  refine congrArg (m ((c : Thread nD τ).loc main_arg0)) ?_
  funext a
  apply Fin.ext
  match a with
  | ⟨0, _⟩ => show 0 + 1 * (i 0).val = (i 0).val; omega
  | ⟨1, _⟩ => show 0 + 1 * (i 1).val = (i 1).val; omega
theorem kstg_eq (c : Dev nD) : kstg m ρ c = m ((c : Thread nD τ).loc main_arg1) := by
  unfold kstg s₀
  funext i
  refine congrArg (m ((c : Thread nD τ).loc main_arg1)) ?_
  funext a
  apply Fin.ext
  match a with
  | ⟨0, _⟩ => show 0 + 1 * (i 0).val = (i 0).val; omega
  | ⟨1, _⟩ => show 0 + 1 * (i 1).val = (i 1).val; omega

/-- The first result is the gathered tokens; -/
theorem finalA_tokens (c : Dev nD) : finalA m ρ c (2 : Fin 5) = xG m ρ c := by
  unfold finalA
  refine ((dats m ρ 0 c).arrAt_succ (2 : Fin 5) t0_0).trans ?_
  rw [flush0_2]
  funext i
  have h : i = (win0_2.blk (0 : Fin 1)).view.emb i := by
    funext a
    apply Fin.ext
    match a with
    | ⟨0, _⟩ => show (i 0).val = 0 + 1 * (i 0).val; omega
    | ⟨1, _⟩ => show (i 1).val = 0 + 1 * (i 1).val; omega
    | ⟨2, _⟩ => show (i 2).val = 0 + 1 * (i 2).val; omega
  conv_lhs => rw [h]
  exact View.write_emb_of_mem (v := (win0_2.blk (0 : Fin 1)).view) (Val := Elt F) _ _ (x := i) (Finset.mem_univ _)
/-- the second is the chosen experts; -/
theorem finalA_experts (c : Dev nD) : finalA m ρ c (3 : Fin 5) = iG m ρ c := by
  unfold finalA
  refine ((dats m ρ 0 c).arrAt_succ (3 : Fin 5) t0_0).trans ?_
  rw [flush0_3]
  funext i
  have h : i = (win0_3.blk (0 : Fin 1)).view.emb i := by
    funext a
    apply Fin.ext
    match a with
    | ⟨0, _⟩ => show (i 0).val = 0 + 1 * (i 0).val; omega
    | ⟨1, _⟩ => show (i 1).val = 0 + 1 * (i 1).val; omega
    | ⟨2, _⟩ => show (i 2).val = 0 + 1 * (i 2).val; omega
  conv_lhs => rw [h]
  exact View.write_emb_of_mem (v := (win0_3.blk (0 : Fin 1)).view) (Val := Elt F) _ _ (x := i) (Finset.mem_univ _)
/-- the third is their weights. -/
theorem finalA_weights (c : Dev nD) : finalA m ρ c (4 : Fin 5) = wG m ρ c := by
  unfold finalA
  refine ((dats m ρ 0 c).arrAt_succ (4 : Fin 5) t0_0).trans ?_
  rw [flush0_4]
  funext i
  have h : i = (win0_4.blk (0 : Fin 1)).view.emb i := by
    funext a
    apply Fin.ext
    match a with
    | ⟨0, _⟩ => show (i 0).val = 0 + 1 * (i 0).val; omega
    | ⟨1, _⟩ => show (i 1).val = 0 + 1 * (i 1).val; omega
    | ⟨2, _⟩ => show (i 2).val = 0 + 1 * (i 2).val; omega
  conv_lhs => rw [h]
  exact View.write_emb_of_mem (v := (win0_4.blk (0 : Fin 1)).view) (Val := Elt F) _ _ (x := i) (Finset.mem_univ _)

end Arrays

/-! ## The gates -/

/-- The device of parity `z` has parity `z`. -/
theorem at_mod (c : Dev nD) {z : ℕ} (hz : z < 2) : (at' c z).val % 2 = z := by
  unfold at'
  split
  · rename_i h; exact h.symm
  · rename_i h; rw [peer_z]; omega

/-- The pair is the same seen from either of its devices. -/
theorem at_at (c : Dev nD) {z y : ℕ} (hz : z < 2) (hy : y < 2) : at' (at' c z) y = at' c y := by
  unfold at'
  by_cases h : z = c.val % 2
  · simp only [if_pos h]
  · simp only [if_neg h]
    rw [peer_z, peer_peer]
    by_cases h' : y = c.val % 2
    · rw [if_pos h', if_neg (by omega)]
    · rw [if_neg h', if_pos (by omega)]

variable (xs : Dev nD → Vec Ideal S1024x1024 .f32) (rs : Dev nD → Vec Ideal S1024x8 .f32) (c : Dev nD)

/-- Slot `z` of the gathered router holds the columns of the device of parity `z`. -/
theorem rBlk_apply (z : Fin 2) (k : Fin 1024) (e : Fin 8) : rBlk (rAll rs c) z (ix3 0 k e) = rs (at' c z.val) (ix2 k e) := by
  have h1 : rBlk (rAll rs c) z (ix3 0 k e) = rAll rs c (ix3 z k e : S2x1024x8.Idx) := by
    refine congrArg (rAll rs c) ?_
    funext a
    apply Fin.ext
    match a with
    | ⟨0, _⟩ => show z.val + 1 * 0 = z.val; omega
    | ⟨1, _⟩ => show 0 + 1 * k.val = k.val; omega
    | ⟨2, _⟩ => show 0 + 1 * e.val = e.val; omega
  rw [h1]
  show k0_pay1 (rs (at' c z.val)) (inR (ix3 z k e)) = _
  unfold k0_pay1
  simp only [shapeCast_self]
  refine shapeCast_apply (rs (at' c z.val)) shapeCasts_S1024x8_S1x1024x8 (inR (ix3 z k e)) (ix2 k e) ?_
  rw [Shape.rowMajor_val_two, Shape.rowMajor_val_three]
  have hk := k.isLt
  have he := e.isLt
  show k.val * 8 + e.val = (z.val % 1 * 1024 + k.val % 1024) * 8 + e.val % 8
  rw [Nat.mod_eq_of_lt hk, Nat.mod_eq_of_lt he, Nat.mod_one]
  omega

/-- A gate: a token's row times a column of the pair's router. -/
theorem gates_apply (t : Fin 1024) (e : Fin 16) :
    (gates xs rs c (ix2 t e) : EReal) = ∑ k : Fin 1024, (xs c (ix2 t k) : EReal) * rs (at' c (e.val / 8)) (ix2 k ⟨e.val % 8, Nat.mod_lt _ (by decide)⟩) := by
  have hG : inG (ix2 t e) = ix2 t ⟨e.val % 8, Nat.mod_lt _ (by decide)⟩ := by
    funext a
    apply Fin.ext
    match a with
    | ⟨0, _⟩ => exact Nat.mod_eq_of_lt t.isLt
    | ⟨1, _⟩ => rfl
  have he := e.isLt
  unfold gates
  by_cases h : e.val < 8
  · refine (if_pos h).trans ?_
    rw [hG]
    refine (pay4_apply (xs c) (rBlk (rAll rs c) 0) t _).trans (Finset.sum_congr rfl fun k _ => ?_)
    rw [rBlk_apply, show e.val / 8 = (0 : Fin 2).val by show e.val / 8 = 0; omega]
  · refine (if_neg h).trans ?_
    rw [hG, pay5_eq]
    refine (pay4_apply (xs c) (rBlk (rAll rs c) 1) t _).trans (Finset.sum_congr rfl fun k _ => ?_)
    rw [rBlk_apply, show e.val / 8 = (1 : Fin 2).val by show e.val / 8 = 1; omega]

/-- A gathered token's entry. -/
theorem xAll_apply (i : S2x1024x1024.Idx) : (xAll xs c i : EReal) = xs (at' c (i 0).val) (ix2 (i 1) (i 2)) := by
  refine (pay2_apply (xs (at' c (i 0).val)) (inX i)).trans (congrArg (xs (at' c (i 0).val)) ?_)
  funext a
  apply Fin.ext
  match a with
  | ⟨0, _⟩ => exact Nat.mod_eq_of_lt (i 1).isLt
  | ⟨1, _⟩ => exact Nat.mod_eq_of_lt (i 2).isLt

end Cert.ExchangeIdealRun

end
-- ==== Proof.ExchangeRefRow.lean ====
/-
  What the exchange's reference computes of one row of gates, over the extended reals: the two first of the row sorted, and
  the softmax of their gates.
-/
module

public import proofs.«01_k».proof.Proof.Gen.ExchangeRefIdeal.Run
public import proofs.«01_k».proof.Proof.Top2
public import Idealize.ShloMosaic.Lib.MatmulPlain
public import Idealize.ShloMosaic.Lib.KernelVsHost
public import Idealize.ShloMosaic.Lib.Pipeline.Value

@[expose] public section

noncomputable section

namespace Cert.ExchangeRefRow

open Cert.ExchangeRefIdeal Cert.ExchangeRefIdeal.Gen Cert.Top2
open Idealize.ShloMosaic Idealize.ShloMosaic.ValueIdx
open scoped BigOperators

variable (X : FVec Ideal S2048x1024 .f32) (R : FVec Ideal S1024x16 .f32)

/-- A gate: token `t`'s row times expert `e`'s column. -/
def gate (t : Fin 2048) (e : Fin 16) : EReal := ∑ k : Fin 1024, (X (ix2 t k) : EReal) * R (ix2 k e)

/-- The gates as the reference computes them; -/
abbrev G : FVec Ideal S2048x16 .f32 := Host.dotGeneral dot_S2048x1024_S1024x16_S2048x16_1_0_0_1_n_n (some .fp32) X R
/-- the two best of each row; -/
abbrev TK (g : FVec Ideal S2048x16 .f32) : FVec Ideal S2048x2 .f32 × IVec S2048x2 32 := Host.topK S2048x2 1 (FloatOps.cmpfTotal .gt) g sliceFits_S2048x16_S2048x2
/-- a column per row, spread over two; -/
abbrev spread (x : FVec Ideal S2048 .f32) : FVec Ideal S2048x2 .f32 :=
  broadcastInDim S2048x2 ![0, 1] bcast_S2048x1_S2048x2_0_1 (broadcastInDim S2048x1 ![0] bcast_S2048_S2048x1_0 x)
/-- the exponentials of a row less its maximum; -/
abbrev E (v : FVec Ideal S2048x2 .f32) : FVec Ideal S2048x2 .f32 :=
  Host.exp (subf v (spread (Host.reduce FloatOps.maximumf v (constant S_ .f32 0xFF800000#32) reducesTo_S2048x2_S2048_d1 h_S_)))
/-- their softmax. -/
abbrev softmax (v : FVec Ideal S2048x2 .f32) : FVec Ideal S2048x2 .f32 :=
  Host.divf (E v) (spread (Host.reduceAdd (E v) (constant S_ .f32 0x00000000#32) reducesTo_S2048x2_S2048_d1 h_S_))

/-- The reference's three results, of its arguments. -/
abbrev refTokens : FVec Ideal S2x1024x1024 .bf16 := truncf .bf16 (shapeCast S2x1024x1024 X shapeCasts_S2048x1024_S2x1024x1024) bitsLt_bf16_f32
abbrev refExperts : IVec S2x2x1024 32 := transpose S2x2x1024 [0, 2, 1] (shapeCast S2x1024x2 (TK (G X R)).2 shapeCasts_S2048x2_S2x1024x2) transposes_S2x1024x2_S2x2x1024_0_2_1
abbrev refWeights : FVec Ideal S2x2x1024 .f32 := transpose S2x2x1024 [0, 2, 1] (shapeCast S2x1024x2 (softmax (TK (G X R)).1) shapeCasts_S2048x2_S2x1024x2) transposes_S2x1024x2_S2x2x1024_0_2_1

theorem G_apply (t : Fin 2048) (e : Fin 16) : (G X R (ix2 t e) : EReal) = gate X R t e := by
  unfold G gate
  rw [← matmul_zero_eq_dotGeneral]
  refine (Ideal.matmul_plain_apply (M := 2048) (K := 1024) (N := 16) (φ₁ := .f32) (φ₂ := .f32) (some .fp32) X R (constant S2048x16 .f32 0x00000000#32) t e).trans ?_
  have h0 : (constant (F := Ideal) S2048x16 .f32 0x00000000#32) (ix2 t e) = (0 : EReal) := Ideal.ofBits_zero_f32
  rw [h0]
  exact zero_add _

/-! ## The two best -/

theorem along_row (t : Fin 2048) (j k : Fin 16) : Shape.Idx.along (s := S2048x16) (ix2 t j) 1 k = ix2 t k := by
  funext a
  match a with
  | ⟨0, _⟩ => rfl
  | ⟨1, _⟩ => rfl

/-- Place `j` of row `t` sorted, greater first. -/
def place (g : FVec Ideal S2048x16 .f32) (t : Fin 2048) (j : Fin 2) : Fin 16 :=
  sortedFrom (gtB fun e => (g (ix2 t e) : EReal)) ⟨j.val, by have := j.isLt; omega⟩

theorem place_top2 (g : FVec Ideal S2048x16 .f32) (t : Fin 2048) : IsTop2 (fun e => (g (ix2 t e) : EReal)) (place g t 0) (place g t 1) :=
  sorted_top2 _ _ _ rfl rfl

theorem sort_place (g : FVec Ideal S2048x16 .f32) (t : Fin 2048) (j : Fin 2) :
    sortedFrom (fun k k' : Fin 16 => FloatOps.cmpfTotal (F := Ideal) (φ := .f32) .gt (g (Shape.Idx.along (s := S2048x16) (ix2 t (⟨j.val, by have := j.isLt; omega⟩ : Fin 16)) 1 k))
      (g (Shape.Idx.along (s := S2048x16) (ix2 t (⟨j.val, by have := j.isLt; omega⟩ : Fin 16)) 1 k')) == 1#1) ⟨j.val, by have := j.isLt; omega⟩ = place g t j := by
  unfold place
  refine congrArg (sortedFrom · _) (funext fun k => funext fun k' => ?_)
  rw [along_row, along_row]
  show (BitVec.ofBool (decide ((g (ix2 t k') : EReal) < g (ix2 t k))) == 1#1) = decide ((g (ix2 t k') : EReal) < g (ix2 t k))
  cases decide ((g (ix2 t k') : EReal) < g (ix2 t k)) <;> rfl

theorem TK_value (g : FVec Ideal S2048x16 .f32) (t : Fin 2048) (j : Fin 2) : (TK g).1 (ix2 t j) = g (ix2 t (place g t j)) := by
  show extractStridedSlice S2048x2 (fun _ => 0) (Host.sort2 S2048x16 1 (fun l r : Ideal .f32 × BitVec 32 => FloatOps.cmpfTotal .gt l.1 r.1) g (fun i => if hd : 1 < S2048x16.rank then iotaInDim S2048x16 32 ⟨1, hd⟩ i else 0#32)).1 sliceFits_S2048x16_S2048x2 (ix2 t j) = _
  refine (extractStridedSlice_apply (s := S2048x16) (t := S2048x2) (fun _ => 0) _ sliceFits_S2048x16_S2048x2 (ix2 t j) (ix2 t ⟨j.val, by have := j.isLt; omega⟩) fun a => ?_).trans ?_
  · match a with
    | ⟨0, _⟩ => exact (Nat.zero_add _).symm
    | ⟨1, _⟩ => exact (Nat.zero_add _).symm
  · refine Eq.trans ?_ (congrArg g (along_row t ⟨j.val, by have := j.isLt; omega⟩ (place g t j)))
    rw [← sort_place]
    rfl

/-- The positions sorted along. -/
def positions : IVec S2048x16 32 := fun i => if hd : 1 < S2048x16.rank then iotaInDim S2048x16 32 ⟨1, hd⟩ i else 0#32
theorem positions_apply (t : Fin 2048) (e : Fin 16) : positions (ix2 t e) = BitVec.ofNat 32 e.val := by
  unfold positions
  exact dif_pos (by decide)

theorem TK_index (g : FVec Ideal S2048x16 .f32) (t : Fin 2048) (j : Fin 2) : (TK g).2 (ix2 t j) = BitVec.ofNat 32 (place g t j).val := by
  show extractStridedSlice S2048x2 (fun _ => 0) (Host.sort2 S2048x16 1 (fun l r : Ideal .f32 × BitVec 32 => FloatOps.cmpfTotal .gt l.1 r.1) g positions).2 sliceFits_S2048x16_S2048x2 (ix2 t j) = _
  refine (extractStridedSlice_apply (s := S2048x16) (t := S2048x2) (fun _ => 0) _ sliceFits_S2048x16_S2048x2 (ix2 t j) (ix2 t ⟨j.val, by have := j.isLt; omega⟩) fun a => ?_).trans ?_
  · match a with
    | ⟨0, _⟩ => exact (Nat.zero_add _).symm
    | ⟨1, _⟩ => exact (Nat.zero_add _).symm
  · refine Eq.trans ?_ (positions_apply t (place g t j))
    refine Eq.trans ?_ (congrArg positions (along_row t ⟨j.val, by have := j.isLt; omega⟩ (place g t j)))
    rw [← sort_place]
    rfl

/-! ## The softmax of two -/

theorem spread_apply (x : FVec Ideal S2048 .f32) (t : Fin 2048) (j : Fin 2) : spread x (ix2 t j) = x (ix1 t) := by
  refine (broadcastInDim_apply ![0, 1] bcast_S2048x1_S2048x2_0_1 _ (ix2 t j) (ix2 t 0) fun a => ?_).trans ?_
  · match a with
    | ⟨0, _⟩ => rfl
    | ⟨1, _⟩ => rfl
  · refine broadcastInDim_apply ![0] bcast_S2048_S2048x1_0 x (ix2 t 0) (ix1 t) fun a => ?_
    match a with
    | ⟨0, _⟩ => rfl

theorem reduces2 : S2048x2.Reduces [1] S2048 := by decide

theorem lift2 (t : Fin 2048) (k : Fin 2) : reduces2.lift (ix1 t) k = ix2 t k := by
  funext a
  match a with
  | ⟨0, _⟩ => rfl
  | ⟨1, _⟩ => rfl

/-- The maximum of a row whose first is no less than its second is the first. -/
theorem max2 (v : FVec Ideal S2048x2 .f32) (t : Fin 2048) (h : (v (ix2 t 1) : EReal) ≤ v (ix2 t 0)) :
    Host.reduce FloatOps.maximumf v (constant S_ .f32 0xFF800000#32) reducesTo_S2048x2_S2048_d1 h_S_ (ix1 t) = v (ix2 t 0) := by
  refine (congrFun (hostReduce_maximumf_eq_multiReduction v 0xFF800000#32 reducesTo_S2048x2_S2048_d1 h_S_ reduces2 (.inl rfl) rfl) (ix1 t)).trans ?_
  refine (Ideal.multiReduction_maximumf_single (s := S2048x2) (a := 1) v _ reduces2 (.inl rfl) rfl (ix1 t)).trans ?_
  have hf : (v ∘ reduces2.lift (ix1 t)) = fun e => v (ix2 t e) := funext fun e => congrArg v (lift2 t e)
  have hb : FloatOps.ofBits (F := Ideal) .f32 0xFF800000#32 = (⊥ : EReal) := by
    show Ideal.ofBits .f32 0xFF800000#32 = ⊥
    simp [Ideal.ofBits, Ideal.ieee]
  rw [hf]
  refine (congrArg (fun b : EReal => Finset.fold max b (fun e : Fin 2 => (v (ix2 t e) : EReal)) Finset.univ) hb).trans ?_
  refine fold_max (fun e : Fin 2 => (v (ix2 t e) : EReal)) (p := 0) fun k => ?_
  fin_cases k
  · exact le_rfl
  · exact h

/-- The sum of a row of two. -/
theorem sum2 (v : FVec Ideal S2048x2 .f32) (t : Fin 2048) :
    (Host.reduceAdd v (constant S_ .f32 0x00000000#32) reducesTo_S2048x2_S2048_d1 h_S_ (ix1 t) : EReal) = v (ix2 t 0) + v (ix2 t 1) := by
  rw [hostReduceAdd_apply]
  refine (Ideal.hostReduceAdd_single reducesTo_S2048x2_S2048_d1 reduces2 v _ (ix1 t)).trans ?_
  have h0 : (constant (F := Ideal) S_ .f32 0x00000000#32) (Shape.Idx.first h_S_) = (0 : EReal) := Ideal.ofBits_zero_f32
  rw [h0, zero_add]
  refine (Fin.sum_univ_two (fun k : Fin 2 => (v (reduces2.lift (ix1 t) k) : EReal))).trans ?_
  rw [lift2, lift2]

theorem E_apply (v : FVec Ideal S2048x2 .f32) (t : Fin 2048) (h : (v (ix2 t 1) : EReal) ≤ v (ix2 t 0)) (j : Fin 2) :
    (E v (ix2 t j) : EReal) = Ideal.exp ((v (ix2 t j) : EReal) - v (ix2 t 0)) := by
  have e : (E v (ix2 t j) : EReal) = Ideal.exp ((v (ix2 t j) : EReal) - spread (Host.reduce FloatOps.maximumf v (constant S_ .f32 0xFF800000#32) reducesTo_S2048x2_S2048_d1 h_S_) (ix2 t j)) := rfl
  rw [e, spread_apply, max2 v t h]

/-- A row of the softmax, when the first is finite. -/
theorem softmax_apply (v : FVec Ideal S2048x2 .f32) (t : Fin 2048) (h : (v (ix2 t 1) : EReal) ≤ v (ix2 t 0)) (hr : ∃ r : ℝ, (v (ix2 t 0) : EReal) = r) (j : Fin 2) :
    (softmax v (ix2 t j) : EReal) = Ideal.div (if j = 0 then 1 else Ideal.exp ((v (ix2 t 1) : EReal) - v (ix2 t 0))) (1 + Ideal.exp ((v (ix2 t 1) : EReal) - v (ix2 t 0))) := by
  obtain ⟨r, hr⟩ := hr
  have h1 : Ideal.exp ((v (ix2 t 0) : EReal) - v (ix2 t 0)) = 1 := by
    rw [hr, ← EReal.coe_sub, sub_self, Ideal.exp_coe, Real.exp_zero]; rfl
  unfold softmax
  rw [hostDivf_apply, spread_apply, sum2, E_apply v t h, E_apply v t h, E_apply v t h, h1]
  fin_cases j
  · exact congrArg (Ideal.div · _) h1
  · rfl

end Cert.ExchangeRefRow

end
-- ==== Proof.ExchangeBridge.lean ====
/-
  The exchange's results are the reference's: every device holds all tokens, the two best experts of each and their weights.
-/
module

public import proofs.«01_k».proof.Proof.ExchangeIdealValue
public import proofs.«01_k».proof.Proof.ExchangeRefRow
public import proofs.«01_k».proof.Proof.Gen.Pre_finite_ExchangeIdeal
public import Idealize.ShloMosaic.Lib.Layout
public import Idealize.ShloMosaic.Lib.ReduceAll

@[expose] public section

noncomputable section

namespace Cert.ExchangeBridge

open Idealize.ShloMosaic Idealize.ShloMosaic.TcCoe Idealize.ShloMosaic.ValueIdx
open Idealize.SL.Sem
open Cert.Top2 Cert.ExchangeRefRow Cert.ExchangeIdealRun Cert.ExchangeIdealRow
open scoped BigOperators

/-! ## Finite arguments -/

/-- A number whose absolute value is below +∞ is real. -/
theorem real_of_abs {x : EReal} (h : max x (-x) < ⊤) : ∃ r : ℝ, x = r := by
  induction x with
  | bot => exact absurd h (by simp)
  | coe r => exact ⟨r, rfl⟩
  | top => exact absurd h (by simp)

theorem top_bits : Ideal.ofBits .f32 0x7F800000#32 = ⊤ := by simp [Ideal.ofBits, Ideal.ieee]

/-- The bit that says an element's absolute value is below +∞ says that it is real. -/
theorem real_of_bit {s : Shape} (x : FVec Ideal s .f32) (h : (⟨0, ![]⟩ : Shape).BroadcastsInDim s ![]) (i : s.Idx)
    (e : cmpf .olt (Host.absf x) (broadcastInDim s ![] h (constant (F := Ideal) ⟨0, ![]⟩ .f32 0x7F800000#32)) i = 1#1) : ∃ r : ℝ, (x i : EReal) = r := by
  have e' : BitVec.ofBool (decide (max (x i : EReal) (-(x i : EReal)) < Ideal.ofBits .f32 0x7F800000#32)) = 1#1 := e
  rw [top_bits] at e'
  by_cases hh : max (x i : EReal) (-(x i : EReal)) < ⊤
  · exact real_of_abs hh
  · rw [decide_eq_false hh] at e'; exact absurd e' (by decide)

theorem and_left : ∀ {a b : BitVec 1}, IntOp.andi a b = 1#1 → a = 1#1 := by decide
theorem and_right : ∀ {a b : BitVec 1}, IntOp.andi a b = 1#1 → b = 1#1 := by decide

open Cert.Pre_finite_ExchangeIdeal in
/-- The precondition says that every element of a device's arguments is real. -/
theorem finite_args (x : FVec Ideal ⟨2, ![1024, 1024]⟩ .f32) (r : FVec Ideal ⟨2, ![1024, 8]⟩ .f32)
    (h : Cert.Pre_finite_ExchangeIdeal.fn (F := Ideal) x r = fun _ => 1#1) :
    (∀ i, ∃ y : ℝ, (x i : EReal) = y) ∧ ∀ i, ∃ y : ℝ, (r i : EReal) = y := by
  have hs : Subsingleton (Cert.Pre_finite_ExchangeIdeal.S_).Idx := ⟨fun a b => funext fun d => Fin.elim0 d⟩
  have h0 := congrFun h ix0
  unfold Cert.Pre_finite_ExchangeIdeal.fn at h0
  exact ⟨fun i => real_of_bit x _ i (Host.reduce_andi_all _ _ _ _ _ (and_left h0) i), fun i => real_of_bit r _ i (Host.reduce_andi_all _ _ _ _ _ (and_right h0) i)⟩

/-! ## The devices' blocks -/

open Cert.ExchangeIdeal

variable (X : FVec Ideal ⟨2, ![2048, 1024]⟩ .f32) (R : FVec Ideal ⟨2, ![1024, 16]⟩ .f32)

theorem half_lt (c : Dev nD) : c.val % 2 < 2 := Nat.mod_lt _ (by decide)
theorem rows_block (c : Dev nD) (b : Fin 2) : ((Layout.meshBlock [2, 2, 2] ![[2], []] c) b : ℕ) = if b = 0 then c.val % 2 else 0 := by
  revert b c; decide
theorem cols_block (c : Dev nD) (b : Fin 2) : ((Layout.meshBlock [2, 2, 2] ![[], [2]] c) b : ℕ) = if b = 1 then c.val % 2 else 0 := by
  revert b c; decide

/-- Row `t` of the half `z`. -/
def row (z : ℕ) (hz : z < 2) (t : Fin 1024) : Fin 2048 := ⟨z * 1024 + t.val, by have := t.isLt; omega⟩

theorem blockX (c : Dev nD) (t k : Fin 1024) :
    Layout.blockN ⟨2, ![1024, 1024]⟩ ⟨2, ![2048, 1024]⟩ (Layout.meshBlock [2, 2, 2] ![[2], []] c) X (by decide) (ix2 t k) = X (ix2 (row (c.val % 2) (half_lt c) t) k) := by
  rw [Layout.blockN_apply]
  refine congrArg X ?_
  funext a
  apply Fin.ext
  rw [Layout.TilesN.idx_val]
  match a with
  | ⟨0, _⟩ => exact congrArg (· * 1024 + t.val) (rows_block c 0)
  | ⟨1, _⟩ => refine (congrArg (· * 1024 + k.val) (rows_block c 1)).trans ?_; show 0 * 1024 + k.val = k.val; omega
theorem blockR (c : Dev nD) (k : Fin 1024) (e : Fin 8) :
    Layout.blockN ⟨2, ![1024, 8]⟩ ⟨2, ![1024, 16]⟩ (Layout.meshBlock [2, 2, 2] ![[], [2]] c) R (by decide) (ix2 k e)
      = R (ix2 k (⟨c.val % 2 * 8 + e.val, by have := e.isLt; have := half_lt c; omega⟩ : Fin 16)) := by
  rw [Layout.blockN_apply]
  refine congrArg R ?_
  funext a
  apply Fin.ext
  rw [Layout.TilesN.idx_val]
  match a with
  | ⟨0, _⟩ => refine (congrArg (· * 1024 + k.val) (cols_block c 0)).trans ?_; show 0 * 1024 + k.val = k.val; omega
  | ⟨1, _⟩ => exact congrArg (· * 8 + e.val) (cols_block c 1)

/-- What is assumed of the devices' arguments: they are the reference's blocks, and real. -/
structure Blocks (xs : Dev nD → Vec Ideal S1024x1024 .f32) (rs : Dev nD → Vec Ideal S1024x8 .f32) : Prop where
  hx : ∀ c : Dev nD, xs c = Layout.blockN ⟨2, ![1024, 1024]⟩ ⟨2, ![2048, 1024]⟩ (Layout.meshBlock [2, 2, 2] ![[2], []] c) X (by decide)
  hr : ∀ c : Dev nD, rs c = Layout.blockN ⟨2, ![1024, 8]⟩ ⟨2, ![1024, 16]⟩ (Layout.meshBlock [2, 2, 2] ![[], [2]] c) R (by decide)
  fx : ∀ c i, ∃ y : ℝ, (xs c i : EReal) = y
  fr : ∀ c i, ∃ y : ℝ, (rs c i : EReal) = y

variable {X R} {xs : Dev nD → Vec Ideal S1024x1024 .f32} {rs : Dev nD → Vec Ideal S1024x8 .f32} (H : Blocks X R xs rs)
include H

/-- A device's gates are its rows of the reference's; -/
theorem gates_ref (c : Dev nD) (t : Fin 1024) (e : Fin 16) : (gates xs rs c (ix2 t e) : EReal) = G X R (ix2 (row (c.val % 2) (half_lt c) t) e) := by
  rw [gates_apply, G_apply]
  have he := e.isLt
  refine Finset.sum_congr rfl fun k _ => ?_
  have hm : (at' c (e.val / 8)).val % 2 = e.val / 8 := at_mod c (by omega)
  rw [H.hx, H.hr, blockX, blockR]
  refine congrArg (fun i => (X (ix2 (row (c.val % 2) (half_lt c) t) k) : EReal) * R (ix2 k i)) (Fin.ext ?_)
  show (at' c (e.val / 8)).val % 2 * 8 + e.val % 8 = e.val
  rw [hm]; omega

/-- they are real. -/
theorem gates_real (c : Dev nD) (t : Fin 1024) (e : Fin 16) : ∃ y : ℝ, (gates xs rs c (ix2 t e) : EReal) = y := by
  rw [gates_apply]
  refine sum_real _ _ fun k _ => ?_
  obtain ⟨a, ha⟩ := H.fx c (ix2 t k)
  obtain ⟨b, hb⟩ := H.fr (at' c (e.val / 8)) (ix2 k ⟨e.val % 8, Nat.mod_lt _ (by decide)⟩)
  exact ⟨a * b, by rw [ha, hb, EReal.coe_mul]⟩

/-- The two best of a device's row are the reference's. -/
theorem gates_top2 (c : Dev nD) (t : Fin 1024) : IsTop2 (fun e => (gates xs rs c (ix2 t e) : EReal))
    (place (G X R) (row (c.val % 2) (half_lt c) t) 0) (place (G X R) (row (c.val % 2) (half_lt c) t) 1) := by
  rw [show (fun e => (gates xs rs c (ix2 t e) : EReal)) = fun e => (G X R (ix2 (row (c.val % 2) (half_lt c) t) e) : EReal) from funext (gates_ref H c t)]
  exact place_top2 _ _

omit H in
/-- An entry of a result, as an entry of the reference's row. -/
theorem laid_apply {α : Type} (x : (⟨2, ![2048, 2]⟩ : Shape).Idx → α) (h₁ : (⟨2, ![2048, 2]⟩ : Shape).ShapeCasts ⟨3, ![2, 1024, 2]⟩)
    (h₂ : (⟨3, ![2, 1024, 2]⟩ : Shape).Transposes [0, 2, 1] ⟨3, ![2, 2, 1024]⟩) (z j : Fin 2) (r : Fin 1024) :
    transpose ⟨3, ![2, 2, 1024]⟩ [0, 2, 1] (shapeCast ⟨3, ![2, 1024, 2]⟩ x h₁) h₂ (ix3 z j r) = x (ix2 (row z.val z.isLt r) j) := by
  refine (transpose_apply (s := ⟨3, ![2, 1024, 2]⟩) (t := ⟨3, ![2, 2, 1024]⟩) [0, 2, 1] _ h₂ (ix3 z j r) (ix3 z r j) fun b => ?_).trans ?_
  · match b with
    | ⟨0, _⟩ => rfl
    | ⟨1, _⟩ => rfl
    | ⟨2, _⟩ => rfl
  · refine shapeCast_apply x h₁ (ix3 z r j) (ix2 (row z.val z.isLt r) j) ?_
    rw [Shape.rowMajor_val_two, Shape.rowMajor_val_three]
    rfl

omit H in
theorem row_congr {z z' : ℕ} (h : z = z') (hz : z < 2) (hz' : z' < 2) (t : Fin 1024) : row z hz t = row z' hz' t := by subst h; rfl

omit H in
/-- The device of parity `z` has the half `z` of the rows. -/
theorem row_at (c : Dev nD) (z : Fin 2) (r : Fin 1024) : row ((at' c z.val).val % 2) (half_lt _) r = row z.val z.isLt r :=
  row_congr (at_mod c z.isLt) _ _ r

/-- The gathered tokens are the reference's. -/
theorem tokens_at (c : Dev nD) (z : Fin 2) (r k : Fin 1024) : (xAll xs c (ix3 z r k) : EReal) = refTokens X (ix3 z r k) := by
  refine (xAll_apply xs c (ix3 z r k)).trans ?_
  show (xs (at' c z.val) (ix2 r k) : EReal) = _
  rw [H.hx, blockX, row_at]
  refine (shapeCast_apply X Cert.ExchangeRefIdeal.Gen.facts.shapeCasts_S2048x1024_S2x1024x1024 (ix3 z r k) (ix2 (row z.val z.isLt r) k) ?_).symm
  rw [Shape.rowMajor_val_two, Shape.rowMajor_val_three]
  rfl
theorem tokens_ref (c : Dev nD) : (xAll xs c : S2x1024x1024.Idx → EReal) = refTokens X := by
  funext i
  obtain ⟨z, r, k, rfl⟩ : ∃ (z : Fin 2) (r k : Fin 1024), i = ix3 z r k := ⟨i 0, i 1, i 2, by funext a; match a with | ⟨0, _⟩ => rfl | ⟨1, _⟩ => rfl | ⟨2, _⟩ => rfl⟩
  exact tokens_at H c z r k

omit H in
theorem inI_two (z j : Fin 2) (r : Fin 1024) : inI (ix3 z j r) 2 = r := Fin.ext (Nat.mod_eq_of_lt r.isLt)

/-- The two best of the gathered row `r` of the half `z` are the reference's. -/
theorem top2_at (c : Dev nD) (z : Fin 2) (r : Fin 1024) : IsTop2 (fun e => (gates xs rs (at' c z.val) (ix2 r e) : EReal))
    (place (G X R) (row z.val z.isLt r) 0) (place (G X R) (row z.val z.isLt r) 1) := by
  have ht := gates_top2 H (at' c z.val) r
  rwa [row_at] at ht

/-- The gathered choices are the reference's. -/
theorem experts_at (c : Dev nD) (z j : Fin 2) (r : Fin 1024) : iAll xs rs c (ix3 z j r) = refExperts X R (ix3 z j r) := by
  have ht := top2_at H c z r
  refine Eq.trans ?_ (laid_apply _ _ _ z j r).symm
  rw [TK_index]
  show (if j.val = 0 then idx0 xs rs (at' c z.val) (inI (ix3 z j r)) else idx1 xs rs (at' c z.val) (inI (ix3 z j r))) = _
  by_cases h : j = 0
  · subst h
    exact (if_pos rfl).trans (pay12_row _ r ht _ (inI_two z 0 r))
  · have h1 := j.isLt
    have h2 : j.val ≠ 0 := fun e => h (Fin.ext e)
    obtain rfl : j = 1 := Fin.ext (by show j.val = 1; omega)
    refine (if_neg h2).trans (pay13_row _ r ht (fun e he => ?_) _ (inI_two z 1 r))
    obtain ⟨y, hy⟩ := gates_real H (at' c z.val) r e
    exact EReal.coe_ne_bot y (hy.symm.trans he)
theorem experts_ref (c : Dev nD) : (iAll xs rs c : S2x2x1024.Idx → BitVec 32) = refExperts X R := by
  funext i
  obtain ⟨z, j, r, rfl⟩ : ∃ (z j : Fin 2) (r : Fin 1024), i = ix3 z j r := ⟨i 0, i 1, i 2, by funext a; match a with | ⟨0, _⟩ => rfl | ⟨1, _⟩ => rfl | ⟨2, _⟩ => rfl⟩
  exact experts_at H c z j r

/-- The reference's gate at a place is the device's. -/
theorem value_at (c : Dev nD) (z j : Fin 2) (r : Fin 1024) : ((TK (G X R)).1 (ix2 (row z.val z.isLt r) j) : EReal)
    = gates xs rs (at' c z.val) (ix2 r (place (G X R) (row z.val z.isLt r) j)) := by
  have hg := gates_ref H (at' c z.val) r (place (G X R) (row z.val z.isLt r) j)
  rw [row_at] at hg
  exact (TK_value (G X R) (row z.val z.isLt r) j).trans hg.symm

/-- The gathered weights are the reference's. -/
theorem weights_at (c : Dev nD) (z j : Fin 2) (r : Fin 1024) : (wAll xs rs c (ix3 z j r) : EReal) = refWeights X R (ix3 z j r) := by
  have ht := top2_at H c z r
  refine Eq.trans ?_ (laid_apply _ _ _ z j r).symm
  refine Eq.trans ?_ (softmax_apply (TK (G X R)).1 (row z.val z.isLt r) ?_ ?_ j).symm
  · rw [value_at H c, value_at H c]
    show ((if j.val = 0 then wgt0 xs rs (at' c z.val) (inI (ix3 z j r)) else wgt1 xs rs (at' c z.val) (inI (ix3 z j r)) : Ideal .f32) : EReal) = _
    by_cases h : j = 0
    · subst h
      refine (if_pos rfl).trans ((pay14_row _ r ht _ (inI_two z 0 r)).trans ?_)
      rw [if_pos rfl]
    · have h1 := j.isLt
      have h2 : j.val ≠ 0 := fun e => h (Fin.ext e)
      obtain rfl : j = 1 := Fin.ext (by show j.val = 1; omega)
      refine (if_neg h2).trans ((pay16_row _ r ht _ (inI_two z 1 r)).trans ?_)
      rw [if_neg h]
  · rw [value_at H c, value_at H c]
    exact ht.le _
  · rw [value_at H c]
    exact gates_real H _ _ _
theorem weights_ref (c : Dev nD) : (wAll xs rs c : S2x2x1024.Idx → EReal) = refWeights X R := by
  funext i
  obtain ⟨z, j, r, rfl⟩ : ∃ (z j : Fin 2) (r : Fin 1024), i = ix3 z j r := ⟨i 0, i 1, i 2, by funext a; match a with | ⟨0, _⟩ => rfl | ⟨1, _⟩ => rfl | ⟨2, _⟩ => rfl⟩
  exact weights_at H c z j r

end Cert.ExchangeBridge

end
-- ==== Proof.ExchangeClaims.lean ====
/-
  The exchange's claims: what each program's run gives, read at the claims' buffers.
-/
module

public import proofs.«01_k».proof.Defs
public import proofs.«01_k».proof.Proof.ExchangeRun
public import proofs.«01_k».proof.Proof.ExchangeBridge

@[expose] public section

noncomputable section

namespace Cert.ExchangeClaims

open Idealize.ShloMosaic Idealize.ShloMosaic.TcCoe Idealize.SL.Sem

/-- The printed kernel runs, keeps its arguments and leaves every counter at zero. -/
theorem frame_exchange : Cert.quiescent_Exchange := fun m g _ =>
  (θ_run Cert.Exchange.defs _ _).mono
    (fun _ h => ⟨fun c => ⟨(h.1 c 0).trans (Cert.ExchangeRun.finalA_x m g c), (h.1 c 1).trans (Cert.ExchangeRun.finalA_k m g c)⟩, h.2⟩)
    (Cert.ExchangeRun.run_main (F := Bits) m g)

/-- So does the kernel over the extended reals, -/
theorem frame_exchangeIdeal : Cert.quiescent_ExchangeIdeal := fun m g _ =>
  (θ_run Cert.ExchangeIdeal.defs _ _).mono
    (fun _ h => ⟨fun c => ⟨(h.1 c 0).trans (Cert.ExchangeIdealRun.finalA_x m g c), (h.1 c 1).trans (Cert.ExchangeIdealRun.finalA_k m g c)⟩, h.2⟩)
    (Cert.ExchangeIdealRun.run_main (F := Ideal) m g)

/-- from finite arguments too. -/
theorem frame_exchangeIdeal_finite [Cert.Pre_finite_ExchangeIdeal.Facts] : Cert.quiescent_ExchangeIdeal_pre_finite_ExchangeIdeal := fun m g _ =>
  frame_exchangeIdeal m g trivial

/-- The reference runs and keeps its arguments; it declares no semaphore. -/
theorem frame_exchangeRefIdeal : Cert.quiescent_ExchangeRefIdeal := fun m g _ =>
  (θ_run Cert.ExchangeRefIdeal.defs _ _).mono (fun r h => ⟨fun c => (h c).2.2.2, Idealize.ShloMosaic.sem_eq_zero_of_no_sems (by decide) r.2⟩)
    (Cert.ExchangeRefIdeal.Value.run (F := Ideal) m g)

/-- From finite arguments too. -/
theorem frame_exchangeRefIdeal_finite [Cert.Pre_finite_ExchangeRefIdeal.Facts] : Cert.quiescent_ExchangeRefIdeal_pre_finite_ExchangeRefIdeal := fun m g _ =>
  frame_exchangeRefIdeal m g trivial

/-- The idealized kernel is the printed one with the mask's constant read as −∞. -/
theorem preserves_exchange : Cert.preserves_Exchange_ExchangeIdeal :=
  IdealRules.named_const.statement Cert.ExchangeIdeal.κ "mask" .f32 0xF149F2CA#32 ⊥ Cert.ExchangeIdealRow.mask_value

/-- From finite arguments every device's results are all of the reference's. -/
theorem algebraic_exchange : Cert.algebraic_ExchangeIdeal_ExchangeRefIdeal_pre_finite_ExchangeIdeal := fun m g m' g' hp hag => by
  have H : Cert.ExchangeBridge.Blocks (m' (((0 : Dev Cert.ExchangeRefIdeal.nD).tc : Thread Cert.ExchangeRefIdeal.nD Cert.ExchangeRefIdeal.τ).loc Cert.ExchangeRefIdeal.main_arg0))
      (m' (((0 : Dev Cert.ExchangeRefIdeal.nD).tc : Thread Cert.ExchangeRefIdeal.nD Cert.ExchangeRefIdeal.τ).loc Cert.ExchangeRefIdeal.main_arg1))
      (Cert.ExchangeIdealRun.xstg m g) (Cert.ExchangeIdealRun.kstg m g) :=
    ⟨fun c => (Cert.ExchangeIdealRun.xstg_eq m g c).trans (hag c).1, fun c => (Cert.ExchangeIdealRun.kstg_eq m g c).trans (hag c).2,
      fun c i => by rw [Cert.ExchangeIdealRun.xstg_eq]; exact (Cert.ExchangeBridge.finite_args _ _ (hp c)).1 i,
      fun c i => by rw [Cert.ExchangeIdealRun.kstg_eq]; exact (Cert.ExchangeBridge.finite_args _ _ (hp c)).2 i⟩
  exact ⟨_, _, _, (θ_run Cert.ExchangeIdeal.defs _ _).mono
      (fun _ h c => ⟨((h.1 c 2).trans (Cert.ExchangeIdealRun.finalA_tokens m g c)).trans (Cert.ExchangeBridge.tokens_ref H c),
        ((h.1 c 3).trans (Cert.ExchangeIdealRun.finalA_experts m g c)).trans (Cert.ExchangeBridge.experts_ref H c),
        ((h.1 c 4).trans (Cert.ExchangeIdealRun.finalA_weights m g c)).trans (Cert.ExchangeBridge.weights_ref H c),
        (h.1 c 0).trans (Cert.ExchangeIdealRun.finalA_x m g c), (h.1 c 1).trans (Cert.ExchangeIdealRun.finalA_k m g c)⟩)
      (Cert.ExchangeIdealRun.run_main (F := Ideal) m g),
    (θ_run Cert.ExchangeRefIdeal.defs _ _).mono (fun _ h => h 0) (Cert.ExchangeRefIdeal.Value.run (F := Ideal) m' g')⟩

end Cert.ExchangeClaims

end
-- ==== Proof.FfnIdealPoint.lean ====
/-
  The experts' products, one grid point at a time: what the body leaves in the result's block and in the carried rows, and
  what the point's blocks hold of the arrays.
-/
module

public import proofs.«01_k».proof.Proof.Gen.FfnIdeal.Value
public import Idealize.ShloMosaic.Lib.Pipeline.Value
public import Idealize.ShloMosaic.Lib.MatmulPlain
public import Idealize.ShloMosaic.Lib.Tactic

@[expose] public section

noncomputable section

namespace Cert.FfnIdealPoint

open Cert.FfnIdeal Cert.FfnIdeal.Gen
open Idealize.ShloMosaic Idealize.ShloMosaic.TcCoe Idealize.ShloMosaic.ValueIdx
open Idealize.SL Idealize.SL.Sem

variable {F : FTy → Type} [FloatOps F]

theorem zero3 : (![0, 0, 0] : Fin 3 → Nat) = fun _ => 0 := funext fun a => by fin_cases a <;> rfl
theorem zero2 : (![0, 0] : Fin 2 → Nat) = fun _ => 0 := funext fun a => by fin_cases a <;> rfl

section Body
variable (c : Dev nD) (i : grid0.Coords) (arg2 : Memref sig .tc .vmem S2048x1024 .bf16) (harg2 : arg2.IsWhole)
  (arg3 : Memref sig .tc .vmem S1x1x320 .i32) (harg3 : arg3.IsWhole) (arg4 : Memref sig .tc .vmem S1x1024x1024 .f32) (harg4 : arg4.IsWhole)
  (arg5 : Memref sig .tc .vmem S1x1024x1024 .f32) (harg5 : arg5.IsWhole) (arg6 : Memref sig .tc .vmem S1x1x320 .f32) (harg6 : arg6.IsWhole)
  (arg7 : Memref sig .tc .vmem S1x320x1024 .f32) (harg7 : arg7.IsWhole) (arg8 : Memref sig .tc .vmem S320x1024 .f32) (harg8 : arg8.IsWhole)
  (x0 : Vec F S2048x1024 .bf16) (x1 : Vec F S1x1x320 .i32) (x2 : Vec F S1x1024x1024 .f32) (x3 : Vec F S1x1024x1024 .f32) (x4 : Vec F S1x1x320 .f32)

/-- At an expert's first point the body leaves the expert's rows in the carried scratch; -/
theorem rows_first (hc0 : cond0_0 i) (hc1 : cond0_1 i) (hc2 : ¬cond0_2 i) :
    sout0_A_0 c i arg2 harg2 arg3 harg3 arg4 harg4 arg5 harg5 arg6 harg6 arg7 harg7 arg8 harg8 hc0 hc1 hc2 x0 x1 x2 x3 x4 = k0_pay1 x1 x0 := by
  unfold sout0_A_0
  rw [View.read_writes_eq_canon _ _ _ (scover0_A_0 c i arg2 harg2 arg3 harg3 arg4 harg4 arg5 harg5 arg6 harg6 arg7 harg7 arg8 harg8 hc0 hc1 hc2 x0 x1 x2 x3 x4)]
  unfold kernelRun0_A
  dsimp only
  sl_unfold_words
  rw [View.canon_unit_zero zero2]
  simp only [View.readAt_eq_ld, harg2.read_unread, harg3.read_unread, View.ld_unit_zero (S := S1x1x320) zero3, View.ld_unit_zero (S := S2048x1024) zero2]

/-- and in the result's block the first tile's products with those rows. -/
theorem out_first (hc0 : cond0_0 i) (hc1 : cond0_1 i) (hc2 : ¬cond0_2 i) :
    out0_A_5 c i arg2 harg2 arg3 harg3 arg4 harg4 arg5 harg5 arg6 harg6 arg7 harg7 arg8 harg8 hc0 hc1 hc2 x0 x1 x2 x3 x4 = k0_pay3 (k0_pay1 x1 x0) x2 x3 x4 := by
  unfold out0_A_5
  rw [View.read_writes_eq_canon _ _ _ (cover0_A_5 c i arg2 harg2 arg3 harg3 arg4 harg4 arg5 harg5 arg6 harg6 arg7 harg7 arg8 harg8 hc0 hc1 hc2 x0 x1 x2 x3 x4)]
  unfold kernelRun0_A
  dsimp only
  sl_unfold_words
  rw [View.canon_unit_zero zero3]
  simp only [View.readCov_unit_zero (S := S320x1024) _ zero2, View.readAt_eq_ld, harg2.read_unread, harg3.read_unread, harg4.read_unread, harg5.read_unread, harg6.read_unread,
    View.ld_unit_zero (S := S1x1x320) zero3, View.ld_unit_zero (S := S2048x1024) zero2, View.ld_unit_zero (S := S1x1024x1024) zero3]

/-- At a later point it adds a tile's products to what the block holds. -/
theorem out_next (hc0 : ¬cond0_0 i) (hc1 : ¬cond0_1 i) (hc2 : cond0_2 i) (xo5 : Vec F S1x320x1024 .f32) (xs0 : Vec F S320x1024 .f32) :
    out0_B_5 c i arg2 harg2 arg3 harg3 arg4 harg4 arg5 harg5 arg6 harg6 arg7 harg7 arg8 harg8 hc0 hc1 hc2 x0 x1 x2 x3 x4 xo5 xs0 = k0_pay4 xs0 x2 x3 x4 xo5 := by
  unfold out0_B_5
  rw [View.read_writes_eq_canon _ _ _ (cover0_B_5 c i arg2 harg2 arg3 harg3 arg4 harg4 arg5 harg5 arg6 harg6 arg7 harg7 arg8 harg8 hc0 hc1 hc2 x0 x1 x2 x3 x4 xo5 xs0)]
  unfold kernelRun0_B
  dsimp only
  sl_unfold_words
  rw [View.canon_unit_zero zero3]
  simp only [View.readAt_eq_ld, harg4.read_unread, harg5.read_unread, harg6.read_unread, harg7.read_unread, harg8.read_unread,
    View.ld_unit_zero (S := S1x1x320) zero3, View.ld_unit_zero (S := S320x1024) zero2, View.ld_unit_zero (S := S1x1024x1024) zero3, View.ld_unit_zero (S := S1x320x1024) zero3]

end Body

/-! ## The point's blocks -/

variable (m : (ℓ : Loc nD τ sig) → Buf (Elt F) ℓ) (c : Dev nD)

/-- Where the windows stand at point `t`: the expert is `t / 4`, the tile `t % 4`. -/
theorem index0 : ∀ t : Fin cfg0.N, win0_0.index t 0 = 0 ∧ win0_0.index t 1 = 0 := (by decide +kernel : ∀ t : Fin grid0.N, _)
theorem index1 : ∀ t : Fin cfg0.N, win0_1.index t 0 = t.val / 4 ∧ win0_1.index t 1 = 0 ∧ win0_1.index t 2 = 0 := (by decide +kernel : ∀ t : Fin grid0.N, _)
theorem index2 : ∀ t : Fin cfg0.N, win0_2.index t 0 = t.val / 4 ∧ win0_2.index t 1 = 0 ∧ win0_2.index t 2 = t.val % 4 := (by decide +kernel : ∀ t : Fin grid0.N, _)
theorem index3 : ∀ t : Fin cfg0.N, win0_3.index t 0 = t.val / 4 ∧ win0_3.index t 1 = t.val % 4 ∧ win0_3.index t 2 = 0 := (by decide +kernel : ∀ t : Fin grid0.N, _)
theorem index4 : ∀ t : Fin cfg0.N, win0_4.index t 0 = t.val / 4 ∧ win0_4.index t 1 = 0 ∧ win0_4.index t 2 = 0 := (by decide +kernel : ∀ t : Fin grid0.N, _)

/-- The tokens are there whole; -/
theorem block0 (t : Fin cfg0.N) : (iblk m c 0 t : Vec F S2048x1024 .bf16) = m ((c : Thread nD τ).loc main_arg0) := by
  funext j
  unfold iblk
  rw [View.read_apply]
  show V m c main_arg0 _ = m (c.tc.loc main_arg0) _
  unfold V
  refine congrArg (m (c.tc.loc main_arg0)) ?_
  funext a
  apply Fin.ext
  match a with
  | ⟨0, _⟩ => show win0_0.index t 0 * 2048 + 1 * (j 0).val = (j 0).val; rw [(index0 t).1]; omega
  | ⟨1, _⟩ => show win0_0.index t 1 * 1024 + 1 * (j 1).val = (j 1).val; rw [(index0 t).2]; omega
/-- the expert's token table; -/
theorem block1 (t : Fin cfg0.N) (e : Fin 8) (he : t.val / 4 = e.val) (s : Fin 320) :
    (iblk m c 1 t : Vec F S1x1x320 .i32) (ix3 0 0 s) = m ((c : Thread nD τ).loc main_arg1) (ix3 e 0 s) := by
  unfold iblk
  rw [View.read_apply]
  show V m c main_arg1 _ = m (c.tc.loc main_arg1) _
  unfold V
  refine congrArg (m (c.tc.loc main_arg1)) ?_
  funext a
  apply Fin.ext
  match a with
  | ⟨0, _⟩ => show win0_1.index t 0 * 1 + 1 * 0 = e.val; rw [(index1 t).1]; omega
  | ⟨1, _⟩ => show win0_1.index t 1 * 1 + 1 * 0 = 0; rw [(index1 t).2.1]
  | ⟨2, _⟩ => show win0_1.index t 2 * 320 + 1 * s.val = s.val; rw [(index1 t).2.2]; omega
/-- the tile's columns of the expert's first matrix; -/
theorem block2 (t : Fin cfg0.N) (e : Fin 8) (k : Fin 4) (he : t.val / 4 = e.val) (hk : t.val % 4 = k.val) (d f : Fin 1024) (g : Fin 4096) (hg : g.val = k.val * 1024 + f.val) :
    (iblk m c 2 t : Vec F S1x1024x1024 .f32) (ix3 0 d f) = m ((c : Thread nD τ).loc main_arg2) (ix3 e d g) := by
  unfold iblk
  rw [View.read_apply]
  show V m c main_arg2 _ = m (c.tc.loc main_arg2) _
  unfold V
  refine congrArg (m (c.tc.loc main_arg2)) ?_
  funext a
  apply Fin.ext
  match a with
  | ⟨0, _⟩ => show win0_2.index t 0 * 1 + 1 * 0 = e.val; rw [(index2 t).1]; omega
  | ⟨1, _⟩ => show win0_2.index t 1 * 1024 + 1 * d.val = d.val; rw [(index2 t).2.1]; omega
  | ⟨2, _⟩ => show win0_2.index t 2 * 1024 + 1 * f.val = g.val; rw [(index2 t).2.2]; omega
/-- the tile's rows of its second; -/
theorem block3 (t : Fin cfg0.N) (e : Fin 8) (k : Fin 4) (he : t.val / 4 = e.val) (hk : t.val % 4 = k.val) (f d : Fin 1024) (g : Fin 4096) (hg : g.val = k.val * 1024 + f.val) :
    (iblk m c 3 t : Vec F S1x1024x1024 .f32) (ix3 0 f d) = m ((c : Thread nD τ).loc main_arg3) (ix3 e g d) := by
  unfold iblk
  rw [View.read_apply]
  show V m c main_arg3 _ = m (c.tc.loc main_arg3) _
  unfold V
  refine congrArg (m (c.tc.loc main_arg3)) ?_
  funext a
  apply Fin.ext
  match a with
  | ⟨0, _⟩ => show win0_3.index t 0 * 1 + 1 * 0 = e.val; rw [(index3 t).1]; omega
  | ⟨1, _⟩ => show win0_3.index t 1 * 1024 + 1 * f.val = g.val; rw [(index3 t).2.1]; omega
  | ⟨2, _⟩ => show win0_3.index t 2 * 1024 + 1 * d.val = d.val; rw [(index3 t).2.2]; omega
/-- its slots' gates. -/
theorem block4 (t : Fin cfg0.N) (e : Fin 8) (he : t.val / 4 = e.val) (s : Fin 320) :
    (iblk m c 4 t : Vec F S1x1x320 .f32) (ix3 0 0 s) = m ((c : Thread nD τ).loc main_arg4) (ix3 e 0 s) := by
  unfold iblk
  rw [View.read_apply]
  show V m c main_arg4 _ = m (c.tc.loc main_arg4) _
  unfold V
  refine congrArg (m (c.tc.loc main_arg4)) ?_
  funext a
  apply Fin.ext
  match a with
  | ⟨0, _⟩ => show win0_4.index t 0 * 1 + 1 * 0 = e.val; rw [(index4 t).1]; omega
  | ⟨1, _⟩ => show win0_4.index t 1 * 1 + 1 * 0 = 0; rw [(index4 t).2.1]
  | ⟨2, _⟩ => show win0_4.index t 2 * 320 + 1 * s.val = s.val; rw [(index4 t).2.2]; omega

end Cert.FfnIdealPoint

end
-- ==== Proof.FfnTerm.lean ====
/-
  The experts' products as sums over the extended reals: a slot's row, its product with a column of the first matrix, and the
  sum over the hidden columns, all at once and tile by tile.
-/
module

public import Idealize.ShloMosaic.Lib.MatmulPlain
public import Idealize.ShloMosaic.Lib.Pipeline.Value

@[expose] public section

noncomputable section

namespace Cert.FfnTerm

open Idealize.ShloMosaic Idealize.ShloMosaic.ValueIdx
open scoped BigOperators

/-- The row of `x` that the word `w` names, at column `d`; zero when it names none. -/
def pick (x : FVec Ideal ⟨2, ![2048, 1024]⟩ .bf16) (w : BitVec 32) (d : Fin 1024) : EReal :=
  ∑ k : Fin 2048, if BitVec.ofNat 32 k.val = w then (x (ix2 k d) : EReal) else 0

/-- A word that names row `b` picks it; -/
theorem pick_row (x : FVec Ideal ⟨2, ![2048, 1024]⟩ .bf16) (b : Fin 2048) (d : Fin 1024) : pick x (BitVec.ofNat 32 b.val) d = x (ix2 b d) := by
  unfold pick
  rw [Finset.sum_eq_single b]
  · exact if_pos rfl
  · intro k _ hk
    refine if_neg fun h => hk (Fin.ext ?_)
    have e := congrArg BitVec.toNat h
    rw [BitVec.toNat_ofNat, BitVec.toNat_ofNat] at e
    have := k.isLt; have := b.isLt
    omega
  · intro h; exact absurd (Finset.mem_univ _) h
/-- a word past the last row picks nothing. -/
theorem pick_none (x : FVec Ideal ⟨2, ![2048, 1024]⟩ .bf16) (w : BitVec 32) (hw : 2048 ≤ w.toNat) (d : Fin 1024) : pick x w d = 0 := by
  unfold pick
  refine Finset.sum_eq_zero fun k _ => if_neg fun h => ?_
  have e := congrArg BitVec.toNat h
  rw [BitVec.toNat_ofNat] at e
  have := k.isLt
  omega

/-- The hidden value of the row `r` at the column `a` of the first matrix. -/
def hid (r a : Fin 1024 → EReal) : EReal := max (∑ q : Fin 1024, r q * a q) 0

/-- What hidden column `g` adds to the product of slot `s` of expert `e` at column `d`. -/
def part (X : FVec Ideal ⟨2, ![2048, 1024]⟩ .bf16) (K : IVec ⟨3, ![8, 1, 320]⟩ 32) (A : FVec Ideal ⟨3, ![8, 1024, 4096]⟩ .f32) (B : FVec Ideal ⟨3, ![8, 4096, 1024]⟩ .f32)
    (e : Fin 8) (s : Fin 320) (d : Fin 1024) (g : Fin 4096) : EReal :=
  hid (fun q => pick X (K (ix3 e 0 s)) q) (fun q => (A (ix3 e q g) : EReal)) * (B (ix3 e g d) : EReal)

/-- Column `f` of tile `k` among all the hidden columns. -/
def col (k : Fin 4) (f : Fin 1024) : Fin 4096 := ⟨k.val * 1024 + f.val, by have := k.isLt; have := f.isLt; omega⟩

/-- A sum over the hidden columns is the four tiles' sums. -/
theorem sum_tiles (h : Fin 4096 → EReal) :
    ∑ g : Fin 4096, h g = ∑ k : Fin 4, ∑ f : Fin 1024, h (col k f) := by
  rw [← Equiv.sum_comp (finProdFinEquiv (m := 4) (n := 1024)) h, Fintype.sum_prod_type]
  refine Finset.sum_congr rfl fun k _ => Finset.sum_congr rfl fun f _ => congrArg h (Fin.ext ?_)
  show f.val + 1024 * k.val = k.val * 1024 + f.val
  omega

/-- With a gate that is neither negative nor infinite, the tiles' gated sums add to the gated sum of all. -/
theorem gated (h : Fin 4096 → EReal) (w : EReal) (h0 : 0 ≤ w) (h1 : w ≠ ⊤) :
    (((∑ f, h (col 0 f)) * w + (∑ f, h (col 1 f)) * w) + (∑ f, h (col 2 f)) * w) + (∑ f, h (col 3 f)) * w = (∑ g, h g) * w := by
  rw [sum_tiles, Fin.sum_univ_four, EReal.right_distrib_of_nonneg_of_ne_top h0 h1, EReal.right_distrib_of_nonneg_of_ne_top h0 h1,
    EReal.right_distrib_of_nonneg_of_ne_top h0 h1]

end Cert.FfnTerm

end
-- ==== Proof.FfnIdealValue.lean ====
/-
  What the experts' products call leaves in its result, over the extended reals: at each slot the four tiles' gated sums, added
  in the tiles' order.
-/
module

public import proofs.«01_k».proof.Proof.FfnIdealPoint
public import proofs.«01_k».proof.Proof.FfnTerm

@[expose] public section

noncomputable section

namespace Cert.FfnIdealValue

open Cert.FfnIdeal Cert.FfnIdeal.Gen Cert.FfnIdeal.Value Cert.FfnIdealPoint Cert.FfnTerm
open Idealize.ShloMosaic Idealize.ShloMosaic.TcCoe Idealize.ShloMosaic.ValueIdx
open Idealize.SL Idealize.SL.Sem
open scoped BigOperators

/-- Zero's bits stand for zero. -/
theorem zero_bits : Ideal.ofBits .f32 0x00000000#32 = (0 : EReal) := by simp [Ideal.ofBits, Ideal.ieee]

/-- A row of 320 words, stood up as a column and spread over `n` columns. -/
theorem column_apply {α : Type} {n : ℕ} (v : (⟨3, ![1, 1, 320]⟩ : Shape).Idx → α) (h₁ : (⟨3, ![1, 1, 320]⟩ : Shape).ShapeCasts ⟨1, ![320]⟩)
    (h₂ : (⟨1, ![320]⟩ : Shape).ShapeCasts ⟨2, ![320, 1]⟩) (h₃ : (⟨2, ![320, 1]⟩ : Shape).Broadcasts ⟨2, ![320, n]⟩) (s : Fin 320) (k : Fin n) :
    broadcastTo ⟨2, ![320, n]⟩ (shapeCast ⟨2, ![320, 1]⟩ (shapeCast ⟨1, ![320]⟩ v h₁) h₂) h₃ (ix2 s k) = v (ix3 0 0 s) := by
  refine (broadcastTo_apply _ h₃ (ix2 s k) (ix2 s 0) fun a => ?_).trans ?_
  · match a with
    | ⟨0, _⟩ => rfl
    | ⟨1, _⟩ => rfl
  refine (shapeCast_apply _ h₂ (ix2 s 0) (ix1 s) ?_).trans (shapeCast_apply _ h₁ (ix1 s) (ix3 0 0 s) ?_)
  · rw [Shape.rowMajor_val_two, Shape.rowMajor_val_one]
    show s.val = s.val * 1 + 0
    omega
  · rw [Shape.rowMajor_val_three, Shape.rowMajor_val_one]
    show (0 * 1 + 0) * 320 + s.val = s.val
    omega

/-- A unit axis dropped in front. -/
theorem drop_apply {α : Type} {M N : ℕ} (v : (⟨3, ![1, M, N]⟩ : Shape).Idx → α) (h : (⟨3, ![1, M, N]⟩ : Shape).ShapeCasts ⟨2, ![M, N]⟩) (a : Fin M) (b : Fin N) :
    shapeCast ⟨2, ![M, N]⟩ v h (ix2 a b) = v (ix3 0 a b) := by
  refine (shapeCast_dropUnit_apply ![M, N] v h (ix2 a b)).trans (congrArg v ?_)
  funext x
  match x with
  | ⟨0, _⟩ => rfl
  | ⟨1, _⟩ => rfl
  | ⟨2, _⟩ => rfl

/-- A unit axis put in front. -/
theorem front_apply {α : Type} {M N : ℕ} (v : (⟨2, ![M, N]⟩ : Shape).Idx → α) (h : (⟨2, ![M, N]⟩ : Shape).ShapeCasts ⟨3, ![1, M, N]⟩) (a : Fin M) (b : Fin N) :
    shapeCast ⟨3, ![1, M, N]⟩ v h (ix3 0 a b) = v (ix2 a b) := by
  refine shapeCast_apply v h (ix3 0 a b) (ix2 a b) ?_
  rw [Shape.rowMajor_val_two, Shape.rowMajor_val_three]
  show a.val * N + b.val = (0 * M + a.val) * N + b.val
  rw [Nat.zero_mul, Nat.zero_add]

/-- The rows the one-hot product gathers. -/
theorem rows_apply (K : Vec Ideal S1x1x320 .i32) (x : Vec Ideal S2048x1024 .bf16) (s : Fin 320) (d : Fin 1024) :
    k0_pay1 (F := Ideal) K x (ix2 s d) = pick x (K (ix3 0 0 s)) d := by
  unfold k0_pay1
  dsimp only
  rw [shapeCast_self]
  refine (Ideal.matmul_plain_apply (M := 320) (K := 2048) (N := 1024) none _ _ _ s d).trans ?_
  have h0 : (constant (F := Ideal) S320x1024 .f32 0x00000000#32) (ix2 s d) = (0 : EReal) := zero_bits
  rw [h0]
  unfold pick
  refine (zero_add _).trans (Finset.sum_congr rfl fun k _ => ?_)
  show ((((IntOp.cmpi .eq (iota .tc S320x2048 32 [1] iota_S320x2048_d1_w32 (ix2 s k))
    (broadcastTo S320x2048 (shapeCast S320x1 (shapeCast S320 K shapeCasts_S1x1x320_S320) shapeCasts_S320_S320x1) broadcasts_S320x1_S320x2048 (ix2 s k))).setWidth 32).toInt : ℝ) : EReal)
      * (x (ix2 k d) : EReal) = _
  rw [show broadcastTo S320x2048 (shapeCast S320x1 (shapeCast S320 K shapeCasts_S1x1x320_S320) shapeCasts_S320_S320x1) broadcasts_S320x1_S320x2048 (ix2 s k) = K (ix3 0 0 s)
    from column_apply K _ _ _ s k, iota_single_apply]
  show ((((BitVec.ofBool (BitVec.ofNat 32 k.val == K (ix3 0 0 s))).setWidth 32).toInt : ℝ) : EReal) * _ = _
  by_cases h : BitVec.ofNat 32 k.val = K (ix3 0 0 s)
  · rw [if_pos h, beq_iff_eq.2 h]
    have : ((BitVec.ofBool true).setWidth 32).toInt = 1 := by decide
    rw [this]; simp
  · rw [if_neg h, beq_eq_false_iff_ne.2 h]
    have : ((BitVec.ofBool false).setWidth 32).toInt = 0 := by decide
    rw [this]; simp

/-- A tile's gated sum. -/
theorem tile_apply (v : Vec Ideal S320x1024 .f32) (A B : Vec Ideal S1x1024x1024 .f32) (w : Vec Ideal S1x1x320 .f32) (s : Fin 320) (d : Fin 1024) :
    k0_pay2 (F := Ideal) v A B w (ix2 s d)
      = (∑ f : Fin 1024, hid (fun q => (v (ix2 s q) : EReal)) (fun q => (A (ix3 0 q f) : EReal)) * (B (ix3 0 f d) : EReal)) * (w (ix3 0 0 s) : EReal) := by
  unfold k0_pay2
  refine congrArg₂ (· * ·) ?_ (column_apply w _ _ _ s d)
  refine (Ideal.matmul_plain_apply (M := 320) (K := 1024) (N := 1024) none _ _ _ s d).trans ?_
  have h0 : (constant (F := Ideal) S320x1024 .f32 0x00000000#32) (ix2 s d) = (0 : EReal) := zero_bits
  rw [h0]
  refine (zero_add _).trans (Finset.sum_congr rfl fun f _ => congrArg₂ (· * ·) ?_ (drop_apply B _ f d))
  unfold hid
  refine congrArg₂ max ?_ zero_bits
  refine (Ideal.matmul_plain_apply (M := 320) (K := 1024) (N := 1024) none _ _ _ s f).trans ?_
  have h0 : (constant (F := Ideal) S320x1024 .f32 0x00000000#32) (ix2 s f) = (0 : EReal) := zero_bits
  rw [h0]
  exact (zero_add _).trans (Finset.sum_congr rfl fun q _ => congrArg₂ (· * ·) rfl (drop_apply A _ q f))

variable (m : (ℓ : Loc nD τ sig) → Buf (Elt Ideal) ℓ) (c : Dev nD)

/-- Tile `k`'s gated sum for slot `s` of expert `e`, of the arrays. -/
def tile (e : Fin 8) (k : Fin 4) (s : Fin 320) (d : Fin 1024) : EReal :=
  (∑ f : Fin 1024, part (m ((c : Thread nD τ).loc main_arg0)) (m ((c : Thread nD τ).loc main_arg1)) (m ((c : Thread nD τ).loc main_arg2)) (m ((c : Thread nD τ).loc main_arg3)) e s d (col k f))
    * (m ((c : Thread nD τ).loc main_arg4) (ix3 e 0 s) : EReal)

/-- A point's tile, of rows that are the expert's. -/
theorem point_tile (t : Fin cfg0.N) (e : Fin 8) (k : Fin 4) (he : t.val / 4 = e.val) (hk : t.val % 4 = k.val) (v : Vec Ideal S320x1024 .f32) (s : Fin 320)
    (hv : ∀ q : Fin 1024, v (ix2 s q) = pick (m ((c : Thread nD τ).loc main_arg0)) (m ((c : Thread nD τ).loc main_arg1) (ix3 e 0 s)) q) (d : Fin 1024) :
    k0_pay2 (F := Ideal) v (iblk m c 2 t) (iblk m c 3 t) (iblk m c 4 t) (ix2 s d) = tile m c e k s d := by
  refine (tile_apply v (iblk m c 2 t) (iblk m c 3 t) (iblk m c 4 t) s d).trans ?_
  unfold tile
  refine congrArg₂ (· * ·) (Finset.sum_congr rfl fun f _ => ?_) (block4 m c t e he s)
  unfold part
  refine congrArg₂ (· * ·) (congrArg₂ hid (funext fun q => hv q) (funext fun q => ?_)) ?_
  · exact block2 m c t e k he hk q f (col k f) rfl
  · exact block3 m c t e k he hk f d (col k f) rfl

/-- After an expert's first point: the expert's rows, and the first tile. -/
theorem first (t : Fin cfg0.N) (e : Fin 8) (he : t.val / 4 = e.val) (hk : t.val % 4 = 0) (s : Fin 320) :
    (∀ q : Fin 1024, (outsAt0 m c t.val t.isLt).2 (ix2 s q) = pick (m ((c : Thread nD τ).loc main_arg0)) (m ((c : Thread nD τ).loc main_arg1) (ix3 e 0 s)) q)
      ∧ ∀ d : Fin 1024, (outsAt0 m c t.val t.isLt).1 (ix3 0 s d) = tile m c e 0 s d := by
  have hrow : ∀ q : Fin 1024, k0_pay1 (F := Ideal) (iblk m c 1 t) (iblk m c 0 t) (ix2 s q)
      = pick (m ((c : Thread nD τ).loc main_arg0)) (m ((c : Thread nD τ).loc main_arg1) (ix3 e 0 s)) q := fun q => by
    refine (rows_apply (iblk m c 1 t) (iblk m c 0 t) s q).trans ?_
    exact congrArg₂ (fun a b => pick a b q) (block0 m c t) (block1 m c t e he s)
  rw [outsAt0_A m c t hk hk (by omega)]
  dsimp only
  rw [rows_first, out_first]
  refine ⟨hrow, fun d => ?_⟩
  unfold k0_pay3
  refine (front_apply _ _ s d).trans ?_
  exact point_tile m c t e 0 he hk _ s hrow d

/-- After a later point: the same rows, and the tile added. -/
theorem next (t : Fin cfg0.N) (e : Fin 8) (k : Fin 4) (he : t.val / 4 = e.val) (hk : t.val % 4 = k.val) (hk0 : t.val % 4 ≠ 0) (s : Fin 320) (n : ℕ) (hn : n < cfg0.N) (hnt : n = t.val - 1)
    (acc : Fin 1024 → EReal)
    (h : (∀ q : Fin 1024, (outsAt0 m c n hn).2 (ix2 s q) = pick (m ((c : Thread nD τ).loc main_arg0)) (m ((c : Thread nD τ).loc main_arg1) (ix3 e 0 s)) q)
      ∧ ∀ d : Fin 1024, (outsAt0 m c n hn).1 (ix3 0 s d) = acc d) :
    (∀ q : Fin 1024, (outsAt0 m c t.val t.isLt).2 (ix2 s q) = pick (m ((c : Thread nD τ).loc main_arg0)) (m ((c : Thread nD τ).loc main_arg1) (ix3 e 0 s)) q)
      ∧ ∀ d : Fin 1024, (outsAt0 m c t.val t.isLt).1 (ix3 0 s d) = acc d + tile m c e k s d := by
  subst hnt
  rw [outsAt0_B m c t hk0 hk0 (by omega)]
  dsimp only
  rw [out_next]
  refine ⟨h.1, fun d => ?_⟩
  unfold k0_pay4
  refine (front_apply _ _ s d).trans ?_
  exact congrArg₂ (· + ·) ((drop_apply _ _ s d).trans (h.2 d)) (point_tile m c t e k he hk _ s h.1 d)

/-- After the expert's last point the block holds the four tiles, added in their order. -/
theorem last (e : Fin 8) (s : Fin 320) (d : Fin 1024) (h : 4 * e.val + 3 < cfg0.N) :
    (outsAt0 m c (4 * e.val + 3) h).1 (ix3 0 s d) = ((tile m c e 0 s d + tile m c e 1 s d) + tile m c e 2 s d) + tile m c e 3 s d := by
  have hN : cfg0.N = 32 := N_0
  have he := e.isLt
  have h0 := first m c ⟨4 * e.val, by omega⟩ e (by show 4 * e.val / 4 = e.val; omega) (by show 4 * e.val % 4 = 0; omega) s
  have h1 := next m c ⟨4 * e.val + 1, by omega⟩ e 1 (by show (4 * e.val + 1) / 4 = e.val; omega) (by show (4 * e.val + 1) % 4 = 1; omega)
    (by show (4 * e.val + 1) % 4 ≠ 0; omega) s (4 * e.val) (by omega) (by show _ = 4 * e.val + 1 - 1; omega) _ h0
  have h2 := next m c ⟨4 * e.val + 2, by omega⟩ e 2 (by show (4 * e.val + 2) / 4 = e.val; omega) (by show (4 * e.val + 2) % 4 = 2; omega)
    (by show (4 * e.val + 2) % 4 ≠ 0; omega) s (4 * e.val + 1) (by omega) (by show _ = 4 * e.val + 2 - 1; omega) _ h1
  have h3 := next m c ⟨4 * e.val + 3, h⟩ e 3 (by show (4 * e.val + 3) / 4 = e.val; omega) (by show (4 * e.val + 3) % 4 = 3; omega)
    (by show (4 * e.val + 3) % 4 ≠ 0; omega) s (4 * e.val + 2) (by omega) (by show _ = 4 * e.val + 3 - 1; omega) _ h2
  exact h3.2 d

/-- The call's result, at a slot. -/
theorem result_apply (e : Fin 8) (s : Fin 320) (d : Fin 1024) :
    G5 m c (ix3 e s d) = ((tile m c e 0 s d + tile m c e 1 s d) + tile m c e 2 s d) + tile m c e 3 s d := by
  have hN : cfg0.N = 32 := N_0
  have he := e.isLt
  have hs := s.isLt
  have hd := d.isLt
  have hp : pt5Of (ix3 e s d) = 4 * e.val + 3 := by
    show 4 * (1 * (e.val / 1 - 0) + 1 * (s.val / 320 - 0) + 1 * (d.val / 1024 - 0)) + 3 = 4 * e.val + 3
    omega
  have hl : loc5Of (ix3 e s d) = ix3 0 s d := by
    funext a
    apply Fin.ext
    match a with
    | ⟨0, _⟩ => show e.val % 1 = 0; omega
    | ⟨1, _⟩ => show s.val % 320 = s.val; omega
    | ⟨2, _⟩ => show d.val % 1024 = d.val; omega
  have hb : pt5Of (ix3 e s d) < cfg0.N := by rw [hp]; omega
  unfold G5
  rw [dif_pos hb, ← outsAt0_sweep m c _ hb, hl]
  have hgen : ∀ (n : ℕ) (hn : n < cfg0.N), n = 4 * e.val + 3 →
      (outsAt0 m c n hn).1 (ix3 0 s d) = ((tile m c e 0 s d + tile m c e 1 s d) + tile m c e 2 s d) + tile m c e 3 s d := by
    intro n hn h
    subst h
    exact last m c e s d hn
  exact hgen _ hb hp

end Cert.FfnIdealValue

end
-- ==== Proof.FfnRefValue.lean ====
/-
  What the reference of the experts' products leaves in its result, over the extended reals: at each slot the gated sum over all
  the hidden columns.
-/
module

public import proofs.«01_k».proof.Proof.Gen.FfnRefIdeal.Run
public import proofs.«01_k».proof.Proof.FfnTerm
public import Idealize.ShloMosaic.Lib.StackMember
public import Idealize.ShloMosaic.Lib.StableHlo.Predicate

@[expose] public section

noncomputable section

namespace Cert.FfnRefValue

open Cert.FfnRefIdeal Cert.FfnRefIdeal.Gen Cert.FfnTerm
open Idealize.ShloMosaic Idealize.ShloMosaic.TcCoe Idealize.ShloMosaic.ValueIdx
open Idealize.SL Idealize.SL.Sem
open scoped BigOperators

/-- The gather of rows of a table by a stack of index columns, at an index word that names row `b`: that row. -/
theorem gather_apply {α : Type} (x : S2048x1024.Idx → α) (idx : IVec S8x320x1 32) (e : Fin 8) (s : Fin 320) (d : Fin 1024) (b : Fin 2048)
    (hb : idx (ix3 e s 0) = BitVec.ofNat 32 b.val) :
    Host.gather gather_S2048x1024_S8x320x1_S8x320x1024_2_0_n_n_0_2_11024 x idx (ix3 e s d) = x (ix2 b d) := by
  have hbl := b.isLt
  have hsi : gather_S2048x1024_S8x320x1_S8x320x1024_2_0_n_n_0_2_11024.siIdx (ix3 e s d) ⟨0, by decide⟩ = ix3 e s 0 := by
    funext a
    apply Fin.ext
    match a with
    | ⟨0, _⟩ => rfl
    | ⟨1, _⟩ => rfl
    | ⟨2, _⟩ => rfl
  have hs0 : gather_S2048x1024_S8x320x1_S8x320x1024_2_0_n_n_0_2_11024.start (ix3 e s d) idx 0 = b.val := by
    unfold GatherDims.start
    refine (dif_pos (show (0 : Fin 2) ∈ [(0 : Fin 2)] by decide)).trans ?_
    show min (idx (gather_S2048x1024_S8x320x1_S8x320x1024_2_0_n_n_0_2_11024.siIdx (ix3 e s d) ⟨0, by decide⟩)).toInt.toNat (2048 - 1) = b.val
    rw [hsi, hb, StableHlo.Predicate.toInt_ofNat_small _ (by omega)]
    show min ((b.val : Int)).toNat (2048 - 1) = b.val
    omega
  have hs1 : gather_S2048x1024_S8x320x1_S8x320x1024_2_0_n_n_0_2_11024.start (ix3 e s d) idx 1 = 0 := by
    unfold GatherDims.start
    exact dif_neg (show ¬(1 : Fin 2) ∈ [(0 : Fin 2)] by decide)
  unfold Host.gather
  refine congrArg x (funext fun a => Fin.ext ?_)
  match a with
  | ⟨0, _⟩ =>
    show gather_S2048x1024_S8x320x1_S8x320x1024_2_0_n_n_0_2_11024.start (ix3 e s d) idx 0
      + gather_S2048x1024_S8x320x1_S8x320x1024_2_0_n_n_0_2_11024.batchCoord (ix3 e s d) 0
      + gather_S2048x1024_S8x320x1_S8x320x1024_2_0_n_n_0_2_11024.offCoord (ix3 e s d) 0 = b.val
    rw [hs0]
    rfl
  | ⟨1, _⟩ =>
    show gather_S2048x1024_S8x320x1_S8x320x1024_2_0_n_n_0_2_11024.start (ix3 e s d) idx 1
      + gather_S2048x1024_S8x320x1_S8x320x1024_2_0_n_n_0_2_11024.batchCoord (ix3 e s d) 1
      + gather_S2048x1024_S8x320x1_S8x320x1024_2_0_n_n_0_2_11024.offCoord (ix3 e s d) 1 = d.val
    rw [hs1]
    show 0 + 0 + d.val = d.val
    omega

/-- The token table without its unit axis; -/
theorem table_apply {α : Type} (K : S8x1x320.Idx → α) (h : S8x1x320.ShapeCasts S8x320) (e : Fin 8) (s : Fin 320) :
    shapeCast S8x320 K h (ix2 e s) = K (ix3 e 0 s) := by
  refine shapeCast_apply K h (ix2 e s) (ix3 e 0 s) ?_
  rw [Shape.rowMajor_val_two, Shape.rowMajor_val_three]
  show (e.val * 1 + 0) * 320 + s.val = e.val * 320 + s.val
  omega
/-- a table with a unit axis behind; -/
theorem behind_apply {α : Type} (v : S8x320.Idx → α) (h : S8x320.BroadcastsInDim S8x320x1 ![0, 1]) (e : Fin 8) (s : Fin 320) (z : Fin 1) :
    broadcastInDim S8x320x1 ![0, 1] h v (ix3 e s z) = v (ix2 e s) := by
  refine broadcastInDim_apply _ h v (ix3 e s z) (ix2 e s) fun a => ?_
  match a with
  | ⟨0, _⟩ => rfl
  | ⟨1, _⟩ => rfl
/-- and spread along it. -/
theorem spread_apply {α : Type} (v : S8x320x1.Idx → α) (h : S8x320x1.BroadcastsInDim S8x320x1024 ![0, 1, 2]) (e : Fin 8) (s : Fin 320) (d : Fin 1024) :
    broadcastInDim S8x320x1024 ![0, 1, 2] h v (ix3 e s d) = v (ix3 e s 0) := by
  refine broadcastInDim_apply _ h v (ix3 e s d) (ix3 e s 0) fun a => ?_
  match a with
  | ⟨0, _⟩ => rfl
  | ⟨1, _⟩ => rfl
  | ⟨2, _⟩ => rfl

/-- Zero's bits stand for zero. -/
theorem zero_bits : Ideal.ofBits .f32 0x00000000#32 = (0 : EReal) := by simp [Ideal.ofBits, Ideal.ieee]

/-- A word within the table's rows, by its two signed tests; -/
theorem within_iff (w : BitVec 32) : IntOp.andi (IntOp.cmpi .sge w 0#32) (IntOp.cmpi .slt w 2048#32) = 1#1 ↔ w.toNat < 2048 := by
  show (BitVec.ofBool ((0#32).sle w) &&& BitVec.ofBool (w.slt 2048#32)) = 1#1 ↔ _
  have h : ∀ a b : Bool, (BitVec.ofBool a &&& BitVec.ofBool b) = 1#1 ↔ a = true ∧ b = true := by decide
  rw [h]
  have e0 : (0#32).toInt = 0 := by decide
  have e1 : (2048#32).toInt = 2048 := by decide
  simp only [BitVec.sle, BitVec.slt, decide_eq_true_eq, e0, e1]
  rw [BitVec.toInt_eq_toNat_cond]
  have := w.isLt
  split <;> omega

/-- The rows the reference reads: the row a slot's word names, and zero when it names none. -/
abbrev rows (X : FVec Ideal S2048x1024 .bf16) (K : IVec S8x1x320 32) : FVec Ideal S8x320x1024 .f32 :=
  select (broadcastInDim S8x320x1024 ![0, 1, 2] bcast_S8x320x1_S8x320x1024_0_1_2 (broadcastInDim S8x320x1 ![0, 1] bcast_S8x320_S8x320x1_0_1 (andi (cmpi .sge (shapeCast _ K shapeCasts_S8x1x320_S8x320) (broadcastInDim S8x320 ![] bcast_S_S8x320 (constantI S_ 32 0#32))) (cmpi .slt (shapeCast _ K shapeCasts_S8x1x320_S8x320) (broadcastInDim S8x320 ![] bcast_S_S8x320 (constantI S_ 32 2048#32))))))
    (Host.gather gather_S2048x1024_S8x320x1_S8x320x1024_2_0_n_n_0_2_11024 (extf .f32 X bitsLt_bf16_f32) (broadcastInDim S8x320x1 ![0, 1] bcast_S8x320_S8x320x1_0_1 (select (cmpi .slt (shapeCast _ K shapeCasts_S8x1x320_S8x320) (broadcastInDim S8x320 ![] bcast_S_S8x320 (constantI S_ 32 0#32))) (addi (shapeCast _ K shapeCasts_S8x1x320_S8x320) (broadcastInDim S8x320 ![] bcast_S_S8x320 (constantI S_ 32 2048#32))) (shapeCast _ K shapeCasts_S8x1x320_S8x320))))
    (broadcastInDim S8x320x1024 ![] bcast_S_S8x320x1024 (id (constant S_ .f32 0x00000000#32)))

/-- A choice by a bit that is one; -/
theorem select_one {α : Type} {b : BitVec 1} (h : b = 1#1) (x y : α) : Scalar.select b x y = x := by subst h; rfl
/-- by a bit that is not. -/
theorem select_other {α : Type} {b : BitVec 1} (h : ¬b = 1#1) (x y : α) : Scalar.select b x y = y := by unfold Scalar.select; exact if_neg h

/-- Those rows are the sums that pick them. -/
theorem rows_apply (X : FVec Ideal S2048x1024 .bf16) (K : IVec S8x1x320 32) (e : Fin 8) (s : Fin 320) (d : Fin 1024) :
    rows X K (ix3 e s d) = pick X (K (ix3 e 0 s)) d := by
  have hc : (broadcastInDim S8x320x1024 ![0, 1, 2] bcast_S8x320x1_S8x320x1024_0_1_2 (broadcastInDim S8x320x1 ![0, 1] bcast_S8x320_S8x320x1_0_1 (andi (cmpi .sge (shapeCast _ K shapeCasts_S8x1x320_S8x320) (broadcastInDim S8x320 ![] bcast_S_S8x320 (constantI S_ 32 0#32))) (cmpi .slt (shapeCast _ K shapeCasts_S8x1x320_S8x320) (broadcastInDim S8x320 ![] bcast_S_S8x320 (constantI S_ 32 2048#32)))))) (ix3 e s d)
      = IntOp.andi (IntOp.cmpi .sge (K (ix3 e 0 s)) 0#32) (IntOp.cmpi .slt (K (ix3 e 0 s)) 2048#32) := by
    rw [spread_apply, behind_apply]
    show IntOp.andi (IntOp.cmpi .sge (shapeCast S8x320 K shapeCasts_S8x1x320_S8x320 (ix2 e s)) 0#32) (IntOp.cmpi .slt (shapeCast S8x320 K shapeCasts_S8x1x320_S8x320 (ix2 e s)) 2048#32) = _
    rw [table_apply]
  unfold rows
  show Scalar.select _ _ _ = _
  rw [hc]
  by_cases hw : (K (ix3 e 0 s)).toNat < 2048
  · rw [select_one ((within_iff _).2 hw)]
    have hb : K (ix3 e 0 s) = BitVec.ofNat 32 (⟨(K (ix3 e 0 s)).toNat, hw⟩ : Fin 2048).val := by
      apply BitVec.eq_of_toNat_eq
      rw [BitVec.toNat_ofNat]
      have := (K (ix3 e 0 s)).isLt
      show _ = (K (ix3 e 0 s)).toNat % 2 ^ 32
      omega
    refine (gather_apply _ _ e s d ⟨(K (ix3 e 0 s)).toNat, hw⟩ ?_).trans ?_
    · rw [behind_apply]
      show Scalar.select (IntOp.cmpi .slt (shapeCast S8x320 K shapeCasts_S8x1x320_S8x320 (ix2 e s)) 0#32) (IntOp.addi (shapeCast S8x320 K shapeCasts_S8x1x320_S8x320 (ix2 e s)) 2048#32) (shapeCast S8x320 K shapeCasts_S8x1x320_S8x320 (ix2 e s)) = _
      rw [table_apply, select_other]
      · exact hb
      · show ¬BitVec.ofBool ((K (ix3 e 0 s)).slt 0#32) = 1#1
        have h : ∀ a : Bool, BitVec.ofBool a = 1#1 ↔ a = true := by decide
        rw [h]
        have e0 : (0#32).toInt = 0 := by decide
        simp only [BitVec.slt, decide_eq_true_eq, e0]
        rw [BitVec.toInt_eq_toNat_cond, if_pos (by omega)]
        omega
    · show (X (ix2 ⟨(K (ix3 e 0 s)).toNat, hw⟩ d) : EReal) = _
      conv_rhs => rw [hb]
      exact (pick_row X ⟨(K (ix3 e 0 s)).toNat, hw⟩ d).symm
  · rw [select_other fun h => hw ((within_iff _).1 h), pick_none X _ (by omega) d]
    exact zero_bits

/-- The reference's result, of its arguments. -/
abbrev refTerm (X : FVec Ideal S2048x1024 .bf16) (K : IVec S8x1x320 32) (A : FVec Ideal S8x1024x4096 .f32) (B : FVec Ideal S8x4096x1024 .f32) (w : FVec Ideal S8x1x320 .f32) :
    FVec Ideal S8x320x1024 .f32 :=
  mulf (Host.dotGeneral dot_S8x320x4096_S8x4096x1024_S8x320x1024_2_1_1_2_0_0 none
      (maximumf (Host.dotGeneral dot_S8x320x1024_S8x1024x4096_S8x320x4096_2_1_1_2_0_0 none (rows X K) A) (broadcastInDim S8x320x4096 ![] bcast_S_S8x320x4096 (constant S_ .f32 0x00000000#32))) B)
    (broadcastInDim S8x320x1024 ![0, 1, 2] bcast_S8x320x1_S8x320x1024_0_1_2 (broadcastInDim S8x320x1 ![0, 1] bcast_S8x320_S8x320x1_0_1 (shapeCast _ w shapeCasts_S8x1x320_S8x320)))

/-- It is, at a slot, the gated sum over all the hidden columns. -/
theorem refTerm_apply (X : FVec Ideal S2048x1024 .bf16) (K : IVec S8x1x320 32) (A : FVec Ideal S8x1024x4096 .f32) (B : FVec Ideal S8x4096x1024 .f32) (w : FVec Ideal S8x1x320 .f32)
    (e : Fin 8) (s : Fin 320) (d : Fin 1024) :
    refTerm X K A B w (ix3 e s d) = (∑ g : Fin 4096, part X K A B e s d g) * (w (ix3 e 0 s) : EReal) := by
  unfold refTerm
  refine congrArg₂ (· * ·) ?_ ((spread_apply _ _ e s d).trans ((behind_apply _ _ e s 0).trans (table_apply w _ e s)))
  refine (Idealize.ShloMosaic.StackMember.dotGeneral_stack_apply _ none _ B e s d).trans (Finset.sum_congr rfl fun g _ => ?_)
  unfold part
  refine congrArg₂ (· * ·) ?_ rfl
  unfold hid
  refine congrArg₂ max ?_ zero_bits
  refine (Idealize.ShloMosaic.StackMember.dotGeneral_stack_apply _ none _ A e s g).trans (Finset.sum_congr rfl fun q _ => congrArg₂ (· * ·) (rows_apply X K e s q) rfl)

end Cert.FfnRefValue

end
-- ==== Proof.FfnClaims.lean ====
/-
  The claims of the experts' products call: it runs and leaves its arguments alone, and from gates that are neither negative nor
  infinite its result is the reference's.
-/
module

public import proofs.«01_k».proof.Defs
public import proofs.«01_k».proof.Proof.Gen.Ffn.Frame
public import proofs.«01_k».proof.Proof.Gen.Pre_gates
public import proofs.«01_k».proof.Proof.FfnIdealValue
public import proofs.«01_k».proof.Proof.FfnRefValue
public import Idealize.ShloMosaic.Lib.ReduceAll

@[expose] public section

noncomputable section

namespace Cert.FfnClaims

open Idealize.ShloMosaic Idealize.ShloMosaic.TcCoe Idealize.ShloMosaic.ValueIdx Idealize.SL.Sem
open Cert.FfnTerm
open scoped BigOperators

/-! ## The gates -/

theorem top_bits : Ideal.ofBits .f32 0x7F800000#32 = ⊤ := by simp [Ideal.ofBits, Ideal.ieee]

/-- Two bits whose conjunction is one are both one. -/
theorem both : ∀ {a b : BitVec 1}, IntOp.andi a b = 1#1 → a = 1#1 ∧ b = 1#1 := by decide

/-- The precondition says that no gate is negative or infinite. -/
theorem gates_args (x : FVec Ideal ⟨2, ![2048, 1024]⟩ .bf16) (k : IVec ⟨3, ![8, 1, 320]⟩ 32) (A : FVec Ideal ⟨3, ![8, 1024, 4096]⟩ .f32)
    (B : FVec Ideal ⟨3, ![8, 4096, 1024]⟩ .f32) (w : FVec Ideal ⟨3, ![8, 1, 320]⟩ .f32)
    (h : Cert.Pre_gates.fn (F := Ideal) x k A B w = fun _ => 1#1) (i : (⟨3, ![8, 1, 320]⟩ : Shape).Idx) : (0 : EReal) ≤ w i ∧ (w i : EReal) ≠ ⊤ := by
  have hs : Subsingleton (Cert.Pre_gates.S_).Idx := ⟨fun a b => funext fun d => Fin.elim0 d⟩
  have h0 := congrFun h ix0
  unfold Cert.Pre_gates.fn at h0
  have hi := both (Host.reduce_andi_all _ _ _ _ _ h0 i)
  have e0 : BitVec.ofBool (decide (Ideal.ofBits .f32 0x00000000#32 ≤ (w i : EReal))) = 1#1 := hi.1
  have e1 : BitVec.ofBool (decide ((w i : EReal) < Ideal.ofBits .f32 0x7F800000#32)) = 1#1 := hi.2
  rw [Cert.FfnIdealValue.zero_bits] at e0
  rw [top_bits] at e1
  constructor
  · by_cases hh : (0 : EReal) ≤ w i
    · exact hh
    · rw [decide_eq_false hh] at e0; exact absurd e0 (by decide)
  · by_cases hh : (w i : EReal) < ⊤
    · exact hh.ne
    · rw [decide_eq_false hh] at e1; exact absurd e1 (by decide)

/-! ## The claims -/

/-- The printed kernel runs, keeps its arguments and leaves every counter at zero. -/
theorem frame_ffn : Cert.quiescent_Ffn := fun m g _ => Cert.Ffn.Gen.frame (F := Bits) m g

/-- So does the kernel over the extended reals, -/
theorem frame_ffnIdeal : Cert.quiescent_FfnIdeal := fun m g _ => Cert.FfnIdeal.Gen.frame (F := Ideal) m g

/-- with such gates too. -/
theorem frame_ffnIdeal_gates : Cert.quiescent_FfnIdeal_pre_gates := fun m g _ => frame_ffnIdeal m g trivial

/-- The reference runs and keeps its arguments; it declares no semaphore. -/
theorem frame_ffnRefIdeal : Cert.quiescent_FfnRefIdeal := fun m g _ =>
  (θ_run Cert.FfnRefIdeal.defs _ _).mono (fun r h => ⟨fun c => (h c).2, Idealize.ShloMosaic.sem_eq_zero_of_no_sems (by decide) r.2⟩)
    (Cert.FfnRefIdeal.Value.run (F := Ideal) m g)

/-- With such gates too. -/
theorem frame_ffnRefIdeal_gates : Cert.quiescent_FfnRefIdeal_pre_gates := fun m g _ => frame_ffnRefIdeal m g trivial

/-- The kernel's result is the reference's term of the kernel's arguments. -/
theorem result_eq (m : (ℓ : Loc Cert.FfnIdeal.nD Cert.FfnIdeal.τ Cert.FfnIdeal.sig) → Buf (Elt Ideal) ℓ) (c : Dev Cert.FfnIdeal.nD) (hp : Cert.Pre_FfnIdeal_gates m) :
    Cert.FfnIdeal.Value.G5 m c
      = Cert.FfnRefValue.refTerm (m ((c.tc : Thread Cert.FfnIdeal.nD Cert.FfnIdeal.τ).loc Cert.FfnIdeal.main_arg0)) (m ((c.tc : Thread Cert.FfnIdeal.nD Cert.FfnIdeal.τ).loc Cert.FfnIdeal.main_arg1))
        (m ((c.tc : Thread Cert.FfnIdeal.nD Cert.FfnIdeal.τ).loc Cert.FfnIdeal.main_arg2)) (m ((c.tc : Thread Cert.FfnIdeal.nD Cert.FfnIdeal.τ).loc Cert.FfnIdeal.main_arg3))
        (m ((c.tc : Thread Cert.FfnIdeal.nD Cert.FfnIdeal.τ).loc Cert.FfnIdeal.main_arg4)) := by
  have key : ∀ (e : Fin 8) (s : Fin 320) (d : Fin 1024), Cert.FfnIdeal.Value.G5 m c (ix3 e s d)
      = Cert.FfnRefValue.refTerm (m ((c.tc : Thread Cert.FfnIdeal.nD Cert.FfnIdeal.τ).loc Cert.FfnIdeal.main_arg0)) (m ((c.tc : Thread Cert.FfnIdeal.nD Cert.FfnIdeal.τ).loc Cert.FfnIdeal.main_arg1))
        (m ((c.tc : Thread Cert.FfnIdeal.nD Cert.FfnIdeal.τ).loc Cert.FfnIdeal.main_arg2)) (m ((c.tc : Thread Cert.FfnIdeal.nD Cert.FfnIdeal.τ).loc Cert.FfnIdeal.main_arg3))
        (m ((c.tc : Thread Cert.FfnIdeal.nD Cert.FfnIdeal.τ).loc Cert.FfnIdeal.main_arg4)) (ix3 e s d) := fun e s d => by
    have hw := gates_args _ _ _ _ _ (hp c) (ix3 e 0 s)
    refine (Cert.FfnIdealValue.result_apply m c e s d).trans (Eq.trans ?_ (Cert.FfnRefValue.refTerm_apply _ _ _ _ _ e s d).symm)
    unfold Cert.FfnIdealValue.tile
    exact gated _ _ hw.1 hw.2
  funext i
  have hi : i = ix3 (i 0) (i 1) (i 2) := by
    funext a
    match a with
    | ⟨0, _⟩ => rfl
    | ⟨1, _⟩ => rfl
    | ⟨2, _⟩ => rfl
  rw [hi]
  exact key (i 0) (i 1) (i 2)

/-- From gates that are neither negative nor infinite the result is all of the reference's. -/
theorem algebraic_ffn : Cert.algebraic_FfnIdeal_FfnRefIdeal_pre_gates := fun m g m' g' hp hag => by
  refine ⟨fun c => Cert.FfnIdeal.Value.G5 m c, Cert.FfnIdeal.Value.run (F := Ideal) m g,
    (θ_run Cert.FfnRefIdeal.defs _ _).mono (fun _ h c => ⟨(h c).1.trans ?_, (h c).2⟩) (Cert.FfnRefIdeal.Value.run (F := Ideal) m' g')⟩
  obtain ⟨e0, e1, e2, e3, e4⟩ := hag c
  rw [e0, e1, e2, e3, e4]
  exact (result_eq m c hp).symm

end Cert.FfnClaims

end
-- ==== Proof.lean ====
/-
  The proof of `Cert.Claim`: the combine's frames, its idealization and its agreement with the segment sum
  (Proof/CombineClaims.lean); the exchange's frames, its idealization and its agreement with the gathered tokens and their
  routing (Proof/ExchangeClaims.lean); the frames of the experts' products and their agreement with the gated products of all the
  hidden columns (Proof/FfnClaims.lean).
-/
module

public import proofs.«01_k».proof.Defs
public import proofs.«01_k».proof.Proof.Gen.Combine
public import proofs.«01_k».proof.Proof.Gen.Combine.Skeleton
public import proofs.«01_k».proof.Proof.Gen.Combine.Launch
public import proofs.«01_k».proof.Proof.Gen.Combine.Points
public import proofs.«01_k».proof.Proof.Gen.Combine.Frame
public import proofs.«01_k».proof.Proof.Gen.CombineIdeal
public import proofs.«01_k».proof.Proof.Gen.CombineIdeal.Skeleton
public import proofs.«01_k».proof.Proof.Gen.CombineIdeal.Launch
public import proofs.«01_k».proof.Proof.Gen.CombineIdeal.Points
public import proofs.«01_k».proof.Proof.Gen.CombineIdeal.Frame
public import proofs.«01_k».proof.Proof.Gen.CombineRefIdeal
public import proofs.«01_k».proof.Proof.Gen.CombineRefIdeal.Run
public import proofs.«01_k».proof.Proof.Gen.Exchange
public import proofs.«01_k».proof.Proof.Gen.Exchange.Skeleton
public import proofs.«01_k».proof.Proof.Gen.Exchange.Launch
public import proofs.«01_k».proof.Proof.Gen.Exchange.Points
public import proofs.«01_k».proof.Proof.Gen.Exchange.Frame
public import proofs.«01_k».proof.Proof.Gen.ExchangeIdeal
public import proofs.«01_k».proof.Proof.Gen.ExchangeIdeal.Skeleton
public import proofs.«01_k».proof.Proof.Gen.ExchangeIdeal.Launch
public import proofs.«01_k».proof.Proof.Gen.ExchangeIdeal.Points
public import proofs.«01_k».proof.Proof.Gen.ExchangeIdeal.Frame
public import proofs.«01_k».proof.Proof.Gen.ExchangeRefIdeal
public import proofs.«01_k».proof.Proof.Gen.ExchangeRefIdeal.Run
public import proofs.«01_k».proof.Proof.Gen.Pre_finite_ExchangeIdeal
public import proofs.«01_k».proof.Proof.Gen.Pre_finite_ExchangeRefIdeal
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnIdeal.Value
public import proofs.«01_k».proof.Proof.Gen.FfnRefIdeal
public import proofs.«01_k».proof.Proof.Gen.FfnRefIdeal.Run
public import proofs.«01_k».proof.Proof.Gen.Pre_gates
public import proofs.«01_k».proof.Proof.CombineClaims
public import proofs.«01_k».proof.Proof.ExchangeClaims
public import proofs.«01_k».proof.Proof.FfnClaims
public import Idealize.ShloMosaic.Adequacy
public import Idealize.ShloMosaic.Init

@[expose] public section

noncomputable section

namespace Cert.Proof

open Idealize.ShloMosaic Idealize.SL.Sem Cert.Combine

/-- Everything the certificate claims. -/
theorem claim : Cert.Claim := ⟨Cert.Combine.Gen.facts, Cert.CombineIdeal.Gen.facts, Cert.CombineRefIdeal.Gen.facts,
  Cert.Exchange.Gen.facts, Cert.ExchangeIdeal.Gen.facts, Cert.ExchangeRefIdeal.Gen.facts,
  Cert.Ffn.Gen.facts, Cert.FfnIdeal.Gen.facts, Cert.FfnRefIdeal.Gen.facts,
  Cert.Pre_finite_ExchangeIdeal.Gen.facts, Cert.Pre_finite_ExchangeRefIdeal.Gen.facts, Cert.Pre_gates.Gen.facts,
  Cert.CombineClaims.frame_combine, Cert.CombineClaims.frame_combineIdeal, Cert.CombineClaims.frame_combineRefIdeal,
  Cert.ExchangeClaims.frame_exchange, Cert.ExchangeClaims.frame_exchangeIdeal, Cert.ExchangeClaims.frame_exchangeIdeal_finite,
  Cert.ExchangeClaims.frame_exchangeRefIdeal, Cert.ExchangeClaims.frame_exchangeRefIdeal_finite,
  Cert.FfnClaims.frame_ffn, Cert.FfnClaims.frame_ffnIdeal, Cert.FfnClaims.frame_ffnIdeal_gates,
  Cert.FfnClaims.frame_ffnRefIdeal, Cert.FfnClaims.frame_ffnRefIdeal_gates,
  trivial, Cert.CombineClaims.algebraic_combine, Cert.ExchangeClaims.preserves_exchange, Cert.ExchangeClaims.algebraic_exchange,
  trivial, Cert.FfnClaims.algebraic_ffn⟩

end Cert.Proof

end
